-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RkvRefIdeal (m : (ℓ : Loc Cert.RkvRefIdeal.nD Cert.RkvRefIdeal.τ Cert.RkvRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Turned (m : (ℓ : Loc Cert.Turned.nD Cert.Turned.τ Cert.Turned.sig) → Buf (Elt Bits) ℓ) : Prop :=
  True

def Pre_TurnedIdeal (m : (ℓ : Loc Cert.TurnedIdeal.nD Cert.TurnedIdeal.τ Cert.TurnedIdeal.sig) → Buf (Elt Ideal) ℓ) : Prop :=
  True

def Pre_TurnedRefIdeal (m : (ℓ : Loc Cert.TurnedRefIdeal.nD Cert.TurnedRefIdeal.τ Cert.TurnedRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupRefIdeal (m : (ℓ : Loc Cert.GateupRefIdeal.nD Cert.GateupRefIdeal.τ Cert.GateupRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayRefIdeal (m : (ℓ : Loc Cert.DecayRefIdeal.nD Cert.DecayRefIdeal.τ Cert.DecayRefIdeal.sig) → Buf (Elt Ideal) ℓ) : Prop :=
  True

def Pre_Rate (m : (ℓ : Loc Cert.Rate.nD Cert.Rate.τ Cert.Rate.sig) → Buf (Elt Bits) ℓ) : Prop :=
  True

def Pre_RateIdeal (m : (ℓ : Loc Cert.RateIdeal.nD Cert.RateIdeal.τ Cert.RateIdeal.sig) → Buf (Elt Ideal) ℓ) : Prop :=
  True

def Pre_RateRefIdeal (m : (ℓ : Loc Cert.RateRefIdeal.nD Cert.RateRefIdeal.τ Cert.RateRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ r.2.sem = fun _ => 0)

def quiescent_RkvRefIdeal [hRkvRefIdeal : Cert.RkvRefIdeal.Facts] : Prop :=
  ∀ (m : (ℓ : Loc Cert.RkvRefIdeal.nD Cert.RkvRefIdeal.τ Cert.RkvRefIdeal.sig) → Buf (Elt Ideal) ℓ) (g : Dev Cert.RkvRefIdeal.nD → PrngReg), Pre_RkvRefIdeal m →
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m ((c.tc : Thread Cert.ModRefIdeal.nD Cert.ModRefIdeal.τ).loc Cert.ModRefIdeal.main_arg5))
      ∧ r.2.sem = fun _ => 0)

def quiescent_Turned [hTurned : Cert.Turned.Facts] : Prop :=
  ∀ (m : (ℓ : Loc Cert.Turned.nD Cert.Turned.τ Cert.Turned.sig) → Buf (Elt Bits) ℓ) (g : Dev Cert.Turned.nD → PrngReg), Pre_Turned m →
    θ_run (Cert.Turned.defs (F := Bits)) (onTc (τ := Cert.Turned.τ) (Cert.Turned.main (F := Bits))) ⟨m, fun _ => 0, g⟩ (fun r => (∀ c : Dev Cert.Turned.nD,
      r.2.mem ((c.tc : Thread Cert.Turned.nD Cert.Turned.τ).loc Cert.Turned.main_arg0) = m ((c.tc : Thread Cert.Turned.nD Cert.Turned.τ).loc Cert.Turned.main_arg0)
      ∧ r.2.mem ((c.tc : Thread Cert.Turned.nD Cert.Turned.τ).loc Cert.Turned.main_arg1) = m ((c.tc : Thread Cert.Turned.nD Cert.Turned.τ).loc Cert.Turned.main_arg1)
      ∧ r.2.mem ((c.tc : Thread Cert.Turned.nD Cert.Turned.τ).loc Cert.Turned.main_arg2) = m ((c.tc : Thread Cert.Turned.nD Cert.Turned.τ).loc Cert.Turned.main_arg2)
      ∧ r.2.mem ((c.tc : Thread Cert.Turned.nD Cert.Turned.τ).loc Cert.Turned.main_arg3) = m ((c.tc : Thread Cert.Turned.nD Cert.Turned.τ).loc Cert.Turned.main_arg3))
      ∧ r.2.sem = fun _ => 0)

def quiescent_TurnedIdeal [hTurnedIdeal : Cert.TurnedIdeal.Facts] : Prop :=
  ∀ (m : (ℓ : Loc Cert.TurnedIdeal.nD Cert.TurnedIdeal.τ Cert.TurnedIdeal.sig) → Buf (Elt Ideal) ℓ) (g : Dev Cert.TurnedIdeal.nD → PrngReg), Pre_TurnedIdeal m →
    θ_run (Cert.TurnedIdeal.defs (F := Ideal)) (onTc (τ := Cert.TurnedIdeal.τ) (Cert.TurnedIdeal.main (F := Ideal))) ⟨m, fun _ => 0, g⟩ (fun r => (∀ c : Dev Cert.TurnedIdeal.nD,
      r.2.mem ((c.tc : Thread Cert.TurnedIdeal.nD Cert.TurnedIdeal.τ).loc Cert.TurnedIdeal.main_arg0) = m ((c.tc : Thread Cert.TurnedIdeal.nD Cert.TurnedIdeal.τ).loc Cert.TurnedIdeal.main_arg0)
      ∧ r.2.mem ((c.tc : Thread Cert.TurnedIdeal.nD Cert.TurnedIdeal.τ).loc Cert.TurnedIdeal.main_arg1) = m ((c.tc : Thread Cert.TurnedIdeal.nD Cert.TurnedIdeal.τ).loc Cert.TurnedIdeal.main_arg1)
      ∧ r.2.mem ((c.tc : Thread Cert.TurnedIdeal.nD Cert.TurnedIdeal.τ).loc Cert.TurnedIdeal.main_arg2) = m ((c.tc : Thread Cert.TurnedIdeal.nD Cert.TurnedIdeal.τ).loc Cert.TurnedIdeal.main_arg2)
      ∧ r.2.mem ((c.tc : Thread Cert.TurnedIdeal.nD Cert.TurnedIdeal.τ).loc Cert.TurnedIdeal.main_arg3) = m ((c.tc : Thread Cert.TurnedIdeal.nD Cert.TurnedIdeal.τ).loc Cert.TurnedIdeal.main_arg3))
      ∧ r.2.sem = fun _ => 0)

def quiescent_TurnedRefIdeal [hTurnedRefIdeal : Cert.TurnedRefIdeal.Facts] : Prop :=
  ∀ (m : (ℓ : Loc Cert.TurnedRefIdeal.nD Cert.TurnedRefIdeal.τ Cert.TurnedRefIdeal.sig) → Buf (Elt Ideal) ℓ) (g : Dev Cert.TurnedRefIdeal.nD → PrngReg), Pre_TurnedRefIdeal m →
    θ_run (Cert.TurnedRefIdeal.defs (F := Ideal)) (onTc (τ := Cert.TurnedRefIdeal.τ) (Cert.TurnedRefIdeal.main (F := Ideal))) ⟨m, fun _ => 0, g⟩ (fun r => (∀ c : Dev Cert.TurnedRefIdeal.nD,
      r.2.mem ((c.tc : Thread Cert.TurnedRefIdeal.nD Cert.TurnedRefIdeal.τ).loc Cert.TurnedRefIdeal.main_arg0) = m ((c.tc : Thread Cert.TurnedRefIdeal.nD Cert.TurnedRefIdeal.τ).loc Cert.TurnedRefIdeal.main_arg0)
      ∧ r.2.mem ((c.tc : Thread Cert.TurnedRefIdeal.nD Cert.TurnedRefIdeal.τ).loc Cert.TurnedRefIdeal.main_arg1) = m ((c.tc : Thread Cert.TurnedRefIdeal.nD Cert.TurnedRefIdeal.τ).loc Cert.TurnedRefIdeal.main_arg1)
      ∧ r.2.mem ((c.tc : Thread Cert.TurnedRefIdeal.nD Cert.TurnedRefIdeal.τ).loc Cert.TurnedRefIdeal.main_arg2) = m ((c.tc : Thread Cert.TurnedRefIdeal.nD Cert.TurnedRefIdeal.τ).loc Cert.TurnedRefIdeal.main_arg2)
      ∧ r.2.mem ((c.tc : Thread Cert.TurnedRefIdeal.nD Cert.TurnedRefIdeal.τ).loc Cert.TurnedRefIdeal.main_arg3) = m ((c.tc : Thread Cert.TurnedRefIdeal.nD Cert.TurnedRefIdeal.τ).loc Cert.TurnedRefIdeal.main_arg3))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1))
      ∧ r.2.sem = fun _ => 0)

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1)
      ∧ r.2.mem ((c.tc : Thread Cert.Decay.nD Cert.Decay.τ).loc Cert.Decay.main_arg2) = m ((c.tc : Thread Cert.Decay.nD Cert.Decay.τ).loc Cert.Decay.main_arg2))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
      ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1)
      ∧ r.2.mem ((c.tc : Thread Cert.DecayRefIdeal.nD Cert.DecayRefIdeal.τ).loc Cert.DecayRefIdeal.main_arg2) = m ((c.tc : Thread Cert.DecayRefIdeal.nD Cert.DecayRefIdeal.τ).loc Cert.DecayRefIdeal.main_arg2))
      ∧ r.2.sem = fun _ => 0)

def quiescent_Rate [hRate : Cert.Rate.Facts] : Prop :=
  ∀ (m : (ℓ : Loc Cert.Rate.nD Cert.Rate.τ Cert.Rate.sig) → Buf (Elt Bits) ℓ) (g : Dev Cert.Rate.nD → PrngReg), Pre_Rate m →
    θ_run (Cert.Rate.defs (F := Bits)) (onTc (τ := Cert.Rate.τ) (Cert.Rate.main (F := Bits))) ⟨m, fun _ => 0, g⟩ (fun r => (∀ c : Dev Cert.Rate.nD,
      r.2.mem ((c.tc : Thread Cert.Rate.nD Cert.Rate.τ).loc Cert.Rate.main_arg0) = m ((c.tc : Thread Cert.Rate.nD Cert.Rate.τ).loc Cert.Rate.main_arg0)
      ∧ r.2.mem ((c.tc : Thread Cert.Rate.nD Cert.Rate.τ).loc Cert.Rate.main_arg1) = m ((c.tc : Thread Cert.Rate.nD Cert.Rate.τ).loc Cert.Rate.main_arg1)
      ∧ r.2.mem ((c.tc : Thread Cert.Rate.nD Cert.Rate.τ).loc Cert.Rate.main_arg2) = m ((c.tc : Thread Cert.Rate.nD Cert.Rate.τ).loc Cert.Rate.main_arg2))
      ∧ r.2.sem = fun _ => 0)

def quiescent_RateIdeal [hRateIdeal : Cert.RateIdeal.Facts] : Prop :=
  ∀ (m : (ℓ : Loc Cert.RateIdeal.nD Cert.RateIdeal.τ Cert.RateIdeal.sig) → Buf (Elt Ideal) ℓ) (g : Dev Cert.RateIdeal.nD → PrngReg), Pre_RateIdeal m →
    θ_run (Cert.RateIdeal.defs (F := Ideal)) (onTc (τ := Cert.RateIdeal.τ) (Cert.RateIdeal.main (F := Ideal))) ⟨m, fun _ => 0, g⟩ (fun r => (∀ c : Dev Cert.RateIdeal.nD,
      r.2.mem ((c.tc : Thread Cert.RateIdeal.nD Cert.RateIdeal.τ).loc Cert.RateIdeal.main_arg0) = m ((c.tc : Thread Cert.RateIdeal.nD Cert.RateIdeal.τ).loc Cert.RateIdeal.main_arg0)
      ∧ r.2.mem ((c.tc : Thread Cert.RateIdeal.nD Cert.RateIdeal.τ).loc Cert.RateIdeal.main_arg1) = m ((c.tc : Thread Cert.RateIdeal.nD Cert.RateIdeal.τ).loc Cert.RateIdeal.main_arg1)
      ∧ r.2.mem ((c.tc : Thread Cert.RateIdeal.nD Cert.RateIdeal.τ).loc Cert.RateIdeal.main_arg2) = m ((c.tc : Thread Cert.RateIdeal.nD Cert.RateIdeal.τ).loc Cert.RateIdeal.main_arg2))
      ∧ r.2.sem = fun _ => 0)

def quiescent_RateRefIdeal [hRateRefIdeal : Cert.RateRefIdeal.Facts] : Prop :=
  ∀ (m : (ℓ : Loc Cert.RateRefIdeal.nD Cert.RateRefIdeal.τ Cert.RateRefIdeal.sig) → Buf (Elt Ideal) ℓ) (g : Dev Cert.RateRefIdeal.nD → PrngReg), Pre_RateRefIdeal m →
    θ_run (Cert.RateRefIdeal.defs (F := Ideal)) (onTc (τ := Cert.RateRefIdeal.τ) (Cert.RateRefIdeal.main (F := Ideal))) ⟨m, fun _ => 0, g⟩ (fun r => (∀ c : Dev Cert.RateRefIdeal.nD,
      r.2.mem ((c.tc : Thread Cert.RateRefIdeal.nD Cert.RateRefIdeal.τ).loc Cert.RateRefIdeal.main_arg0) = m ((c.tc : Thread Cert.RateRefIdeal.nD Cert.RateRefIdeal.τ).loc Cert.RateRefIdeal.main_arg0)
      ∧ r.2.mem ((c.tc : Thread Cert.RateRefIdeal.nD Cert.RateRefIdeal.τ).loc Cert.RateRefIdeal.main_arg1) = m ((c.tc : Thread Cert.RateRefIdeal.nD Cert.RateRefIdeal.τ).loc Cert.RateRefIdeal.main_arg1)
      ∧ r.2.mem ((c.tc : Thread Cert.RateRefIdeal.nD Cert.RateRefIdeal.τ).loc Cert.RateRefIdeal.main_arg2) = m ((c.tc : Thread Cert.RateRefIdeal.nD Cert.RateRefIdeal.τ).loc Cert.RateRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v16) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Rkv_RkvIdeal : Prop :=
  True

def algebraic_RkvIdeal_RkvRefIdeal [hRkvIdeal : Cert.RkvIdeal.Facts] [hRkvRefIdeal : Cert.RkvRefIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RkvRefIdeal.nD Cert.RkvRefIdeal.τ Cert.RkvRefIdeal.sig) → Buf (Elt Ideal) ℓ) (g' : Dev Cert.RkvRefIdeal.nD → PrngReg), Pre_RkvIdeal m →
    (∀ c : Dev Cert.RkvIdeal.nD,
      m' ((c.tc : Thread Cert.RkvRefIdeal.nD Cert.RkvRefIdeal.τ).loc Cert.RkvRefIdeal.main_arg0) = m ((c.tc : Thread Cert.RkvIdeal.nD Cert.RkvIdeal.τ).loc Cert.RkvIdeal.main_arg0)
      ∧ m' ((c.tc : Thread Cert.RkvRefIdeal.nD Cert.RkvRefIdeal.τ).loc Cert.RkvRefIdeal.main_arg1) = m ((c.tc : Thread Cert.RkvIdeal.nD Cert.RkvIdeal.τ).loc Cert.RkvIdeal.main_arg1)) →
    ∃ (v0 : (c : Dev Cert.RkvIdeal.nD) → Buf (Elt Ideal) ((c.tc : Thread Cert.RkvIdeal.nD Cert.RkvIdeal.τ).loc Cert.RkvIdeal.main_v4)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v4) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ θ_run (Cert.RkvRefIdeal.defs (F := Ideal)) (onTc (τ := Cert.RkvRefIdeal.τ) (Cert.RkvRefIdeal.main (F := Ideal))) ⟨m', fun _ => 0, g'⟩ (fun r => ∀ c : Dev Cert.RkvRefIdeal.nD,
          r.2.mem ((c.tc : Thread Cert.RkvRefIdeal.nD Cert.RkvRefIdeal.τ).loc Cert.RkvRefIdeal.main_v2) = v0 c
          ∧ r.2.mem ((c.tc : Thread Cert.RkvRefIdeal.nD Cert.RkvRefIdeal.τ).loc Cert.RkvRefIdeal.main_arg0) = m' ((c.tc : Thread Cert.RkvRefIdeal.nD Cert.RkvRefIdeal.τ).loc Cert.RkvRefIdeal.main_arg0)
          ∧ r.2.mem ((c.tc : Thread Cert.RkvRefIdeal.nD Cert.RkvRefIdeal.τ).loc Cert.RkvRefIdeal.main_arg1) = m' ((c.tc : Thread Cert.RkvRefIdeal.nD Cert.RkvRefIdeal.τ).loc Cert.RkvRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v5)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v5) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v4) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v6)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v6) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v6) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)) →
    ∃ (v0 : (c : Dev Cert.EvenIdeal.nD) → Buf (Elt Ideal) ((c.tc : Thread Cert.EvenIdeal.nD Cert.EvenIdeal.τ).loc Cert.EvenIdeal.main_v10)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v10) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v7) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v22)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v22) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v104) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)
      ∧ m' ((c.tc : Thread Cert.ModRefIdeal.nD Cert.ModRefIdeal.τ).loc Cert.ModRefIdeal.main_arg5) = m ((c.tc : Thread Cert.ModIdeal.nD Cert.ModIdeal.τ).loc Cert.ModIdeal.main_arg5)) →
    ∃ (v0 : (c : Dev Cert.ModIdeal.nD) → Buf (Elt Ideal) ((c.tc : Thread Cert.ModIdeal.nD Cert.ModIdeal.τ).loc Cert.ModIdeal.main_v6_0)) (v1 : (c : Dev Cert.ModIdeal.nD) → Buf (Elt Ideal) ((c.tc : Thread Cert.ModIdeal.nD Cert.ModIdeal.τ).loc Cert.ModIdeal.main_v6_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6_0) = v0 c
          ∧ r.2.mem ((c.tc : Thread Cert.ModIdeal.nD Cert.ModIdeal.τ).loc Cert.ModIdeal.main_v6_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v3) = v0 c
          ∧ r.2.mem ((c.tc : Thread Cert.ModRefIdeal.nD Cert.ModRefIdeal.τ).loc Cert.ModRefIdeal.main_v26) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4)
          ∧ r.2.mem ((c.tc : Thread Cert.ModRefIdeal.nD Cert.ModRefIdeal.τ).loc Cert.ModRefIdeal.main_arg5) = m' ((c.tc : Thread Cert.ModRefIdeal.nD Cert.ModRefIdeal.τ).loc Cert.ModRefIdeal.main_arg5))

def preserves_Turned_TurnedIdeal : Prop :=
  True

def algebraic_TurnedIdeal_TurnedRefIdeal [hTurnedIdeal : Cert.TurnedIdeal.Facts] [hTurnedRefIdeal : Cert.TurnedRefIdeal.Facts] : Prop :=
  ∀ (m : (ℓ : Loc Cert.TurnedIdeal.nD Cert.TurnedIdeal.τ Cert.TurnedIdeal.sig) → Buf (Elt Ideal) ℓ) (g : Dev Cert.TurnedIdeal.nD → PrngReg)
    (m' : (ℓ : Loc Cert.TurnedRefIdeal.nD Cert.TurnedRefIdeal.τ Cert.TurnedRefIdeal.sig) → Buf (Elt Ideal) ℓ) (g' : Dev Cert.TurnedRefIdeal.nD → PrngReg), Pre_TurnedIdeal m →
    (∀ c : Dev Cert.TurnedIdeal.nD,
      m' ((c.tc : Thread Cert.TurnedRefIdeal.nD Cert.TurnedRefIdeal.τ).loc Cert.TurnedRefIdeal.main_arg0) = m ((c.tc : Thread Cert.TurnedIdeal.nD Cert.TurnedIdeal.τ).loc Cert.TurnedIdeal.main_arg0)
      ∧ m' ((c.tc : Thread Cert.TurnedRefIdeal.nD Cert.TurnedRefIdeal.τ).loc Cert.TurnedRefIdeal.main_arg1) = m ((c.tc : Thread Cert.TurnedIdeal.nD Cert.TurnedIdeal.τ).loc Cert.TurnedIdeal.main_arg1)
      ∧ m' ((c.tc : Thread Cert.TurnedRefIdeal.nD Cert.TurnedRefIdeal.τ).loc Cert.TurnedRefIdeal.main_arg2) = m ((c.tc : Thread Cert.TurnedIdeal.nD Cert.TurnedIdeal.τ).loc Cert.TurnedIdeal.main_arg2)
      ∧ m' ((c.tc : Thread Cert.TurnedRefIdeal.nD Cert.TurnedRefIdeal.τ).loc Cert.TurnedRefIdeal.main_arg3) = m ((c.tc : Thread Cert.TurnedIdeal.nD Cert.TurnedIdeal.τ).loc Cert.TurnedIdeal.main_arg3)) →
    ∃ (v0 : (c : Dev Cert.TurnedIdeal.nD) → Buf (Elt Ideal) ((c.tc : Thread Cert.TurnedIdeal.nD Cert.TurnedIdeal.τ).loc Cert.TurnedIdeal.main_v5)),
      θ_run (Cert.TurnedIdeal.defs (F := Ideal)) (onTc (τ := Cert.TurnedIdeal.τ) (Cert.TurnedIdeal.main (F := Ideal))) ⟨m, fun _ => 0, g⟩ (fun r => ∀ c : Dev Cert.TurnedIdeal.nD,
          r.2.mem ((c.tc : Thread Cert.TurnedIdeal.nD Cert.TurnedIdeal.τ).loc Cert.TurnedIdeal.main_v5) = v0 c
          ∧ r.2.mem ((c.tc : Thread Cert.TurnedIdeal.nD Cert.TurnedIdeal.τ).loc Cert.TurnedIdeal.main_arg0) = m ((c.tc : Thread Cert.TurnedIdeal.nD Cert.TurnedIdeal.τ).loc Cert.TurnedIdeal.main_arg0)
          ∧ r.2.mem ((c.tc : Thread Cert.TurnedIdeal.nD Cert.TurnedIdeal.τ).loc Cert.TurnedIdeal.main_arg1) = m ((c.tc : Thread Cert.TurnedIdeal.nD Cert.TurnedIdeal.τ).loc Cert.TurnedIdeal.main_arg1)
          ∧ r.2.mem ((c.tc : Thread Cert.TurnedIdeal.nD Cert.TurnedIdeal.τ).loc Cert.TurnedIdeal.main_arg2) = m ((c.tc : Thread Cert.TurnedIdeal.nD Cert.TurnedIdeal.τ).loc Cert.TurnedIdeal.main_arg2)
          ∧ r.2.mem ((c.tc : Thread Cert.TurnedIdeal.nD Cert.TurnedIdeal.τ).loc Cert.TurnedIdeal.main_arg3) = m ((c.tc : Thread Cert.TurnedIdeal.nD Cert.TurnedIdeal.τ).loc Cert.TurnedIdeal.main_arg3))
      ∧ θ_run (Cert.TurnedRefIdeal.defs (F := Ideal)) (onTc (τ := Cert.TurnedRefIdeal.τ) (Cert.TurnedRefIdeal.main (F := Ideal))) ⟨m', fun _ => 0, g'⟩ (fun r => ∀ c : Dev Cert.TurnedRefIdeal.nD,
          r.2.mem ((c.tc : Thread Cert.TurnedRefIdeal.nD Cert.TurnedRefIdeal.τ).loc Cert.TurnedRefIdeal.main_v25) = v0 c
          ∧ r.2.mem ((c.tc : Thread Cert.TurnedRefIdeal.nD Cert.TurnedRefIdeal.τ).loc Cert.TurnedRefIdeal.main_arg0) = m' ((c.tc : Thread Cert.TurnedRefIdeal.nD Cert.TurnedRefIdeal.τ).loc Cert.TurnedRefIdeal.main_arg0)
          ∧ r.2.mem ((c.tc : Thread Cert.TurnedRefIdeal.nD Cert.TurnedRefIdeal.τ).loc Cert.TurnedRefIdeal.main_arg1) = m' ((c.tc : Thread Cert.TurnedRefIdeal.nD Cert.TurnedRefIdeal.τ).loc Cert.TurnedRefIdeal.main_arg1)
          ∧ r.2.mem ((c.tc : Thread Cert.TurnedRefIdeal.nD Cert.TurnedRefIdeal.τ).loc Cert.TurnedRefIdeal.main_arg2) = m' ((c.tc : Thread Cert.TurnedRefIdeal.nD Cert.TurnedRefIdeal.τ).loc Cert.TurnedRefIdeal.main_arg2)
          ∧ r.2.mem ((c.tc : Thread Cert.TurnedRefIdeal.nD Cert.TurnedRefIdeal.τ).loc Cert.TurnedRefIdeal.main_arg3) = m' ((c.tc : Thread Cert.TurnedRefIdeal.nD Cert.TurnedRefIdeal.τ).loc Cert.TurnedRefIdeal.main_arg3))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)) →
    ∃ (v0 : (c : Dev Cert.ShiftIdeal.nD) → Buf (Elt Ideal) ((c.tc : Thread Cert.ShiftIdeal.nD Cert.ShiftIdeal.τ).loc Cert.ShiftIdeal.main_v1_0)) (v1 : (c : Dev Cert.ShiftIdeal.nD) → Buf (Elt Ideal) ((c.tc : Thread Cert.ShiftIdeal.nD Cert.ShiftIdeal.τ).loc Cert.ShiftIdeal.main_v1_1)) (v2 : (c : Dev Cert.ShiftIdeal.nD) → Buf (Elt Ideal) ((c.tc : Thread Cert.ShiftIdeal.nD Cert.ShiftIdeal.τ).loc Cert.ShiftIdeal.main_v1_2)) (v3 : (c : Dev Cert.ShiftIdeal.nD) → Buf (Elt Ideal) ((c.tc : Thread Cert.ShiftIdeal.nD Cert.ShiftIdeal.τ).loc Cert.ShiftIdeal.main_v1_3)) (v4 : (c : Dev Cert.ShiftIdeal.nD) → Buf (Elt Ideal) ((c.tc : Thread Cert.ShiftIdeal.nD Cert.ShiftIdeal.τ).loc Cert.ShiftIdeal.main_v1_4)) (v5 : (c : Dev Cert.ShiftIdeal.nD) → Buf (Elt Ideal) ((c.tc : Thread Cert.ShiftIdeal.nD Cert.ShiftIdeal.τ).loc Cert.ShiftIdeal.main_v1_5)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v1_0) = v0 c
          ∧ r.2.mem ((c.tc : Thread Cert.ShiftIdeal.nD Cert.ShiftIdeal.τ).loc Cert.ShiftIdeal.main_v1_1) = v1 c
          ∧ r.2.mem ((c.tc : Thread Cert.ShiftIdeal.nD Cert.ShiftIdeal.τ).loc Cert.ShiftIdeal.main_v1_2) = v2 c
          ∧ r.2.mem ((c.tc : Thread Cert.ShiftIdeal.nD Cert.ShiftIdeal.τ).loc Cert.ShiftIdeal.main_v1_3) = v3 c
          ∧ r.2.mem ((c.tc : Thread Cert.ShiftIdeal.nD Cert.ShiftIdeal.τ).loc Cert.ShiftIdeal.main_v1_4) = v4 c
          ∧ r.2.mem ((c.tc : Thread Cert.ShiftIdeal.nD Cert.ShiftIdeal.τ).loc Cert.ShiftIdeal.main_v1_5) = v5 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v14) = v0 c
          ∧ r.2.mem ((c.tc : Thread Cert.ShiftRefIdeal.nD Cert.ShiftRefIdeal.τ).loc Cert.ShiftRefIdeal.main_v22) = v1 c
          ∧ r.2.mem ((c.tc : Thread Cert.ShiftRefIdeal.nD Cert.ShiftRefIdeal.τ).loc Cert.ShiftRefIdeal.main_v30) = v2 c
          ∧ r.2.mem ((c.tc : Thread Cert.ShiftRefIdeal.nD Cert.ShiftRefIdeal.τ).loc Cert.ShiftRefIdeal.main_v38) = v3 c
          ∧ r.2.mem ((c.tc : Thread Cert.ShiftRefIdeal.nD Cert.ShiftRefIdeal.τ).loc Cert.ShiftRefIdeal.main_v46) = v4 c
          ∧ r.2.mem ((c.tc : Thread Cert.ShiftRefIdeal.nD Cert.ShiftRefIdeal.τ).loc Cert.ShiftRefIdeal.main_v54) = v5 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1))

def preserves_Gateup_GateupIdeal : Prop :=
  True

def algebraic_GateupIdeal_GateupRefIdeal [hGateupIdeal : Cert.GateupIdeal.Facts] [hGateupRefIdeal : Cert.GateupRefIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)) →
    ∃ (v0 : (c : Dev Cert.GateupIdeal.nD) → Buf (Elt Ideal) ((c.tc : Thread Cert.GateupIdeal.nD Cert.GateupIdeal.τ).loc Cert.GateupIdeal.main_v4)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v4) = v0 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v2) = v0 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)) →
    ∃ (v0 : (c : Dev Cert.LoraIdeal.nD) → Buf (Elt Ideal) ((c.tc : Thread Cert.LoraIdeal.nD Cert.LoraIdeal.τ).loc Cert.LoraIdeal.main_v9)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v9) = v0 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v9) = v0 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1))

def preserves_Decay_DecayIdeal : Prop :=
  True

def algebraic_DecayIdeal_DecayRefIdeal [hDecayIdeal : Cert.DecayIdeal.Facts] [hDecayRefIdeal : Cert.DecayRefIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)
      ∧ m' ((c.tc : Thread Cert.DecayRefIdeal.nD Cert.DecayRefIdeal.τ).loc Cert.DecayRefIdeal.main_arg1) = m ((c.tc : Thread Cert.DecayIdeal.nD Cert.DecayIdeal.τ).loc Cert.DecayIdeal.main_arg1)
      ∧ m' ((c.tc : Thread Cert.DecayRefIdeal.nD Cert.DecayRefIdeal.τ).loc Cert.DecayRefIdeal.main_arg2) = m ((c.tc : Thread Cert.DecayIdeal.nD Cert.DecayIdeal.τ).loc Cert.DecayIdeal.main_arg2)) →
    ∃ (v0 : (c : Dev Cert.DecayIdeal.nD) → Buf (Elt Ideal) ((c.tc : Thread Cert.DecayIdeal.nD Cert.DecayIdeal.τ).loc Cert.DecayIdeal.main_v4)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v4) = v0 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
          ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v13) = v0 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0)
          ∧ r.2.mem ((c.tc : Thread Cert.DecayRefIdeal.nD Cert.DecayRefIdeal.τ).loc Cert.DecayRefIdeal.main_arg1) = m' ((c.tc : Thread Cert.DecayRefIdeal.nD Cert.DecayRefIdeal.τ).loc Cert.DecayRefIdeal.main_arg1)
          ∧ r.2.mem ((c.tc : Thread Cert.DecayRefIdeal.nD Cert.DecayRefIdeal.τ).loc Cert.DecayRefIdeal.main_arg2) = m' ((c.tc : Thread Cert.DecayRefIdeal.nD Cert.DecayRefIdeal.τ).loc Cert.DecayRefIdeal.main_arg2))

def preserves_Rate_RateIdeal : Prop :=
  True

def algebraic_RateIdeal_RateRefIdeal [hRateIdeal : Cert.RateIdeal.Facts] [hRateRefIdeal : Cert.RateRefIdeal.Facts] : Prop :=
  ∀ (m : (ℓ : Loc Cert.RateIdeal.nD Cert.RateIdeal.τ Cert.RateIdeal.sig) → Buf (Elt Ideal) ℓ) (g : Dev Cert.RateIdeal.nD → PrngReg)
    (m' : (ℓ : Loc Cert.RateRefIdeal.nD Cert.RateRefIdeal.τ Cert.RateRefIdeal.sig) → Buf (Elt Ideal) ℓ) (g' : Dev Cert.RateRefIdeal.nD → PrngReg), Pre_RateIdeal m →
    (∀ c : Dev Cert.RateIdeal.nD,
      m' ((c.tc : Thread Cert.RateRefIdeal.nD Cert.RateRefIdeal.τ).loc Cert.RateRefIdeal.main_arg0) = m ((c.tc : Thread Cert.RateIdeal.nD Cert.RateIdeal.τ).loc Cert.RateIdeal.main_arg0)
      ∧ m' ((c.tc : Thread Cert.RateRefIdeal.nD Cert.RateRefIdeal.τ).loc Cert.RateRefIdeal.main_arg1) = m ((c.tc : Thread Cert.RateIdeal.nD Cert.RateIdeal.τ).loc Cert.RateIdeal.main_arg1)
      ∧ m' ((c.tc : Thread Cert.RateRefIdeal.nD Cert.RateRefIdeal.τ).loc Cert.RateRefIdeal.main_arg2) = m ((c.tc : Thread Cert.RateIdeal.nD Cert.RateIdeal.τ).loc Cert.RateIdeal.main_arg2)) →
    ∃ (v0 : (c : Dev Cert.RateIdeal.nD) → Buf (Elt Ideal) ((c.tc : Thread Cert.RateIdeal.nD Cert.RateIdeal.τ).loc Cert.RateIdeal.main_v4)),
      θ_run (Cert.RateIdeal.defs (F := Ideal)) (onTc (τ := Cert.RateIdeal.τ) (Cert.RateIdeal.main (F := Ideal))) ⟨m, fun _ => 0, g⟩ (fun r => ∀ c : Dev Cert.RateIdeal.nD,
          r.2.mem ((c.tc : Thread Cert.RateIdeal.nD Cert.RateIdeal.τ).loc Cert.RateIdeal.main_v4) = v0 c
          ∧ r.2.mem ((c.tc : Thread Cert.RateIdeal.nD Cert.RateIdeal.τ).loc Cert.RateIdeal.main_arg0) = m ((c.tc : Thread Cert.RateIdeal.nD Cert.RateIdeal.τ).loc Cert.RateIdeal.main_arg0)
          ∧ r.2.mem ((c.tc : Thread Cert.RateIdeal.nD Cert.RateIdeal.τ).loc Cert.RateIdeal.main_arg1) = m ((c.tc : Thread Cert.RateIdeal.nD Cert.RateIdeal.τ).loc Cert.RateIdeal.main_arg1)
          ∧ r.2.mem ((c.tc : Thread Cert.RateIdeal.nD Cert.RateIdeal.τ).loc Cert.RateIdeal.main_arg2) = m ((c.tc : Thread Cert.RateIdeal.nD Cert.RateIdeal.τ).loc Cert.RateIdeal.main_arg2))
      ∧ θ_run (Cert.RateRefIdeal.defs (F := Ideal)) (onTc (τ := Cert.RateRefIdeal.τ) (Cert.RateRefIdeal.main (F := Ideal))) ⟨m', fun _ => 0, g'⟩ (fun r => ∀ c : Dev Cert.RateRefIdeal.nD,
          r.2.mem ((c.tc : Thread Cert.RateRefIdeal.nD Cert.RateRefIdeal.τ).loc Cert.RateRefIdeal.main_v11) = v0 c
          ∧ r.2.mem ((c.tc : Thread Cert.RateRefIdeal.nD Cert.RateRefIdeal.τ).loc Cert.RateRefIdeal.main_arg0) = m' ((c.tc : Thread Cert.RateRefIdeal.nD Cert.RateRefIdeal.τ).loc Cert.RateRefIdeal.main_arg0)
          ∧ r.2.mem ((c.tc : Thread Cert.RateRefIdeal.nD Cert.RateRefIdeal.τ).loc Cert.RateRefIdeal.main_arg1) = m' ((c.tc : Thread Cert.RateRefIdeal.nD Cert.RateRefIdeal.τ).loc Cert.RateRefIdeal.main_arg1)
          ∧ r.2.mem ((c.tc : Thread Cert.RateRefIdeal.nD Cert.RateRefIdeal.τ).loc Cert.RateRefIdeal.main_arg2) = m' ((c.tc : Thread Cert.RateRefIdeal.nD Cert.RateRefIdeal.τ).loc Cert.RateRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)) (v2 : (c : Dev Cert.ConvIdeal.nD) → Buf (Elt Ideal) ((c.tc : Thread Cert.ConvIdeal.nD Cert.ConvIdeal.τ).loc Cert.ConvIdeal.main_v5_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_v5_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_v27) = v1 c
          ∧ r.2.mem ((c.tc : Thread Cert.ConvRefIdeal.nD Cert.ConvRefIdeal.τ).loc Cert.ConvRefIdeal.main_v36) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hIn : Cert.In.Facts) (hInIdeal : Cert.InIdeal.Facts) (hInRefIdeal : Cert.InRefIdeal.Facts) (hRkv : Cert.Rkv.Facts) (hRkvIdeal : Cert.RkvIdeal.Facts) (hRkvRefIdeal : Cert.RkvRefIdeal.Facts) (hQuery : Cert.Query.Facts) (hQueryIdeal : Cert.QueryIdeal.Facts) (hQueryRefIdeal : Cert.QueryRefIdeal.Facts) (hOdd : Cert.Odd.Facts) (hOddIdeal : Cert.OddIdeal.Facts) (hOddRefIdeal : Cert.OddRefIdeal.Facts) (hEven : Cert.Even.Facts) (hEvenIdeal : Cert.EvenIdeal.Facts) (hEvenRefIdeal : Cert.EvenRefIdeal.Facts) (hAttn : Cert.Attn.Facts) (hAttnIdeal : Cert.AttnIdeal.Facts) (hAttnRefIdeal : Cert.AttnRefIdeal.Facts) (hMod : Cert.Mod.Facts) (hModIdeal : Cert.ModIdeal.Facts) (hModRefIdeal : Cert.ModRefIdeal.Facts) (hTurned : Cert.Turned.Facts) (hTurnedIdeal : Cert.TurnedIdeal.Facts) (hTurnedRefIdeal : Cert.TurnedRefIdeal.Facts) (hShift : Cert.Shift.Facts) (hShiftIdeal : Cert.ShiftIdeal.Facts) (hShiftRefIdeal : Cert.ShiftRefIdeal.Facts) (hGateup : Cert.Gateup.Facts) (hGateupIdeal : Cert.GateupIdeal.Facts) (hGateupRefIdeal : Cert.GateupRefIdeal.Facts) (hGate : Cert.Gate.Facts) (hGateIdeal : Cert.GateIdeal.Facts) (hGateRefIdeal : Cert.GateRefIdeal.Facts) (hLora : Cert.Lora.Facts) (hLoraIdeal : Cert.LoraIdeal.Facts) (hLoraRefIdeal : Cert.LoraRefIdeal.Facts) (hDecay : Cert.Decay.Facts) (hDecayIdeal : Cert.DecayIdeal.Facts) (hDecayRefIdeal : Cert.DecayRefIdeal.Facts) (hRate : Cert.Rate.Facts) (hRateIdeal : Cert.RateIdeal.Facts) (hRateRefIdeal : Cert.RateRefIdeal.Facts) (hConv : Cert.Conv.Facts) (hConvIdeal : Cert.ConvIdeal.Facts) (hConvRefIdeal : Cert.ConvRefIdeal.Facts) (hPre_attn_finite : Cert.Pre_attn_finite.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormRefIdeal (hNormRefIdeal := hNormRefIdeal)
    ∧ quiescent_In (hIn := hIn)
    ∧ quiescent_InIdeal (hInIdeal := hInIdeal)
    ∧ quiescent_InRefIdeal (hInRefIdeal := hInRefIdeal)
    ∧ quiescent_Rkv (hRkv := hRkv)
    ∧ quiescent_RkvIdeal (hRkvIdeal := hRkvIdeal)
    ∧ quiescent_RkvRefIdeal (hRkvRefIdeal := hRkvRefIdeal)
    ∧ quiescent_Query (hQuery := hQuery)
    ∧ quiescent_QueryIdeal (hQueryIdeal := hQueryIdeal)
    ∧ quiescent_QueryRefIdeal (hQueryRefIdeal := hQueryRefIdeal)
    ∧ quiescent_Odd (hOdd := hOdd)
    ∧ quiescent_OddIdeal (hOddIdeal := hOddIdeal)
    ∧ quiescent_OddRefIdeal (hOddRefIdeal := hOddRefIdeal)
    ∧ quiescent_Even (hEven := hEven)
    ∧ quiescent_EvenIdeal (hEvenIdeal := hEvenIdeal)
    ∧ quiescent_EvenRefIdeal (hEvenRefIdeal := hEvenRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Mod (hMod := hMod)
    ∧ quiescent_ModIdeal (hModIdeal := hModIdeal)
    ∧ quiescent_ModRefIdeal (hModRefIdeal := hModRefIdeal)
    ∧ quiescent_Turned (hTurned := hTurned)
    ∧ quiescent_TurnedIdeal (hTurnedIdeal := hTurnedIdeal)
    ∧ quiescent_TurnedRefIdeal (hTurnedRefIdeal := hTurnedRefIdeal)
    ∧ quiescent_Shift (hShift := hShift)
    ∧ quiescent_ShiftIdeal (hShiftIdeal := hShiftIdeal)
    ∧ quiescent_ShiftRefIdeal (hShiftRefIdeal := hShiftRefIdeal)
    ∧ quiescent_Gateup (hGateup := hGateup)
    ∧ quiescent_GateupIdeal (hGateupIdeal := hGateupIdeal)
    ∧ quiescent_GateupRefIdeal (hGateupRefIdeal := hGateupRefIdeal)
    ∧ quiescent_Gate (hGate := hGate)
    ∧ quiescent_GateIdeal (hGateIdeal := hGateIdeal)
    ∧ quiescent_GateRefIdeal (hGateRefIdeal := hGateRefIdeal)
    ∧ quiescent_Lora (hLora := hLora)
    ∧ quiescent_LoraIdeal (hLoraIdeal := hLoraIdeal)
    ∧ quiescent_LoraRefIdeal (hLoraRefIdeal := hLoraRefIdeal)
    ∧ quiescent_Decay (hDecay := hDecay)
    ∧ quiescent_DecayIdeal (hDecayIdeal := hDecayIdeal)
    ∧ quiescent_DecayRefIdeal (hDecayRefIdeal := hDecayRefIdeal)
    ∧ quiescent_Rate (hRate := hRate)
    ∧ quiescent_RateIdeal (hRateIdeal := hRateIdeal)
    ∧ quiescent_RateRefIdeal (hRateRefIdeal := hRateRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormRefIdeal (hNormIdeal := hNormIdeal) (hNormRefIdeal := hNormRefIdeal)
    ∧ preserves_In_InIdeal
    ∧ algebraic_InIdeal_InRefIdeal (hInIdeal := hInIdeal) (hInRefIdeal := hInRefIdeal)
    ∧ preserves_Rkv_RkvIdeal
    ∧ algebraic_RkvIdeal_RkvRefIdeal (hRkvIdeal := hRkvIdeal) (hRkvRefIdeal := hRkvRefIdeal)
    ∧ preserves_Query_QueryIdeal
    ∧ algebraic_QueryIdeal_QueryRefIdeal (hQueryIdeal := hQueryIdeal) (hQueryRefIdeal := hQueryRefIdeal)
    ∧ preserves_Odd_OddIdeal
    ∧ algebraic_OddIdeal_OddRefIdeal (hOddIdeal := hOddIdeal) (hOddRefIdeal := hOddRefIdeal)
    ∧ preserves_Even_EvenIdeal
    ∧ algebraic_EvenIdeal_EvenRefIdeal (hEvenIdeal := hEvenIdeal) (hEvenRefIdeal := hEvenRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Mod_ModIdeal
    ∧ algebraic_ModIdeal_ModRefIdeal (hModIdeal := hModIdeal) (hModRefIdeal := hModRefIdeal)
    ∧ preserves_Turned_TurnedIdeal
    ∧ algebraic_TurnedIdeal_TurnedRefIdeal (hTurnedIdeal := hTurnedIdeal) (hTurnedRefIdeal := hTurnedRefIdeal)
    ∧ preserves_Shift_ShiftIdeal
    ∧ algebraic_ShiftIdeal_ShiftRefIdeal (hShiftIdeal := hShiftIdeal) (hShiftRefIdeal := hShiftRefIdeal)
    ∧ preserves_Gateup_GateupIdeal
    ∧ algebraic_GateupIdeal_GateupRefIdeal (hGateupIdeal := hGateupIdeal) (hGateupRefIdeal := hGateupRefIdeal)
    ∧ preserves_Gate_GateIdeal
    ∧ algebraic_GateIdeal_GateRefIdeal (hGateIdeal := hGateIdeal) (hGateRefIdeal := hGateRefIdeal)
    ∧ preserves_Lora_LoraIdeal
    ∧ algebraic_LoraIdeal_LoraRefIdeal (hLoraIdeal := hLoraIdeal) (hLoraRefIdeal := hLoraRefIdeal)
    ∧ preserves_Decay_DecayIdeal
    ∧ algebraic_DecayIdeal_DecayRefIdeal (hDecayIdeal := hDecayIdeal) (hDecayRefIdeal := hDecayRefIdeal)
    ∧ preserves_Rate_RateIdeal
    ∧ algebraic_RateIdeal_RateRefIdeal (hRateIdeal := hRateIdeal) (hRateRefIdeal := hRateRefIdeal)
    ∧ preserves_Conv_ConvIdeal
    ∧ algebraic_ConvIdeal_ConvRefIdeal (hConvIdeal := hConvIdeal) (hConvRefIdeal := hConvRefIdeal)
-- ==== Pre_attn_finite.lean ====
abbrev S1x16384x9216 : Shape := ⟨3, ![1, 16384, 9216]⟩
abbrev S1x16 : Shape := ⟨2, ![1, 16]⟩
abbrev S1x16384x2560 : Shape := ⟨3, ![1, 16384, 2560]⟩
abbrev S_ : Shape := ⟨0, ![]⟩

class Facts : Prop where
  slices_S1x16384x9216_S1x16384x2560_0_0_0 : S1x16384x9216.Slices ![0, 0, 0] S1x16384x2560
  bcast_S_S1x16384x2560 : S_.BroadcastsInDim S1x16384x2560 (![] : Fin 0 → Fin S1x16384x2560.rank)
  bcast_S_S1x16 : S_.BroadcastsInDim S1x16 (![] : Fin 0 → Fin S1x16.rank)

variable [Facts]

def fn {F : FTy → Type} [FloatOps F] (main_arg0 : FVec F S1x16384x9216 .f32) (main_arg1 : FVec F S1x16 .f32) : IVec S1x16384x2560 1 × IVec S1x16 1 :=
  let main_v0 : FVec F S1x16384x2560 .f32 := (extractStridedSlice S1x16384x2560 ![0, 0, 0] · slices_S1x16384x9216_S1x16384x2560_0_0_0) main_arg0
  let main_v1 : FVec F S1x16384x2560 .f32 := Host.absf main_v0
  let main_cst : FVec F S_ .f32 := constant S_ .f32 0x7F800000#32
  let main_v2 : FVec F S1x16384x2560 .f32 := broadcastInDim S1x16384x2560 ![] bcast_S_S1x16384x2560 main_cst
  let main_v3 : IVec S1x16384x2560 1 := cmpf .olt main_v1 main_v2
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  (main_v3, main_v6)
-- ==== Kernel.lean ====
abbrev S16384x4096 : Shape := ⟨2, ![16384, 4096]⟩
abbrev S2x16384x4096 : Shape := ⟨3, ![2, 16384, 4096]⟩
abbrev S16x128x16384 : Shape := ⟨3, ![16, 128, 16384]⟩
abbrev S8x16384 : Shape := ⟨2, ![8, 16384]⟩
abbrev S4096x16384 : Shape := ⟨2, ![4096, 16384]⟩
abbrev S2x4096x16384 : Shape := ⟨3, ![2, 4096, 16384]⟩
abbrev S1x512x4096 : Shape := ⟨3, ![1, 512, 4096]⟩
abbrev S4096x512 : Shape := ⟨2, ![4096, 512]⟩
abbrev S1x4096x512 : Shape := ⟨3, ![1, 4096, 512]⟩
abbrev S16x128x512 : Shape := ⟨3, ![16, 128, 512]⟩
abbrev S8x512 : Shape := ⟨2, ![8, 512]⟩
abbrev S512x4096 : Shape := ⟨2, ![512, 4096]⟩
abbrev S1x256x4096 : Shape := ⟨3, ![1, 256, 4096]⟩
abbrev S256x4096 : Shape := ⟨2, ![256, 4096]⟩
abbrev S256x512 : Shape := ⟨2, ![256, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S1x4096x256 : Shape := ⟨3, ![1, 4096, 256]⟩
abbrev S4096x256 : Shape := ⟨2, ![4096, 256]⟩
abbrev S512x512 : Shape := ⟨2, ![512, 512]⟩

abbrev nBuf : Space → Nat
  | .hbm => 12
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S2x16384x4096, .f32⟩
  | .hbm, ⟨2, _⟩ => ⟨S2x16384x4096, .f32⟩
  | .hbm, ⟨3, _⟩ => ⟨S16x128x16384, .f32⟩
  | .hbm, ⟨4, _⟩ => ⟨S16x128x16384, .f32⟩
  | .hbm, ⟨5, _⟩ => ⟨S8x16384, .f32⟩
  | .hbm, ⟨6, _⟩ => ⟨S2x16384x4096, .bf16⟩
  | .hbm, ⟨7, _⟩ => ⟨S4096x16384, .f32⟩
  | .hbm, ⟨8, _⟩ => ⟨S4096x16384, .bf16⟩
  | .hbm, ⟨9, _⟩ => ⟨S2x16384x4096, .bf16⟩
  | .hbm, ⟨10, _⟩ => ⟨S2x4096x16384, .bf16⟩
  | .hbm, ⟨11, _⟩ => ⟨S16384x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S16x128x512, .f32⟩
  | .local _ .vmem, ⟨6, _⟩ => ⟨S16x128x512, .f32⟩
  | .local _ .vmem, ⟨7, _⟩ => ⟨S8x512, .f32⟩
  | .local _ .vmem, ⟨8, _⟩ => ⟨S512x4096, .f32⟩
  | .local _ .vmem, ⟨9, _⟩ => ⟨S4096x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![32, 32], ![false, false]⟩

def k0_off1 (i : grid0.Coords) (c0_i32_13 : BitVec 32) (c0_i32_15 : BitVec 32) : Fin 3 → Nat :=
  let c0_16 : Index := 0#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v25 : Index := Scalar.indexCast v24
  let c0_17 : Index := 0#32
  ![0, v25.toNat, 0]
def k0_off2 (i : grid0.Coords) (c0_i32_13 : BitVec 32) (c0_i32_15 : BitVec 32) : Fin 3 → Nat :=
  let c2 : Index := 2#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v44 : Index := Scalar.indexCast v24
  let c0_28 : Index := 0#32
  ![2, v44.toNat, 0]
def k0_off3 (i : grid0.Coords) (c0_i32_13 : BitVec 32) (c0_i32_15 : BitVec 32) : Fin 3 → Nat :=
  let c4 : Index := 4#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v64 : Index := Scalar.indexCast v24
  let c0_39 : Index := 0#32
  ![4, v64.toNat, 0]
def k0_off4 (i : grid0.Coords) (c0_i32_13 : BitVec 32) (c0_i32_15 : BitVec 32) : Fin 3 → Nat :=
  let c6 : Index := 6#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v84 : Index := Scalar.indexCast v24
  let c0_50 : Index := 0#32
  ![6, v84.toNat, 0]
def k0_off5 (i : grid0.Coords) (c0_i32_13 : BitVec 32) (c0_i32_15 : BitVec 32) : Fin 3 → Nat :=
  let c8 : Index := 8#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v104 : Index := Scalar.indexCast v24
  let c0_61 : Index := 0#32
  ![8, v104.toNat, 0]
def k0_off6 (i : grid0.Coords) (c0_i32_13 : BitVec 32) (c0_i32_15 : BitVec 32) : Fin 3 → Nat :=
  let c10 : Index := 10#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v124 : Index := Scalar.indexCast v24
  let c0_72 : Index := 0#32
  ![10, v124.toNat, 0]
def k0_off7 (i : grid0.Coords) (c0_i32_13 : BitVec 32) (c0_i32_15 : BitVec 32) : Fin 3 → Nat :=
  let c12 : Index := 12#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v144 : Index := Scalar.indexCast v24
  let c0_83 : Index := 0#32
  ![12, v144.toNat, 0]
def k0_off8 (i : grid0.Coords) (c0_i32_13 : BitVec 32) (c0_i32_15 : BitVec 32) : Fin 3 → Nat :=
  let c14 : Index := 14#32
  let c2_i32 : BitVec 32 := 2#32
  let arg1 : BitVec 32 := BitVec.ofNat 32 (i 1).val
  let v21 : BitVec 32 := Scalar.muli c2_i32 arg1
  let v22 : BitVec 32 := Scalar.addi v21 c0_i32_13
  let c2_i32_14 : BitVec 32 := 2#32
  let v23 : BitVec 32 := Scalar.muli v22 c2_i32_14
  let v24 : BitVec 32 := Scalar.addi v23 c0_i32_15
  let v164 : Index := Scalar.indexCast v24
  let c0_94 : Index := 0#32
  ![14, v164.toNat, 0]
def k0_cond2 (i : grid0.Coords) : BitVec 1 :=
  let arg1 : BitVec 32 := BitVec.ofNat 32 (i 1).val
  let c31_i32 : BitVec 32 := 31#32
  let v711 : BitVec 1 := Scalar.cmpi .eq arg1 c31_i32
  let v712 : BitVec 32 := Scalar.extui v711
  let c0_i32_447 : BitVec 32 := 0#32
  let v713 : BitVec 1 := Scalar.cmpi .ne v712 c0_i32_447
  v713

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S16x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ReferenceIdeal.lean ====
abbrev S16384x4096 : Shape := ⟨2, ![16384, 4096]⟩
abbrev S2x16384x4096 : Shape := ⟨3, ![2, 16384, 4096]⟩
abbrev S16x128x16384 : Shape := ⟨3, ![16, 128, 16384]⟩
abbrev S8x16384 : Shape := ⟨2, ![8, 16384]⟩
abbrev S8x2x128x16384 : Shape := ⟨4, ![8, 2, 128, 16384]⟩
abbrev S8x1x128x16384 : Shape := ⟨4, ![8, 1, 128, 16384]⟩
abbrev S8x128x16384 : Shape := ⟨3, ![8, 128, 16384]⟩
abbrev S8x128x1x16384 : Shape := ⟨4, ![8, 128, 1, 16384]⟩
abbrev S8x128x128x16384 : Shape := ⟨4, ![8, 128, 128, 16384]⟩
abbrev S8x1x1x16384 : Shape := ⟨4, ![8, 1, 1, 16384]⟩
abbrev S_ : Shape := ⟨0, ![]⟩
abbrev S128x128x16384 : Shape := ⟨3, ![128, 128, 16384]⟩
abbrev S16384x16384 : Shape := ⟨2, ![16384, 16384]⟩
abbrev S1x16384x4096 : Shape := ⟨3, ![1, 16384, 4096]⟩
abbrev S4096x16384 : Shape := ⟨2, ![4096, 16384]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x16384x4096, .f32⟩
  | .hbm, ⟨2, _⟩ => ⟨S2x16384x4096, .f32⟩
  | .hbm, ⟨3, _⟩ => ⟨S16x128x16384, .f32⟩
  | .hbm, ⟨4, _⟩ => ⟨S16x128x16384, .f32⟩
  | .hbm, ⟨5, _⟩ => ⟨S8x16384, .f32⟩
  | .hbm, ⟨6, _⟩ => ⟨S8x2x128x16384, .f32⟩
  | .hbm, ⟨7, _⟩ => ⟨S8x2x128x16384, .f32⟩
  | .hbm, ⟨8, _⟩ => ⟨S8x1x128x16384, .f32⟩
  | .hbm, ⟨9, _⟩ => ⟨S8x128x16384, .f32⟩
  | .hbm, ⟨10, _⟩ => ⟨S8x128x1x16384, .f32⟩
  | .hbm, ⟨11, _⟩ => ⟨S8x1x128x16384, .f32⟩
  | .hbm, ⟨12, _⟩ => ⟨S8x128x16384, .f32⟩
  | .hbm, ⟨13, _⟩ => ⟨S8x1x128x16384, .f32⟩
  | .hbm, ⟨14, _⟩ => ⟨S8x128x128x16384, .f32⟩
  | .hbm, ⟨15, _⟩ => ⟨S8x128x128x16384, .f32⟩
  | .hbm, ⟨16, _⟩ => ⟨S8x128x128x16384, .f32⟩
  | .hbm, ⟨17, _⟩ => ⟨S8x1x128x16384, .f32⟩
  | .hbm, ⟨18, _⟩ => ⟨S8x128x16384, .f32⟩
  | .hbm, ⟨19, _⟩ => ⟨S8x128x1x16384, .f32⟩
  | .hbm, ⟨20, _⟩ => ⟨S8x1x128x16384, .f32⟩
  | .hbm, ⟨21, _⟩ => ⟨S8x128x16384, .f32⟩
  | .hbm, ⟨22, _⟩ => ⟨S8x1x128x16384, .f32⟩
  | .hbm, ⟨23, _⟩ => ⟨S8x128x128x16384, .f32⟩
  | .hbm, ⟨24, _⟩ => ⟨S8x128x128x16384, .f32⟩
  | .hbm, ⟨25, _⟩ => ⟨S8x128x128x16384, .f32⟩
  | .hbm, ⟨26, _⟩ => ⟨S8x1x1x16384, .f32⟩
  | .hbm, ⟨27, _⟩ => ⟨S8x128x128x16384, .f32⟩
  | .hbm, ⟨28, _⟩ => ⟨S8x128x128x16384, .i1⟩
  | .hbm, ⟨29, _⟩ => ⟨S_, .f32⟩
  | .hbm, ⟨30, _⟩ => ⟨S_, .f32⟩
  | .hbm, ⟨31, _⟩ => ⟨S8x128x128x16384, .f32⟩
  | .hbm, ⟨32, _⟩ => ⟨S8x128x128x16384, .f32⟩
  | .hbm, ⟨33, _⟩ => ⟨S_, .f32⟩
  | .hbm, ⟨34, _⟩ => ⟨S128x128x16384, .f32⟩
  | .hbm, ⟨35, _⟩ => ⟨S16384x16384, .f32⟩
  | .hbm, ⟨36, _⟩ => ⟨S16384x16384, .f32⟩
  | .hbm, ⟨37, _⟩ => ⟨S1x16384x4096, .f32⟩
  | .hbm, ⟨38, _⟩ => ⟨S16384x4096, .f32⟩
  | .hbm, ⟨39, _⟩ => ⟨S4096x16384, .f32⟩
  | .hbm, ⟨40, _⟩ => ⟨S16384x16384, .f32⟩
  | .hbm, ⟨41, _⟩ => ⟨S_, .f32⟩
  | .hbm, ⟨42, _⟩ => ⟨S16384x16384, .f32⟩
  | .hbm, ⟨43, _⟩ => ⟨S16384x16384, .f32⟩
  | .hbm, ⟨44, _⟩ => ⟨S16384x16384, .f32⟩
  | .hbm, ⟨45, _⟩ => ⟨S_, .f32⟩
  | .hbm, ⟨46, _⟩ => ⟨S16384x16384, .f32⟩
  | .hbm, ⟨47, _⟩ => ⟨S16384x16384, .f32⟩
  | .hbm, ⟨48, _⟩ => ⟨S16384x16384, .f32⟩
  | .hbm, ⟨49, _⟩ => ⟨S16384x16384, .f32⟩
  | .hbm, ⟨50, _⟩ => ⟨S16384x16384, .f32⟩
  | .hbm, ⟨51, _⟩ => ⟨S1x16384x4096, .f32⟩
  | .hbm, ⟨52, _⟩ => ⟨S16384x4096, .f32⟩
  | .hbm, ⟨53, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Norm.lean ====
abbrev S1x16384x4096 : Shape := ⟨3, ![1, 16384, 4096]⟩
abbrev S1x4096 : Shape := ⟨2, ![1, 4096]⟩
abbrev S4096 : Shape := ⟨1, ![4096]⟩
abbrev S1x1x4096 : Shape := ⟨3, ![1, 1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x4096, .f32⟩
  | .hbm, ⟨1, _⟩ => ⟨S1x16384x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S1x1x4096, .f32⟩
  | .hbm, ⟨6, _⟩ => ⟨S1x16384x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x4096, .f32⟩
  | .local _ .vmem, ⟨6, _⟩ => ⟨S1x256x4096, .f32⟩
  | .local _ .vmem, ⟨7, _⟩ => ⟨S1x256x4096, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormRefIdeal.lean ====
abbrev S1x16384x4096 : Shape := ⟨3, ![1, 16384, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S1x16384 : Shape := ⟨2, ![1, 16384]⟩
abbrev S1x16384x1 : Shape := ⟨3, ![1, 16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x16384x4096, .f32⟩
  | .hbm, ⟨2, _⟩ => ⟨S1x4096, .f32⟩
  | .hbm, ⟨3, _⟩ => ⟨S4096, .f32⟩
  | .hbm, ⟨4, _⟩ => ⟨S1x1x4096, .f32⟩
  | .hbm, ⟨5, _⟩ => ⟨S1x16384x4096, .f32⟩
  | .hbm, ⟨6, _⟩ => ⟨S1x16384x4096, .f32⟩
  | .hbm, ⟨7, _⟩ => ⟨S1x16384x4096, .f32⟩
  | .hbm, ⟨8, _⟩ => ⟨S1x16384x4096, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x4096, .f32⟩
  | .hbm, ⟨20, _⟩ => ⟨S1x16384x4096, .f32⟩
  | .hbm, ⟨21, _⟩ => ⟨S1x1x4096, .f32⟩
  | .hbm, ⟨22, _⟩ => ⟨S1x16384x4096, .f32⟩
  | .hbm, ⟨23, _⟩ => ⟨S1x16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== In.lean ====
abbrev S1x16384x4096 : Shape := ⟨3, ![1, 16384, 4096]⟩
abbrev S1x4096x9216 : Shape := ⟨3, ![1, 4096, 9216]⟩
abbrev S16384x4096 : Shape := ⟨2, ![16384, 4096]⟩
abbrev S4096x9216 : Shape := ⟨2, ![4096, 9216]⟩
abbrev S16384x9216 : Shape := ⟨2, ![16384, 9216]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S1x4096x9216, .f32⟩
  | .hbm, ⟨2, _⟩ => ⟨S16384x4096, .f32⟩
  | .hbm, ⟨3, _⟩ => ⟨S16384x4096, .bf16⟩
  | .hbm, ⟨4, _⟩ => ⟨S4096x9216, .f32⟩
  | .hbm, ⟨5, _⟩ => ⟨S4096x9216, .bf16⟩
  | .hbm, ⟨6, _⟩ => ⟨S16384x9216, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S1x16384x4096 : Shape := ⟨3, ![1, 16384, 4096]⟩
abbrev S1x4096x9216 : Shape := ⟨3, ![1, 4096, 9216]⟩
abbrev S4096x9216 : Shape := ⟨2, ![4096, 9216]⟩
abbrev S1x16384x9216 : Shape := ⟨3, ![1, 16384, 9216]⟩
abbrev S16384x9216 : Shape := ⟨2, ![16384, 9216]⟩

abbrev nBuf : Space → Nat
  | .hbm => 5
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x9216, .f32⟩
  | .hbm, ⟨2, _⟩ => ⟨S4096x9216, .f32⟩
  | .hbm, ⟨3, _⟩ => ⟨S1x16384x9216, .f32⟩
  | .hbm, ⟨4, _⟩ => ⟨S16384x9216, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Rkv.lean ====
abbrev S1x16384x4096 : Shape := ⟨3, ![1, 16384, 4096]⟩
abbrev S1x4096x4096 : Shape := ⟨3, ![1, 4096, 4096]⟩
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S1x4096x4096, .f32⟩
  | .hbm, ⟨2, _⟩ => ⟨S16384x4096, .f32⟩
  | .hbm, ⟨3, _⟩ => ⟨S16384x4096, .bf16⟩
  | .hbm, ⟨4, _⟩ => ⟨S4096x4096, .f32⟩
  | .hbm, ⟨5, _⟩ => ⟨S4096x4096, .bf16⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvRefIdeal.lean ====
abbrev S1x16384x4096 : Shape := ⟨3, ![1, 16384, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x4096, .f32⟩
  | .hbm, ⟨2, _⟩ => ⟨S4096x4096, .f32⟩
  | .hbm, ⟨3, _⟩ => ⟨S1x16384x4096, .f32⟩
  | .hbm, ⟨4, _⟩ => ⟨S16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S1x16384x4096 : Shape := ⟨3, ![1, 16384, 4096]⟩
abbrev S2x4096x2048 : Shape := ⟨3, ![2, 4096, 2048]⟩
abbrev S2x2048x4096 : Shape := ⟨3, ![2, 2048, 4096]⟩
abbrev S16384x4096 : Shape := ⟨2, ![16384, 4096]⟩
abbrev S4096x16384 : Shape := ⟨2, ![4096, 16384]⟩
abbrev S2048x16384 : Shape := ⟨2, ![2048, 16384]⟩
abbrev S1x1024x4096 : Shape := ⟨3, ![1, 1024, 4096]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S2x4096x2048, .f32⟩
  | .hbm, ⟨2, _⟩ => ⟨S2x4096x2048, .bf16⟩
  | .hbm, ⟨3, _⟩ => ⟨S2x2048x4096, .bf16⟩
  | .hbm, ⟨4, _⟩ => ⟨S16384x4096, .f32⟩
  | .hbm, ⟨5, _⟩ => ⟨S4096x16384, .f32⟩
  | .hbm, ⟨6, _⟩ => ⟨S4096x16384, .bf16⟩
  | .hbm, ⟨7, _⟩ => ⟨S2048x16384, .f32⟩
  | .local _ .vmem, ⟨0, _⟩ => ⟨S1x1024x4096, .bf16⟩
  | .local _ .vmem, ⟨1, _⟩ => ⟨S1x1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S1x16384x4096 : Shape := ⟨3, ![1, 16384, 4096]⟩
abbrev S2x4096x2048 : Shape := ⟨3, ![2, 4096, 2048]⟩
abbrev S16384x4096 : Shape := ⟨2, ![16384, 4096]⟩
abbrev S1x4096x2048 : Shape := ⟨3, ![1, 4096, 2048]⟩
abbrev S4096x2048 : Shape := ⟨2, ![4096, 2048]⟩
abbrev S16384x2048 : Shape := ⟨2, ![16384, 2048]⟩
abbrev S2048x16384 : Shape := ⟨2, ![2048, 16384]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S2x4096x2048, .f32⟩
  | .hbm, ⟨2, _⟩ => ⟨S16384x4096, .f32⟩
  | .hbm, ⟨3, _⟩ => ⟨S1x4096x2048, .f32⟩
  | .hbm, ⟨4, _⟩ => ⟨S4096x2048, .f32⟩
  | .hbm, ⟨5, _⟩ => ⟨S16384x2048, .f32⟩
  | .hbm, ⟨6, _⟩ => ⟨S2048x16384, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Odd.lean ====
abbrev S1x16384x4096 : Shape := ⟨3, ![1, 16384, 4096]⟩
abbrev S1x4096x4096 : Shape := ⟨3, ![1, 4096, 4096]⟩
abbrev S1x4096 : Shape := ⟨2, ![1, 4096]⟩
abbrev S16384x4096 : Shape := ⟨2, ![16384, 4096]⟩
abbrev S4096x4096 : Shape := ⟨2, ![4096, 4096]⟩
abbrev S1x1x4096 : Shape := ⟨3, ![1, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S1x16384x4096, .f32⟩
  | .hbm, ⟨1, _⟩ => ⟨S1x4096x4096, .f32⟩
  | .hbm, ⟨2, _⟩ => ⟨S1x16384x4096, .f32⟩
  | .hbm, ⟨3, _⟩ => ⟨S1x4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S4096x4096, .bf16⟩
  | .hbm, ⟨8, _⟩ => ⟨S16384x4096, .f32⟩
  | .hbm, ⟨9, _⟩ => ⟨S1x1x4096, .f32⟩
  | .hbm, ⟨10, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OddRefIdeal.lean ====
abbrev S1x16384x4096 : Shape := ⟨3, ![1, 16384, 4096]⟩
abbrev S1x4096x4096 : Shape := ⟨3, ![1, 4096, 4096]⟩
abbrev S1x4096 : Shape := ⟨2, ![1, 4096]⟩
abbrev S1x1x4096 : Shape := ⟨3, ![1, 1, 4096]⟩
abbrev S4096x4096 : Shape := ⟨2, ![4096, 4096]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x4096, .f32⟩
  | .hbm, ⟨2, _⟩ => ⟨S1x16384x4096, .f32⟩
  | .hbm, ⟨3, _⟩ => ⟨S1x4096, .f32⟩
  | .hbm, ⟨4, _⟩ => ⟨S1x1x4096, .f32⟩
  | .hbm, ⟨5, _⟩ => ⟨S4096x4096, .f32⟩
  | .hbm, ⟨6, _⟩ => ⟨S1x16384x4096, .f32⟩
  | .hbm, ⟨7, _⟩ => ⟨S1x16384x4096, .f32⟩
  | .hbm, ⟨8, _⟩ => ⟨S1x16384x4096, .f32⟩
  | .hbm, ⟨9, _⟩ => ⟨S1x16384x4096, .f32⟩
  | .hbm, ⟨10, _⟩ => ⟨S16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Even.lean ====
abbrev S1x16384x2048 : Shape := ⟨3, ![1, 16384, 2048]⟩
abbrev S1x4096x4096 : Shape := ⟨3, ![1, 4096, 4096]⟩
abbrev S1x16384x4096 : Shape := ⟨3, ![1, 16384, 4096]⟩
abbrev S1x4096 : Shape := ⟨2, ![1, 4096]⟩
abbrev S4096x4096 : Shape := ⟨2, ![4096, 4096]⟩
abbrev S16384x2048 : Shape := ⟨2, ![16384, 2048]⟩
abbrev S2048x4096 : Shape := ⟨2, ![2048, 4096]⟩
abbrev S16384x4096 : Shape := ⟨2, ![16384, 4096]⟩
abbrev S1x1x4096 : Shape := ⟨3, ![1, 1, 4096]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 16
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x4096x4096, .f32⟩
  | .hbm, ⟨3, _⟩ => ⟨S1x16384x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S16384x2048, .f32⟩
  | .hbm, ⟨8, _⟩ => ⟨S16384x2048, .bf16⟩
  | .hbm, ⟨9, _⟩ => ⟨S2048x4096, .bf16⟩
  | .hbm, ⟨10, _⟩ => ⟨S16384x2048, .f32⟩
  | .hbm, ⟨11, _⟩ => ⟨S16384x2048, .bf16⟩
  | .hbm, ⟨12, _⟩ => ⟨S2048x4096, .bf16⟩
  | .hbm, ⟨13, _⟩ => ⟨S16384x4096, .f32⟩
  | .hbm, ⟨14, _⟩ => ⟨S1x1x4096, .f32⟩
  | .hbm, ⟨15, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== EvenRefIdeal.lean ====
abbrev S1x16384x2048 : Shape := ⟨3, ![1, 16384, 2048]⟩
abbrev S1x4096x4096 : Shape := ⟨3, ![1, 4096, 4096]⟩
abbrev S1x16384x4096 : Shape := ⟨3, ![1, 16384, 4096]⟩
abbrev S1x4096 : Shape := ⟨2, ![1, 4096]⟩
abbrev S1x1x4096 : Shape := ⟨3, ![1, 1, 4096]⟩
abbrev S4096x4096 : Shape := ⟨2, ![4096, 4096]⟩
abbrev S16384x4096 : Shape := ⟨2, ![16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x4096x4096, .f32⟩
  | .hbm, ⟨3, _⟩ => ⟨S1x16384x4096, .f32⟩
  | .hbm, ⟨4, _⟩ => ⟨S1x4096, .f32⟩
  | .hbm, ⟨5, _⟩ => ⟨S1x1x4096, .f32⟩
  | .hbm, ⟨6, _⟩ => ⟨S1x16384x4096, .f32⟩
  | .hbm, ⟨7, _⟩ => ⟨S4096x4096, .f32⟩
  | .hbm, ⟨8, _⟩ => ⟨S1x16384x4096, .f32⟩
  | .hbm, ⟨9, _⟩ => ⟨S1x16384x4096, .f32⟩
  | .hbm, ⟨10, _⟩ => ⟨S1x16384x4096, .f32⟩
  | .hbm, ⟨11, _⟩ => ⟨S1x16384x4096, .f32⟩
  | .hbm, ⟨12, _⟩ => ⟨S16384x4096, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Attn.lean ====
abbrev S1x16384x9216 : Shape := ⟨3, ![1, 16384, 9216]⟩
abbrev S1x16 : Shape := ⟨2, ![1, 16]⟩
abbrev S16 : Shape := ⟨1, ![16]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S1x16384x2048 : Shape := ⟨3, ![1, 16384, 2048]⟩
abbrev S1x128x512 : Shape := ⟨3, ![1, 128, 512]⟩
abbrev S1x128x128 : Shape := ⟨3, ![1, 128, 128]⟩
abbrev S128x128 : Shape := ⟨2, ![128, 128]⟩
abbrev S384x128 : Shape := ⟨2, ![384, 128]⟩
abbrev S128x384 : Shape := ⟨2, ![128, 384]⟩
abbrev S1 : Shape := ⟨1, ![1]⟩
abbrev S128 : Shape := ⟨1, ![128]⟩
abbrev S128x1 : Shape := ⟨2, ![128, 1]⟩

abbrev nBuf : Space → Nat
  | .hbm => 28
  | .vmem => 28
  | .smem => 1
  | _ => 0

abbrev bufTy : (tb : Table) → Fin (tcTables nBuf tb) → BufTy
  | .hbm, ⟨0, _⟩ => ⟨S1x16384x9216, .f32⟩
  | .hbm, ⟨1, _⟩ => ⟨S1x16, .f32⟩
  | .hbm, ⟨2, _⟩ => ⟨S16, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S16384, .f32⟩
  | .hbm, ⟨15, _⟩ => ⟨S16384x1, .f32⟩
  | .hbm, ⟨16, _⟩ => ⟨S1x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x128, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x128, .f32⟩
  | .hbm, ⟨27, _⟩ => ⟨S1x16384x2048, .bf16⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S1x128x512, .bf16⟩
  | .local _ .vmem, ⟨27, _⟩ => ⟨S1x128x512, .bf16⟩
  | .local _ .smem, ⟨0, _⟩ => ⟨S16, .f32⟩
  | _, _ => ⟨S1x16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨3, ![1, 128, 4], ![false, false, false]⟩

def k0_off1 (i : grid0.Coords) (c0_i32_73 : BitVec 32) : Fin 1 → Nat :=
  let arg2 : BitVec 32 := BitVec.ofNat 32 (i 2).val
  let c4_i32 : BitVec 32 := 4#32
  let v123 : BitVec 32 := Scalar.muli arg2 c4_i32
  let v124 : BitVec 32 := Scalar.addi v123 c0_i32_73
  let v125 : Index := Scalar.indexCast v124
  ![v125.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg2
  let c0_i32_0 : BitVec 32 := 0#32
  ![arg0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c127_i32 : BitVec 32 := 127#32
  let v1 : BitVec 32 := Scalar.minsi v0 c127_i32
  let c16_i32 : BitVec 32 := 16#32
  let v2 : BitVec 32 := Scalar.addi c16_i32 arg2
  let c0_i32 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c20_i32 : BitVec 32 := 20#32
  let v2 : BitVec 32 := Scalar.addi c20_i32 arg2
  let c0_i32_0 : BitVec 32 := 0#32
  ![arg0.toNat, v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c127_i32 : BitVec 32 := 127#32
  let v1 : BitVec 32 := Scalar.minsi v0 c127_i32
  let c20_i32 : BitVec 32 := 20#32
  let v2 : BitVec 32 := Scalar.addi c20_i32 arg2
  let c0_i32 : BitVec 32 := 0#32
  ![arg0.toNat, v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== AttnRefIdeal.lean ====
abbrev S1x16384x9216 : Shape := ⟨3, ![1, 16384, 9216]⟩
abbrev S1x16 : Shape := ⟨2, ![1, 16]⟩
abbrev S1x16384x2560 : Shape := ⟨3, ![1, 16384, 2560]⟩
abbrev S1x16384x20x128 : Shape := ⟨4, ![1, 16384, 20, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S1x16384x1x64 : Shape := ⟨4, ![1, 16384, 1, 64]⟩
abbrev S1x16384x20x64 : Shape := ⟨4, ![1, 16384, 20, 64]⟩
abbrev S1x16384x512 : Shape := ⟨3, ![1, 16384, 512]⟩
abbrev S1x16384x4x128 : Shape := ⟨4, ![1, 16384, 4, 128]⟩
abbrev S1x16384x16x128 : Shape := ⟨4, ![1, 16384, 16, 128]⟩
abbrev S16 : Shape := ⟨1, ![16]⟩
abbrev S1x16640x4x128 : Shape := ⟨4, ![1, 16640, 4, 128]⟩
abbrev S1x130x128x4x128 : Shape := ⟨5, ![1, 130, 128, 4, 128]⟩
abbrev S1x128x128x4x128 : Shape := ⟨5, ![1, 128, 128, 4, 128]⟩
abbrev S1x128x384x4x128 : Shape := ⟨5, ![1, 128, 384, 4, 128]⟩
abbrev S1x128x128x4x4x128 : Shape := ⟨6, ![1, 128, 128, 4, 4, 128]⟩
abbrev S1x128x4x384x128x4 : Shape := ⟨6, ![1, 128, 4, 384, 128, 4]⟩
abbrev S1x128x4x4x128x384 : Shape := ⟨6, ![1, 128, 4, 4, 128, 384]⟩
abbrev S128x128 : Shape := ⟨2, ![128, 128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x128x1 : Shape := ⟨3, ![128, 128, 1]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S1x1x4x4x1x1 : Shape := ⟨6, ![1, 1, 4, 4, 1, 1]⟩
abbrev S1x128x4x4x128 : Shape := ⟨5, ![1, 128, 4, 4, 128]⟩
abbrev S1x128x4x4x128x1 : Shape := ⟨6, ![1, 128, 4, 4, 128, 1]⟩
abbrev S1x128x4x128x4x128 : Shape := ⟨6, ![1, 128, 4, 128, 4, 128]⟩
abbrev S1x16384x2048 : Shape := ⟨3, ![1, 16384, 2048]⟩

abbrev nBuf : Space → Nat
  | .hbm => 125
  | .vmem => 0
  | .smem => 0
  | _ => 0

abbrev bufTy : (tb : Table) → Fin (tcTables nBuf tb) → BufTy
  | .hbm, ⟨0, _⟩ => ⟨S1x16384x9216, .f32⟩
  | .hbm, ⟨1, _⟩ => ⟨S1x16, .f32⟩
  | .hbm, ⟨2, _⟩ => ⟨S1x16384x2560, .f32⟩
  | .hbm, ⟨3, _⟩ => ⟨S1x16384x20x128, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S16384, .f32⟩
  | .hbm, ⟨16, _⟩ => ⟨S16384x1, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S1x16384x1x64, .f32⟩
  | .hbm, ⟨23, _⟩ => ⟨S16384x64, .f32⟩
  | .hbm, ⟨24, _⟩ => ⟨S1x16384x1x64, .f32⟩
  | .hbm, ⟨25, _⟩ => ⟨S1x16384x20x64, .f32⟩
  | .hbm, ⟨26, _⟩ => ⟨S1x16384x20x64, .f32⟩
  | .hbm, ⟨27, _⟩ => ⟨S1x16384x20x64, .f32⟩
  | .hbm, ⟨28, _⟩ => ⟨S1x16384x20x64, .f32⟩
  | .hbm, ⟨29, _⟩ => ⟨S1x16384x20x64, .f32⟩
  | .hbm, ⟨30, _⟩ => ⟨S1x16384x20x64, .f32⟩
  | .hbm, ⟨31, _⟩ => ⟨S1x16384x20x64, .f32⟩
  | .hbm, ⟨32, _⟩ => ⟨S1x16384x20x64, .f32⟩
  | .hbm, ⟨33, _⟩ => ⟨S1x16384x20x64, .f32⟩
  | .hbm, ⟨34, _⟩ => ⟨S1x16384x20x64, .f32⟩
  | .hbm, ⟨35, _⟩ => ⟨S1x16384x20x64, .f32⟩
  | .hbm, ⟨36, _⟩ => ⟨S1x16384x20x64, .f32⟩
  | .hbm, ⟨37, _⟩ => ⟨S1x16384x20x128, .f32⟩
  | .hbm, ⟨38, _⟩ => ⟨S1x16384x512, .f32⟩
  | .hbm, ⟨39, _⟩ => ⟨S1x16384x4x128, .f32⟩
  | .hbm, ⟨40, _⟩ => ⟨S1x16384x16x128, .f32⟩
  | .hbm, ⟨41, _⟩ => ⟨S1x16384x4x128, .f32⟩
  | .hbm, ⟨42, _⟩ => ⟨S16, .f32⟩
  | .hbm, ⟨43, _⟩ => ⟨S_, .i32⟩
  | .hbm, ⟨44, _⟩ => ⟨S_, .f32⟩
  | .hbm, ⟨45, _⟩ => ⟨S1x16640x4x128, .f32⟩
  | .hbm, ⟨46, _⟩ => ⟨S1x130x128x4x128, .f32⟩
  | .hbm, ⟨47, _⟩ => ⟨S_, .i32⟩
  | .hbm, ⟨48, _⟩ => ⟨S_, .f32⟩
  | .hbm, ⟨49, _⟩ => ⟨S1x16640x4x128, .f32⟩
  | .hbm, ⟨50, _⟩ => ⟨S1x130x128x4x128, .f32⟩
  | .hbm, ⟨51, _⟩ => ⟨S1x128x128x4x128, .f32⟩
  | .hbm, ⟨52, _⟩ => ⟨S1x128x128x4x128, .f32⟩
  | .hbm, ⟨53, _⟩ => ⟨S1x128x128x4x128, .f32⟩
  | .hbm, ⟨54, _⟩ => ⟨S1x128x384x4x128, .f32⟩
  | .hbm, ⟨55, _⟩ => ⟨S1x128x128x4x128, .f32⟩
  | .hbm, ⟨56, _⟩ => ⟨S1x128x128x4x128, .f32⟩
  | .hbm, ⟨57, _⟩ => ⟨S1x128x128x4x128, .f32⟩
  | .hbm, ⟨58, _⟩ => ⟨S1x128x384x4x128, .f32⟩
  | .hbm, ⟨59, _⟩ => ⟨S1x128x128x4x4x128, .f32⟩
  | .hbm, ⟨60, _⟩ => ⟨S1x128x4x384x128x4, .f32⟩
  | .hbm, ⟨61, _⟩ => ⟨S1x128x4x4x128x384, .f32⟩
  | .hbm, ⟨62, _⟩ => ⟨S_, .f32⟩
  | .hbm, ⟨63, _⟩ => ⟨S1x128x4x4x128x384, .f32⟩
  | .hbm, ⟨64, _⟩ => ⟨S1x128x4x4x128x384, .f32⟩
  | .hbm, ⟨65, _⟩ => ⟨S16384, .i32⟩
  | .hbm, ⟨66, _⟩ => ⟨S128x128, .i32⟩
  | .hbm, ⟨67, _⟩ => ⟨S128x1, .i32⟩
  | .hbm, ⟨68, _⟩ => ⟨S384, .i32⟩
  | .hbm, ⟨69, _⟩ => ⟨S_, .i32⟩
  | .hbm, ⟨70, _⟩ => ⟨S384, .i32⟩
  | .hbm, ⟨71, _⟩ => ⟨S384, .i32⟩
  | .hbm, ⟨72, _⟩ => ⟨S1x384, .i32⟩
  | .hbm, ⟨73, _⟩ => ⟨S128x384, .i32⟩
  | .hbm, ⟨74, _⟩ => ⟨S128x384, .i32⟩
  | .hbm, ⟨75, _⟩ => ⟨S128x384, .i32⟩
  | .hbm, ⟨76, _⟩ => ⟨S128x128x1, .i32⟩
  | .hbm, ⟨77, _⟩ => ⟨S128x1x384, .i32⟩
  | .hbm, ⟨78, _⟩ => ⟨S128x128x384, .i32⟩
  | .hbm, ⟨79, _⟩ => ⟨S128x128x384, .i32⟩
  | .hbm, ⟨80, _⟩ => ⟨S128x128x384, .i32⟩
  | .hbm, ⟨81, _⟩ => ⟨S128x128x384, .i32⟩
  | .hbm, ⟨82, _⟩ => ⟨S_, .i32⟩
  | .hbm, ⟨83, _⟩ => ⟨S128x128x384, .i32⟩
  | .hbm, ⟨84, _⟩ => ⟨S128x128x384, .i1⟩
  | .hbm, ⟨85, _⟩ => ⟨S128x1x384, .i32⟩
  | .hbm, ⟨86, _⟩ => ⟨S_, .i32⟩
  | .hbm, ⟨87, _⟩ => ⟨S128x1x384, .i32⟩
  | .hbm, ⟨88, _⟩ => ⟨S128x1x384, .i1⟩
  | .hbm, ⟨89, _⟩ => ⟨S128x128x384, .i1⟩
  | .hbm, ⟨90, _⟩ => ⟨S128x128x384, .i1⟩
  | .hbm, ⟨91, _⟩ => ⟨S128x1x384, .i32⟩
  | .hbm, ⟨92, _⟩ => ⟨S_, .i32⟩
  | .hbm, ⟨93, _⟩ => ⟨S128x1x384, .i32⟩
  | .hbm, ⟨94, _⟩ => ⟨S128x1x384, .i1⟩
  | .hbm, ⟨95, _⟩ => ⟨S128x128x384, .i1⟩
  | .hbm, ⟨96, _⟩ => ⟨S128x128x384, .i1⟩
  | .hbm, ⟨97, _⟩ => ⟨S1x128x1x1x128x384, .i1⟩
  | .hbm, ⟨98, _⟩ => ⟨S_, .f32⟩
  | .hbm, ⟨99, _⟩ => ⟨S_, .f32⟩
  | .hbm, ⟨100, _⟩ => ⟨S1x128x4x4x128x384, .i1⟩
  | .hbm, ⟨101, _⟩ => ⟨S1x128x4x4x128x384, .f32⟩
  | .hbm, ⟨102, _⟩ => ⟨S1x128x4x4x128x384, .f32⟩
  | .hbm, ⟨103, _⟩ => ⟨S1x1x4x4x1x1, .f32⟩
  | .hbm, ⟨104, _⟩ => ⟨S_, .f32⟩
  | .hbm, ⟨105, _⟩ => ⟨S1x128x4x4x128, .f32⟩
  | .hbm, ⟨106, _⟩ => ⟨S1x128x4x4x128x1, .f32⟩
  | .hbm, ⟨107, _⟩ => ⟨S1x128x4x4x128x1, .f32⟩
  | .hbm, ⟨108, _⟩ => ⟨S1x128x4x4x128x1, .f32⟩
  | .hbm, ⟨109, _⟩ => ⟨S1x128x4x4x128x384, .f32⟩
  | .hbm, ⟨110, _⟩ => ⟨S1x128x4x4x128x384, .f32⟩
  | .hbm, ⟨111, _⟩ => ⟨S1x128x4x4x128x384, .f32⟩
  | .hbm, ⟨112, _⟩ => ⟨S_, .f32⟩
  | .hbm, ⟨113, _⟩ => ⟨S1x128x4x4x128, .f32⟩
  | .hbm, ⟨114, _⟩ => ⟨S1x128x4x4x128x1, .f32⟩
  | .hbm, ⟨115, _⟩ => ⟨S1x128x4x4x128x1, .f32⟩
  | .hbm, ⟨116, _⟩ => ⟨S1x128x4x4x128x1, .f32⟩
  | .hbm, ⟨117, _⟩ => ⟨S1x128x4x4x128x1, .f32⟩
  | .hbm, ⟨118, _⟩ => ⟨S1x128x4x4x128x1, .f32⟩
  | .hbm, ⟨119, _⟩ => ⟨S1x128x4x4x128x384, .f32⟩
  | .hbm, ⟨120, _⟩ => ⟨S1x128x4x4x128x384, .f32⟩
  | .hbm, ⟨121, _⟩ => ⟨S1x128x4x128x4x128, .f32⟩
  | .hbm, ⟨122, _⟩ => ⟨S1x128x128x4x4x128, .f32⟩
  | .hbm, ⟨123, _⟩ => ⟨S1x16384x2048, .f32⟩
  | .hbm, ⟨124, _⟩ => ⟨S1x16384x2048, .bf16⟩
  | _, _ => ⟨S1x16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_c : Ref sig .tc := ⟨.hbm, 43, rfl⟩
abbrev main_call0_v0 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_call1_v0 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c_4 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_c_5 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_c_6 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_c_7 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_8 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v84 : Ref sig .tc := ⟨.hbm, 102, rfl⟩
abbrev main_v85 : Ref sig .tc := ⟨.hbm, 103, rfl⟩
abbrev main_cst_9 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_10 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩

abbrev nD : Nat := 1
abbrev τ : Topo := Topo.v7x

variable {F : FTy → Type} [FloatOps F]
-- ==== Mod.lean ====
abbrev S1x16384x4096 : Shape := ⟨3, ![1, 16384, 4096]⟩
abbrev S1x4096 : Shape := ⟨2, ![1, 4096]⟩
abbrev S2x2x4096 : Shape := ⟨3, ![2, 2, 4096]⟩
abbrev S1x1x4096 : Shape := ⟨3, ![1, 1, 4096]⟩
abbrev S4096 : Shape := ⟨1, ![4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S1x16384x4096, .f32⟩
  | .hbm, ⟨1, _⟩ => ⟨S1x16384x4096, .f32⟩
  | .hbm, ⟨2, _⟩ => ⟨S1x4096, .f32⟩
  | .hbm, ⟨3, _⟩ => ⟨S2x2x4096, .f32⟩
  | .hbm, ⟨4, _⟩ => ⟨S1x4096, .f32⟩
  | .hbm, ⟨5, _⟩ => ⟨S1x4096, .f32⟩
  | .hbm, ⟨6, _⟩ => ⟨S1x1x4096, .f32⟩
  | .hbm, ⟨7, _⟩ => ⟨S4096, .f32⟩
  | .hbm, ⟨8, _⟩ => ⟨S1x4096, .f32⟩
  | .hbm, ⟨9, _⟩ => ⟨S1x1x4096, .f32⟩
  | .hbm, ⟨10, _⟩ => ⟨S1x1x4096, .f32⟩
  | .hbm, ⟨11, _⟩ => ⟨S1x1x4096, .f32⟩
  | .hbm, ⟨12, _⟩ => ⟨S1x16384x4096, .f32⟩
  | .hbm, ⟨13, _⟩ => ⟨S1x16384x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x256x4096, .f32⟩
  | .local _ .vmem, ⟨9, _⟩ => ⟨S1x256x4096, .f32⟩
  | .local _ .vmem, ⟨10, _⟩ => ⟨S1x256x4096, .f32⟩
  | .local _ .vmem, ⟨11, _⟩ => ⟨S1x256x4096, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ModRefIdeal.lean ====
abbrev S1x16384x4096 : Shape := ⟨3, ![1, 16384, 4096]⟩
abbrev S1x4096 : Shape := ⟨2, ![1, 4096]⟩
abbrev S2x2x4096 : Shape := ⟨3, ![2, 2, 4096]⟩
abbrev S1x1x4096 : Shape := ⟨3, ![1, 1, 4096]⟩
abbrev S4096 : Shape := ⟨1, ![4096]⟩
abbrev S_ : Shape := ⟨0, ![]⟩
abbrev S1x16384 : Shape := ⟨2, ![1, 16384]⟩
abbrev S1x16384x1 : Shape := ⟨3, ![1, 16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x16384x4096, .f32⟩
  | .hbm, ⟨2, _⟩ => ⟨S1x4096, .f32⟩
  | .hbm, ⟨3, _⟩ => ⟨S2x2x4096, .f32⟩
  | .hbm, ⟨4, _⟩ => ⟨S1x4096, .f32⟩
  | .hbm, ⟨5, _⟩ => ⟨S1x4096, .f32⟩
  | .hbm, ⟨6, _⟩ => ⟨S1x1x4096, .f32⟩
  | .hbm, ⟨7, _⟩ => ⟨S1x16384x4096, .f32⟩
  | .hbm, ⟨8, _⟩ => ⟨S1x16384x4096, .f32⟩
  | .hbm, ⟨9, _⟩ => ⟨S1x16384x4096, .f32⟩
  | .hbm, ⟨10, _⟩ => ⟨S1x1x4096, .f32⟩
  | .hbm, ⟨11, _⟩ => ⟨S4096, .f32⟩
  | .hbm, ⟨12, _⟩ => ⟨S1x16384x4096, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x4096, .f32⟩
  | .hbm, ⟨24, _⟩ => ⟨S1x16384x4096, .f32⟩
  | .hbm, ⟨25, _⟩ => ⟨S1x1x4096, .f32⟩
  | .hbm, ⟨26, _⟩ => ⟨S1x16384x4096, .f32⟩
  | .hbm, ⟨27, _⟩ => ⟨S1x16384x4096, .f32⟩
  | .hbm, ⟨28, _⟩ => ⟨S1x1x4096, .f32⟩
  | .hbm, ⟨29, _⟩ => ⟨S_, .f32⟩
  | .hbm, ⟨30, _⟩ => ⟨S1x1x4096, .f32⟩
  | .hbm, ⟨31, _⟩ => ⟨S1x1x4096, .f32⟩
  | .hbm, ⟨32, _⟩ => ⟨S1x16384x4096, .f32⟩
  | .hbm, ⟨33, _⟩ => ⟨S1x16384x4096, .f32⟩
  | .hbm, ⟨34, _⟩ => ⟨S1x1x4096, .f32⟩
  | .hbm, ⟨35, _⟩ => ⟨S1x16384x4096, .f32⟩
  | .hbm, ⟨36, _⟩ => ⟨S1x16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Turned.lean ====
abbrev S1x16384x4096 : Shape := ⟨3, ![1, 16384, 4096]⟩
abbrev S2x2x4096 : Shape := ⟨3, ![2, 2, 4096]⟩
abbrev S1x4096 : Shape := ⟨2, ![1, 4096]⟩
abbrev S1x1x4096 : Shape := ⟨3, ![1, 1, 4096]⟩
abbrev S4096 : Shape := ⟨1, ![4096]⟩
abbrev S4096x16384 : Shape := ⟨2, ![4096, 16384]⟩
abbrev S1x256x4096 : Shape := ⟨3, ![1, 256, 4096]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S1x16384x4096, .f32⟩
  | .hbm, ⟨1, _⟩ => ⟨S2x2x4096, .f32⟩
  | .hbm, ⟨2, _⟩ => ⟨S1x4096, .f32⟩
  | .hbm, ⟨3, _⟩ => ⟨S1x4096, .f32⟩
  | .hbm, ⟨4, _⟩ => ⟨S1x1x4096, .f32⟩
  | .hbm, ⟨5, _⟩ => ⟨S4096, .f32⟩
  | .hbm, ⟨6, _⟩ => ⟨S1x4096, .f32⟩
  | .hbm, ⟨7, _⟩ => ⟨S1x1x4096, .f32⟩
  | .hbm, ⟨8, _⟩ => ⟨S1x1x4096, .f32⟩
  | .hbm, ⟨9, _⟩ => ⟨S4096x16384, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S4096x256, .bf16⟩
  | .local _ .vmem, ⟨6, _⟩ => ⟨S4096x256, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== TurnedRefIdeal.lean ====
abbrev S1x16384x4096 : Shape := ⟨3, ![1, 16384, 4096]⟩
abbrev S2x2x4096 : Shape := ⟨3, ![2, 2, 4096]⟩
abbrev S1x4096 : Shape := ⟨2, ![1, 4096]⟩
abbrev S1x1x4096 : Shape := ⟨3, ![1, 1, 4096]⟩
abbrev S4096 : Shape := ⟨1, ![4096]⟩
abbrev S_ : Shape := ⟨0, ![]⟩
abbrev S1x16384 : Shape := ⟨2, ![1, 16384]⟩
abbrev S1x16384x1 : Shape := ⟨3, ![1, 16384, 1]⟩
abbrev S16384x4096 : Shape := ⟨2, ![16384, 4096]⟩
abbrev S4096x16384 : Shape := ⟨2, ![4096, 16384]⟩

abbrev nBuf : Space → Nat
  | .hbm => 34
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S2x2x4096, .f32⟩
  | .hbm, ⟨2, _⟩ => ⟨S1x4096, .f32⟩
  | .hbm, ⟨3, _⟩ => ⟨S1x4096, .f32⟩
  | .hbm, ⟨4, _⟩ => ⟨S1x1x4096, .f32⟩
  | .hbm, ⟨5, _⟩ => ⟨S4096, .f32⟩
  | .hbm, ⟨6, _⟩ => ⟨S1x16384x4096, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x4096, .f32⟩
  | .hbm, ⟨18, _⟩ => ⟨S1x16384x4096, .f32⟩
  | .hbm, ⟨19, _⟩ => ⟨S1x1x4096, .f32⟩
  | .hbm, ⟨20, _⟩ => ⟨S1x16384x4096, .f32⟩
  | .hbm, ⟨21, _⟩ => ⟨S1x16384x4096, .f32⟩
  | .hbm, ⟨22, _⟩ => ⟨S1x1x4096, .f32⟩
  | .hbm, ⟨23, _⟩ => ⟨S_, .f32⟩
  | .hbm, ⟨24, _⟩ => ⟨S1x1x4096, .f32⟩
  | .hbm, ⟨25, _⟩ => ⟨S1x1x4096, .f32⟩
  | .hbm, ⟨26, _⟩ => ⟨S1x16384x4096, .f32⟩
  | .hbm, ⟨27, _⟩ => ⟨S1x16384x4096, .f32⟩
  | .hbm, ⟨28, _⟩ => ⟨S1x1x4096, .f32⟩
  | .hbm, ⟨29, _⟩ => ⟨S1x16384x4096, .f32⟩
  | .hbm, ⟨30, _⟩ => ⟨S1x16384x4096, .f32⟩
  | .hbm, ⟨31, _⟩ => ⟨S16384x4096, .f32⟩
  | .hbm, ⟨32, _⟩ => ⟨S4096x16384, .f32⟩
  | .hbm, ⟨33, _⟩ => ⟨S4096x16384, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Shift.lean ====
abbrev S1x16384x4096 : Shape := ⟨3, ![1, 16384, 4096]⟩
abbrev S1x6x4096 : Shape := ⟨3, ![1, 6, 4096]⟩
abbrev S6x4096 : Shape := ⟨2, ![6, 4096]⟩
abbrev S1x256x512 : Shape := ⟨3, ![1, 256, 512]⟩
abbrev S1x8x512 : Shape := ⟨3, ![1, 8, 512]⟩
abbrev S6x512 : Shape := ⟨2, ![6, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 9
  | .vmem => 20
  | .smem => 0
  | _ => 0

abbrev bufTy : (tb : Table) → Fin (tcTables nBuf tb) → BufTy
  | .hbm, ⟨0, _⟩ => ⟨S1x16384x4096, .f32⟩
  | .hbm, ⟨1, _⟩ => ⟨S1x6x4096, .f32⟩
  | .hbm, ⟨2, _⟩ => ⟨S6x4096, .f32⟩
  | .hbm, ⟨3, _⟩ => ⟨S1x16384x4096, .bf16⟩
  | .hbm, ⟨4, _⟩ => ⟨S1x16384x4096, .bf16⟩
  | .hbm, ⟨5, _⟩ => ⟨S1x16384x4096, .bf16⟩
  | .hbm, ⟨6, _⟩ => ⟨S1x16384x4096, .bf16⟩
  | .hbm, ⟨7, _⟩ => ⟨S1x16384x4096, .bf16⟩
  | .hbm, ⟨8, _⟩ => ⟨S1x16384x4096, .bf16⟩
  | .local _ .vmem, ⟨0, _⟩ => ⟨S1x256x512, .f32⟩
  | .local _ .vmem, ⟨1, _⟩ => ⟨S1x256x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S6x512, .f32⟩
  | .local _ .vmem, ⟨7, _⟩ => ⟨S6x512, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![1, 64, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ShiftRefIdeal.lean ====
abbrev S1x16384x4096 : Shape := ⟨3, ![1, 16384, 4096]⟩
abbrev S1x6x4096 : Shape := ⟨3, ![1, 6, 4096]⟩
abbrev S_ : Shape := ⟨0, ![]⟩
abbrev S1x16386x4096 : Shape := ⟨3, ![1, 16386, 4096]⟩
abbrev S6x4096 : Shape := ⟨2, ![6, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x6x4096, .f32⟩
  | .hbm, ⟨2, _⟩ => ⟨S_, .i32⟩
  | .hbm, ⟨3, _⟩ => ⟨S_, .f32⟩
  | .hbm, ⟨4, _⟩ => ⟨S1x16386x4096, .f32⟩
  | .hbm, ⟨5, _⟩ => ⟨S1x16384x4096, .f32⟩
  | .hbm, ⟨6, _⟩ => ⟨S1x16384x4096, .f32⟩
  | .hbm, ⟨7, _⟩ => ⟨S1x16384x4096, .f32⟩
  | .hbm, ⟨8, _⟩ => ⟨S_, .f32⟩
  | .hbm, ⟨9, _⟩ => ⟨S1x16384x4096, .f32⟩
  | .hbm, ⟨10, _⟩ => ⟨S1x16384x4096, .f32⟩
  | .hbm, ⟨11, _⟩ => ⟨S1x16384x4096, .f32⟩
  | .hbm, ⟨12, _⟩ => ⟨S6x4096, .f32⟩
  | .hbm, ⟨13, _⟩ => ⟨S1x4096, .f32⟩
  | .hbm, ⟨14, _⟩ => ⟨S4096, .f32⟩
  | .hbm, ⟨15, _⟩ => ⟨S1x1x4096, .f32⟩
  | .hbm, ⟨16, _⟩ => ⟨S1x16384x4096, .f32⟩
  | .hbm, ⟨17, _⟩ => ⟨S1x16384x4096, .f32⟩
  | .hbm, ⟨18, _⟩ => ⟨S1x16384x4096, .f32⟩
  | .hbm, ⟨19, _⟩ => ⟨S1x16384x4096, .bf16⟩
  | .hbm, ⟨20, _⟩ => ⟨S6x4096, .f32⟩
  | .hbm, ⟨21, _⟩ => ⟨S1x4096, .f32⟩
  | .hbm, ⟨22, _⟩ => ⟨S4096, .f32⟩
  | .hbm, ⟨23, _⟩ => ⟨S1x1x4096, .f32⟩
  | .hbm, ⟨24, _⟩ => ⟨S1x16384x4096, .f32⟩
  | .hbm, ⟨25, _⟩ => ⟨S1x16384x4096, .f32⟩
  | .hbm, ⟨26, _⟩ => ⟨S1x16384x4096, .f32⟩
  | .hbm, ⟨27, _⟩ => ⟨S1x16384x4096, .bf16⟩
  | .hbm, ⟨28, _⟩ => ⟨S6x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S1x16384x4096, .f32⟩
  | .hbm, ⟨33, _⟩ => ⟨S1x16384x4096, .f32⟩
  | .hbm, ⟨34, _⟩ => ⟨S1x16384x4096, .f32⟩
  | .hbm, ⟨35, _⟩ => ⟨S1x16384x4096, .bf16⟩
  | .hbm, ⟨36, _⟩ => ⟨S6x4096, .f32⟩
  | .hbm, ⟨37, _⟩ => ⟨S1x4096, .f32⟩
  | .hbm, ⟨38, _⟩ => ⟨S4096, .f32⟩
  | .hbm, ⟨39, _⟩ => ⟨S1x1x4096, .f32⟩
  | .hbm, ⟨40, _⟩ => ⟨S1x16384x4096, .f32⟩
  | .hbm, ⟨41, _⟩ => ⟨S1x16384x4096, .f32⟩
  | .hbm, ⟨42, _⟩ => ⟨S1x16384x4096, .f32⟩
  | .hbm, ⟨43, _⟩ => ⟨S1x16384x4096, .bf16⟩
  | .hbm, ⟨44, _⟩ => ⟨S6x4096, .f32⟩
  | .hbm, ⟨45, _⟩ => ⟨S1x4096, .f32⟩
  | .hbm, ⟨46, _⟩ => ⟨S4096, .f32⟩
  | .hbm, ⟨47, _⟩ => ⟨S1x1x4096, .f32⟩
  | .hbm, ⟨48, _⟩ => ⟨S1x16384x4096, .f32⟩
  | .hbm, ⟨49, _⟩ => ⟨S1x16384x4096, .f32⟩
  | .hbm, ⟨50, _⟩ => ⟨S1x16384x4096, .f32⟩
  | .hbm, ⟨51, _⟩ => ⟨S1x16384x4096, .bf16⟩
  | .hbm, ⟨52, _⟩ => ⟨S6x4096, .f32⟩
  | .hbm, ⟨53, _⟩ => ⟨S1x4096, .f32⟩
  | .hbm, ⟨54, _⟩ => ⟨S4096, .f32⟩
  | .hbm, ⟨55, _⟩ => ⟨S1x1x4096, .f32⟩
  | .hbm, ⟨56, _⟩ => ⟨S1x16384x4096, .f32⟩
  | .hbm, ⟨57, _⟩ => ⟨S1x16384x4096, .f32⟩
  | .hbm, ⟨58, _⟩ => ⟨S1x16384x4096, .f32⟩
  | .hbm, ⟨59, _⟩ => ⟨S1x16384x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩

abbrev nD : Nat := 1
abbrev τ : Topo := Topo.v7x

variable {F : FTy → Type} [FloatOps F]
-- ==== Gateup.lean ====
abbrev S1x16384x4096 : Shape := ⟨3, ![1, 16384, 4096]⟩
abbrev S1x4096x480 : Shape := ⟨3, ![1, 4096, 480]⟩
abbrev S16384x4096 : Shape := ⟨2, ![16384, 4096]⟩
abbrev S4096x480 : Shape := ⟨2, ![4096, 480]⟩
abbrev S16384x480 : Shape := ⟨2, ![16384, 480]⟩
abbrev S1024x4096 : Shape := ⟨2, ![1024, 4096]⟩
abbrev S1024x480 : Shape := ⟨2, ![1024, 480]⟩

abbrev nBuf : Space → Nat
  | .hbm => 7
  | .vmem => 5
  | .smem => 0
  | _ => 0

abbrev bufTy : (tb : Table) → Fin (tcTables nBuf tb) → BufTy
  | .hbm, ⟨0, _⟩ => ⟨S1x16384x4096, .f32⟩
  | .hbm, ⟨1, _⟩ => ⟨S1x4096x480, .f32⟩
  | .hbm, ⟨2, _⟩ => ⟨S16384x4096, .f32⟩
  | .hbm, ⟨3, _⟩ => ⟨S16384x4096, .bf16⟩
  | .hbm, ⟨4, _⟩ => ⟨S4096x480, .f32⟩
  | .hbm, ⟨5, _⟩ => ⟨S4096x480, .bf16⟩
  | .hbm, ⟨6, _⟩ => ⟨S16384x480, .f32⟩
  | .local _ .vmem, ⟨0, _⟩ => ⟨S1024x4096, .bf16⟩
  | .local _ .vmem, ⟨1, _⟩ => ⟨S1024x4096, .bf16⟩
  | .local _ .vmem, ⟨2, _⟩ => ⟨S4096x480, .bf16⟩
  | .local _ .vmem, ⟨3, _⟩ => ⟨S1024x480, .f32⟩
  | .local _ .vmem, ⟨4, _⟩ => ⟨S1024x480, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x480 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateupRefIdeal.lean ====
abbrev S1x16384x4096 : Shape := ⟨3, ![1, 16384, 4096]⟩
abbrev S1x4096x480 : Shape := ⟨3, ![1, 4096, 480]⟩
abbrev S4096x480 : Shape := ⟨2, ![4096, 480]⟩
abbrev S1x16384x480 : Shape := ⟨3, ![1, 16384, 480]⟩
abbrev S16384x480 : Shape := ⟨2, ![16384, 480]⟩

abbrev nBuf : Space → Nat
  | .hbm => 5
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x480, .f32⟩
  | .hbm, ⟨2, _⟩ => ⟨S4096x480, .f32⟩
  | .hbm, ⟨3, _⟩ => ⟨S1x16384x480, .f32⟩
  | .hbm, ⟨4, _⟩ => ⟨S16384x480, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S16384x480 : Shape := ⟨2, ![16384, 480]⟩
abbrev S1x480x4096 : Shape := ⟨3, ![1, 480, 4096]⟩
abbrev S480x4096 : Shape := ⟨2, ![480, 4096]⟩
abbrev S16384x4096 : Shape := ⟨2, ![16384, 4096]⟩
abbrev S1024x480 : Shape := ⟨2, ![1024, 480]⟩
abbrev S480x512 : Shape := ⟨2, ![480, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x480, .f32⟩
  | .hbm, ⟨1, _⟩ => ⟨S1x480x4096, .f32⟩
  | .hbm, ⟨2, _⟩ => ⟨S480x4096, .f32⟩
  | .hbm, ⟨3, _⟩ => ⟨S480x4096, .bf16⟩
  | .hbm, ⟨4, _⟩ => ⟨S16384x4096, .f32⟩
  | .local _ .vmem, ⟨0, _⟩ => ⟨S1024x480, .f32⟩
  | .local _ .vmem, ⟨1, _⟩ => ⟨S1024x480, .f32⟩
  | .local _ .vmem, ⟨2, _⟩ => ⟨S480x512, .bf16⟩
  | .local _ .vmem, ⟨3, _⟩ => ⟨S480x512, .bf16⟩
  | .local _ .vmem, ⟨4, _⟩ => ⟨S1024x512, .f32⟩
  | .local _ .vmem, ⟨5, _⟩ => ⟨S1024x512, .f32⟩
  | _, _ => ⟨S16384x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S480x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S16384x480 : Shape := ⟨2, ![16384, 480]⟩
abbrev S1x480x4096 : Shape := ⟨3, ![1, 480, 4096]⟩
abbrev S_ : Shape := ⟨0, ![]⟩
abbrev S480x4096 : Shape := ⟨2, ![480, 4096]⟩
abbrev S16384x4096 : Shape := ⟨2, ![16384, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x480, .f32⟩
  | .hbm, ⟨1, _⟩ => ⟨S1x480x4096, .f32⟩
  | .hbm, ⟨2, _⟩ => ⟨S16384x480, .f32⟩
  | .hbm, ⟨3, _⟩ => ⟨S16384x480, .f32⟩
  | .hbm, ⟨4, _⟩ => ⟨S_, .f32⟩
  | .hbm, ⟨5, _⟩ => ⟨S16384x480, .f32⟩
  | .hbm, ⟨6, _⟩ => ⟨S16384x480, .f32⟩
  | .hbm, ⟨7, _⟩ => ⟨S_, .f32⟩
  | .hbm, ⟨8, _⟩ => ⟨S16384x480, .f32⟩
  | .hbm, ⟨9, _⟩ => ⟨S16384x480, .f32⟩
  | .hbm, ⟨10, _⟩ => ⟨S480x4096, .f32⟩
  | .hbm, ⟨11, _⟩ => ⟨S16384x4096, .f32⟩
  | _, _ => ⟨S16384x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Lora.lean ====
abbrev S1x16384x4096 : Shape := ⟨3, ![1, 16384, 4096]⟩
abbrev S1x2x4096x128 : Shape := ⟨4, ![1, 2, 4096, 128]⟩
abbrev S2x4096x128 : Shape := ⟨3, ![2, 4096, 128]⟩
abbrev S16384x4096 : Shape := ⟨2, ![16384, 4096]⟩
abbrev S1x4096x128 : Shape := ⟨3, ![1, 4096, 128]⟩
abbrev S4096x128 : Shape := ⟨2, ![4096, 128]⟩
abbrev S4096x256 : Shape := ⟨2, ![4096, 256]⟩
abbrev S16384x256 : Shape := ⟨2, ![16384, 256]⟩
abbrev S1024x4096 : Shape := ⟨2, ![1024, 4096]⟩
abbrev S1024x256 : Shape := ⟨2, ![1024, 256]⟩

abbrev nBuf : Space → Nat
  | .hbm => 12
  | .vmem => 5
  | .smem => 0
  | _ => 0

abbrev bufTy : (tb : Table) → Fin (tcTables nBuf tb) → BufTy
  | .hbm, ⟨0, _⟩ => ⟨S1x16384x4096, .f32⟩
  | .hbm, ⟨1, _⟩ => ⟨S1x2x4096x128, .f32⟩
  | .hbm, ⟨2, _⟩ => ⟨S2x4096x128, .f32⟩
  | .hbm, ⟨3, _⟩ => ⟨S2x4096x128, .bf16⟩
  | .hbm, ⟨4, _⟩ => ⟨S16384x4096, .f32⟩
  | .hbm, ⟨5, _⟩ => ⟨S16384x4096, .bf16⟩
  | .hbm, ⟨6, _⟩ => ⟨S1x4096x128, .bf16⟩
  | .hbm, ⟨7, _⟩ => ⟨S4096x128, .bf16⟩
  | .hbm, ⟨8, _⟩ => ⟨S1x4096x128, .bf16⟩
  | .hbm, ⟨9, _⟩ => ⟨S4096x128, .bf16⟩
  | .hbm, ⟨10, _⟩ => ⟨S4096x256, .bf16⟩
  | .hbm, ⟨11, _⟩ => ⟨S16384x256, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LoraRefIdeal.lean ====
abbrev S1x16384x4096 : Shape := ⟨3, ![1, 16384, 4096]⟩
abbrev S1x2x4096x128 : Shape := ⟨4, ![1, 2, 4096, 128]⟩
abbrev S2x4096x128 : Shape := ⟨3, ![2, 4096, 128]⟩
abbrev S1x4096x128 : Shape := ⟨3, ![1, 4096, 128]⟩
abbrev S4096x128 : Shape := ⟨2, ![4096, 128]⟩
abbrev S1x16384x128 : Shape := ⟨3, ![1, 16384, 128]⟩
abbrev S1x16384x256 : Shape := ⟨3, ![1, 16384, 256]⟩
abbrev S16384x256 : Shape := ⟨2, ![16384, 256]⟩

abbrev nBuf : Space → Nat
  | .hbm => 12
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x2x4096x128, .f32⟩
  | .hbm, ⟨2, _⟩ => ⟨S2x4096x128, .f32⟩
  | .hbm, ⟨3, _⟩ => ⟨S1x4096x128, .f32⟩
  | .hbm, ⟨4, _⟩ => ⟨S4096x128, .f32⟩
  | .hbm, ⟨5, _⟩ => ⟨S1x16384x128, .f32⟩
  | .hbm, ⟨6, _⟩ => ⟨S2x4096x128, .f32⟩
  | .hbm, ⟨7, _⟩ => ⟨S1x4096x128, .f32⟩
  | .hbm, ⟨8, _⟩ => ⟨S4096x128, .f32⟩
  | .hbm, ⟨9, _⟩ => ⟨S1x16384x128, .f32⟩
  | .hbm, ⟨10, _⟩ => ⟨S1x16384x256, .f32⟩
  | .hbm, ⟨11, _⟩ => ⟨S16384x256, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Decay.lean ====
abbrev S16384x128 : Shape := ⟨2, ![16384, 128]⟩
abbrev S1x4096 : Shape := ⟨2, ![1, 4096]⟩
abbrev S1x128x4096 : Shape := ⟨3, ![1, 128, 4096]⟩
abbrev S128x4096 : Shape := ⟨2, ![128, 4096]⟩
abbrev S4096 : Shape := ⟨1, ![4096]⟩
abbrev S16384x4096 : Shape := ⟨2, ![16384, 4096]⟩
abbrev S1024x128 : Shape := ⟨2, ![1024, 128]⟩
abbrev S128x512 : Shape := ⟨2, ![128, 512]⟩
abbrev S1x512 : Shape := ⟨2, ![1, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S1x4096, .f32⟩
  | .hbm, ⟨2, _⟩ => ⟨S1x128x4096, .f32⟩
  | .hbm, ⟨3, _⟩ => ⟨S128x4096, .f32⟩
  | .hbm, ⟨4, _⟩ => ⟨S128x4096, .bf16⟩
  | .hbm, ⟨5, _⟩ => ⟨S4096, .f32⟩
  | .hbm, ⟨6, _⟩ => ⟨S1x4096, .f32⟩
  | .hbm, ⟨7, _⟩ => ⟨S16384x4096, .f32⟩
  | .local _ .vmem, ⟨0, _⟩ => ⟨S1024x128, .f32⟩
  | .local _ .vmem, ⟨1, _⟩ => ⟨S1024x128, .f32⟩
  | .local _ .vmem, ⟨2, _⟩ => ⟨S128x512, .bf16⟩
  | .local _ .vmem, ⟨3, _⟩ => ⟨S128x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DecayRefIdeal.lean ====
abbrev S16384x128 : Shape := ⟨2, ![16384, 128]⟩
abbrev S1x4096 : Shape := ⟨2, ![1, 4096]⟩
abbrev S1x128x4096 : Shape := ⟨3, ![1, 128, 4096]⟩
abbrev S4096 : Shape := ⟨1, ![4096]⟩
abbrev S128x4096 : Shape := ⟨2, ![128, 4096]⟩
abbrev S16384x4096 : Shape := ⟨2, ![16384, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x4096, .f32⟩
  | .hbm, ⟨2, _⟩ => ⟨S1x128x4096, .f32⟩
  | .hbm, ⟨3, _⟩ => ⟨S4096, .f32⟩
  | .hbm, ⟨4, _⟩ => ⟨S16384x128, .f32⟩
  | .hbm, ⟨5, _⟩ => ⟨S128x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .i1⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩

abbrev nD : Nat := 1
abbrev τ : Topo := Topo.v7x

variable {F : FTy → Type} [FloatOps F]
-- ==== Rate.lean ====
abbrev S16384x128 : Shape := ⟨2, ![16384, 128]⟩
abbrev S1x4096 : Shape := ⟨2, ![1, 4096]⟩
abbrev S1x128x4096 : Shape := ⟨3, ![1, 128, 4096]⟩
abbrev S128x4096 : Shape := ⟨2, ![128, 4096]⟩
abbrev S4096 : Shape := ⟨1, ![4096]⟩
abbrev S16384x4096 : Shape := ⟨2, ![16384, 4096]⟩
abbrev S1024x128 : Shape := ⟨2, ![1024, 128]⟩
abbrev S128x512 : Shape := ⟨2, ![128, 512]⟩
abbrev S1x512 : Shape := ⟨2, ![1, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S1x4096, .f32⟩
  | .hbm, ⟨2, _⟩ => ⟨S1x128x4096, .f32⟩
  | .hbm, ⟨3, _⟩ => ⟨S128x4096, .f32⟩
  | .hbm, ⟨4, _⟩ => ⟨S128x4096, .bf16⟩
  | .hbm, ⟨5, _⟩ => ⟨S4096, .f32⟩
  | .hbm, ⟨6, _⟩ => ⟨S1x4096, .f32⟩
  | .hbm, ⟨7, _⟩ => ⟨S16384x4096, .f32⟩
  | .local _ .vmem, ⟨0, _⟩ => ⟨S1024x128, .f32⟩
  | .local _ .vmem, ⟨1, _⟩ => ⟨S1024x128, .f32⟩
  | .local _ .vmem, ⟨2, _⟩ => ⟨S128x512, .bf16⟩
  | .local _ .vmem, ⟨3, _⟩ => ⟨S128x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RateRefIdeal.lean ====
abbrev S16384x128 : Shape := ⟨2, ![16384, 128]⟩
abbrev S1x4096 : Shape := ⟨2, ![1, 4096]⟩
abbrev S1x128x4096 : Shape := ⟨3, ![1, 128, 4096]⟩
abbrev S4096 : Shape := ⟨1, ![4096]⟩
abbrev S128x4096 : Shape := ⟨2, ![128, 4096]⟩
abbrev S16384x4096 : Shape := ⟨2, ![16384, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x4096, .f32⟩
  | .hbm, ⟨2, _⟩ => ⟨S1x128x4096, .f32⟩
  | .hbm, ⟨3, _⟩ => ⟨S4096, .f32⟩
  | .hbm, ⟨4, _⟩ => ⟨S128x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Conv.lean ====
abbrev S1x16384x9216 : Shape := ⟨3, ![1, 16384, 9216]⟩
abbrev S1x3x6144 : Shape := ⟨3, ![1, 3, 6144]⟩
abbrev S1x6144 : Shape := ⟨2, ![1, 6144]⟩
abbrev S1x2048 : Shape := ⟨2, ![1, 2048]⟩
abbrev S3x6144 : Shape := ⟨2, ![3, 6144]⟩
abbrev S6144 : Shape := ⟨1, ![6144]⟩
abbrev S2048 : Shape := ⟨1, ![2048]⟩
abbrev S1x16384x2048 : Shape := ⟨3, ![1, 16384, 2048]⟩
abbrev S1x256x512 : Shape := ⟨3, ![1, 256, 512]⟩
abbrev S1x8x512 : Shape := ⟨3, ![1, 8, 512]⟩
abbrev S3x512 : Shape := ⟨2, ![3, 512]⟩
abbrev S1x512 : Shape := ⟨2, ![1, 512]⟩
abbrev S256x512 : Shape := ⟨2, ![256, 512]⟩
abbrev S1x1x512 : Shape := ⟨3, ![1, 1, 512]⟩

abbrev nBuf : Space → Nat
  | .hbm => 12
  | .vmem => 38
  | .smem => 0
  | _ => 0

abbrev bufTy : (tb : Table) → Fin (tcTables nBuf tb) → BufTy
  | .hbm, ⟨0, _⟩ => ⟨S1x16384x9216, .f32⟩
  | .hbm, ⟨1, _⟩ => ⟨S1x3x6144, .f32⟩
  | .hbm, ⟨2, _⟩ => ⟨S1x6144, .f32⟩
  | .hbm, ⟨3, _⟩ => ⟨S1x2048, .f32⟩
  | .hbm, ⟨4, _⟩ => ⟨S3x6144, .f32⟩
  | .hbm, ⟨5, _⟩ => ⟨S6144, .f32⟩
  | .hbm, ⟨6, _⟩ => ⟨S1x6144, .f32⟩
  | .hbm, ⟨7, _⟩ => ⟨S2048, .f32⟩
  | .hbm, ⟨8, _⟩ => ⟨S1x2048, .f32⟩
  | .hbm, ⟨9, _⟩ => ⟨S1x16384x2048, .f32⟩
  | .hbm, ⟨10, _⟩ => ⟨S1x16384x2048, .f32⟩
  | .hbm, ⟨11, _⟩ => ⟨S1x16384x2048, .f32⟩
  | .local _ .vmem, ⟨0, _⟩ => ⟨S1x256x512, .f32⟩
  | .local _ .vmem, ⟨1, _⟩ => ⟨S1x256x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x256x512, .f32⟩
  | .local _ .vmem, ⟨7, _⟩ => ⟨S1x256x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x256x512, .f32⟩
  | .local _ .vmem, ⟨13, _⟩ => ⟨S1x256x512, .f32⟩
  | .local _ .vmem, ⟨14, _⟩ => ⟨S1x8x512, .f32⟩
  | .local _ .vmem, ⟨15, _⟩ => ⟨S1x8x512, .f32⟩
  | .local _ .vmem, ⟨16, _⟩ => ⟨S1x8x512, .f32⟩
  | .local _ .vmem, ⟨17, _⟩ => ⟨S1x8x512, .f32⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S3x512, .f32⟩
  | .local _ .vmem, ⟨23, _⟩ => ⟨S3x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x256x512, .f32⟩
  | .local _ .vmem, ⟨33, _⟩ => ⟨S1x256x512, .f32⟩
  | .local _ .vmem, ⟨34, _⟩ => ⟨S1x256x512, .f32⟩
  | .local _ .vmem, ⟨35, _⟩ => ⟨S1x256x512, .f32⟩
  | .local _ .vmem, ⟨36, _⟩ => ⟨S1x256x512, .f32⟩
  | .local _ .vmem, ⟨37, _⟩ => ⟨S1x256x512, .f32⟩
  | _, _ => ⟨S1x16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![1, 64, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c2047_i32 : BitVec 32 := 2047#32
  let v2 : BitVec 32 := Scalar.minsi v1 c2047_i32
  let c6_i32 : BitVec 32 := 6#32
  let v3 : BitVec 32 := Scalar.addi c6_i32 arg2
  let c0_i32 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c2047_i32 : BitVec 32 := 2047#32
  let v2 : BitVec 32 := Scalar.minsi v1 c2047_i32
  let c10_i32 : BitVec 32 := 10#32
  let v3 : BitVec 32 := Scalar.addi c10_i32 arg2
  let c0_i32 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c14_i32 : BitVec 32 := 14#32
  let v3 : BitVec 32 := Scalar.addi c14_i32 arg2
  let c0_i32_0 : BitVec 32 := 0#32
  ![arg0.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c2047_i32 : BitVec 32 := 2047#32
  let v2 : BitVec 32 := Scalar.minsi v1 c2047_i32
  let c14_i32 : BitVec 32 := 14#32
  let v3 : BitVec 32 := Scalar.addi c14_i32 arg2
  let c0_i32 : BitVec 32 := 0#32
  ![arg0.toNat, v2.toNat, v3.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, false, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== ConvRefIdeal.lean ====
abbrev S1x16384x9216 : Shape := ⟨3, ![1, 16384, 9216]⟩
abbrev S1x3x6144 : Shape := ⟨3, ![1, 3, 6144]⟩
abbrev S1x6144 : Shape := ⟨2, ![1, 6144]⟩
abbrev S1x2048 : Shape := ⟨2, ![1, 2048]⟩
abbrev S1x16384x6144 : Shape := ⟨3, ![1, 16384, 6144]⟩
abbrev S3x6144 : Shape := ⟨2, ![3, 6144]⟩
abbrev S6144 : Shape := ⟨1, ![6144]⟩
abbrev S_ : Shape := ⟨0, ![]⟩
abbrev S1x16386x6144 : Shape := ⟨3, ![1, 16386, 6144]⟩
abbrev S1x1x6144 : Shape := ⟨3, ![1, 1, 6144]⟩
abbrev S1x16384x2048 : Shape := ⟨3, ![1, 16384, 2048]⟩
abbrev S2048 : Shape := ⟨1, ![2048]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S1x16384x9216, .f32⟩
  | .hbm, ⟨1, _⟩ => ⟨S1x3x6144, .f32⟩
  | .hbm, ⟨2, _⟩ => ⟨S1x6144, .f32⟩
  | .hbm, ⟨3, _⟩ => ⟨S1x2048, .f32⟩
  | .hbm, ⟨4, _⟩ => ⟨S1x16384x6144, .f32⟩
  | .hbm, ⟨5, _⟩ => ⟨S3x6144, .f32⟩
  | .hbm, ⟨6, _⟩ => ⟨S6144, .f32⟩
  | .hbm, ⟨7, _⟩ => ⟨S_, .i32⟩
  | .hbm, ⟨8, _⟩ => ⟨S_, .f32⟩
  | .hbm, ⟨9, _⟩ => ⟨S1x16386x6144, .f32⟩
  | .hbm, ⟨10, _⟩ => ⟨S1x16384x6144, .f32⟩
  | .hbm, ⟨11, _⟩ => ⟨S1x6144, .f32⟩
  | .hbm, ⟨12, _⟩ => ⟨S6144, .f32⟩
  | .hbm, ⟨13, _⟩ => ⟨S1x1x6144, .f32⟩
  | .hbm, ⟨14, _⟩ => ⟨S1x16384x6144, .f32⟩
  | .hbm, ⟨15, _⟩ => ⟨S1x16384x6144, .f32⟩
  | .hbm, ⟨16, _⟩ => ⟨S1x16384x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S1x16384x6144, .f32⟩
  | .hbm, ⟨21, _⟩ => ⟨S1x16384x6144, .f32⟩
  | .hbm, ⟨22, _⟩ => ⟨S1x16384x6144, .f32⟩
  | .hbm, ⟨23, _⟩ => ⟨S1x16384x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S1x16384x6144, .f32⟩
  | .hbm, ⟨28, _⟩ => ⟨S1x16384x6144, .f32⟩
  | .hbm, ⟨29, _⟩ => ⟨S1x16384x6144, .f32⟩
  | .hbm, ⟨30, _⟩ => ⟨S1x1x6144, .f32⟩
  | .hbm, ⟨31, _⟩ => ⟨S1x16384x6144, .f32⟩
  | .hbm, ⟨32, _⟩ => ⟨S1x16384x6144, .f32⟩
  | .hbm, ⟨33, _⟩ => ⟨S1x16384x2048, .f32⟩
  | .hbm, ⟨34, _⟩ => ⟨S1x16384x2048, .f32⟩
  | .hbm, ⟨35, _⟩ => ⟨S1x16384x2048, .f32⟩
  | .hbm, ⟨36, _⟩ => ⟨S1x16384x2048, .f32⟩
  | .hbm, ⟨37, _⟩ => ⟨S1x16384x2048, .f32⟩
  | .hbm, ⟨38, _⟩ => ⟨S2048, .f32⟩
  | .hbm, ⟨39, _⟩ => ⟨S1x1x2048, .f32⟩
  | .hbm, ⟨40, _⟩ => ⟨S1x16384x2048, .f32⟩
  | .hbm, ⟨41, _⟩ => ⟨S1x16384x2048, .f32⟩
  | .hbm, ⟨42, _⟩ => ⟨S1x16384x2048, .f32⟩
  | _, _ => ⟨S1x16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.Pipeline.ValueKit

/-!
# What the expert mixer computes, written on the extended reals

Expert `128 a + b` of a layer answers token `t` with its row of `v`, times the exact GELU of its row of `u`
against the token, times a gate: the sum over the eight heads of the product of two exponentials,
counted where the sum of the two keys' scores reaches the head's threshold.
-/

@[expose] public section

open Idealize.ShloMosaic

namespace Cert.Mixer

/-- The exact GELU, as the kernel writes it: `½ x (1 + erf (x c))`, the two constants being the printed
    words for `½` and `1/√2`. -/
noncomputable def gelu (x : EReal) : EReal :=
  (Ideal.ofBits FTy.f32 0x3F000000#32 * x) * (1 + FloatOps.erf (F := Ideal) (φ := .f32) (x * Ideal.ofBits FTy.f32 0x3F3504F3#32))

/-- One head's share of a gate: the product of the two exponentials where the pair of scores reaches the threshold. -/
noncomputable def share (tau s₁ s₂ e₁ e₂ : EReal) : EReal :=
  if tau ≤ s₁ + s₂ then e₁ * e₂ else 0

/-- Key `2 h` or `2 h + 1` among the sixteen rows of scores. -/
abbrev row1 (h : Fin 8) : Fin 16 := ⟨2 * h.val, by omega⟩
abbrev row2 (h : Fin 8) : Fin 16 := ⟨2 * h.val + 1, by omega⟩

/-- The gate of the expert at keys `(a, b)`, from functions that give scores, exponentials and thresholds of one token. -/
noncomputable def gate (s e : Fin 16 → Fin 128 → EReal) (tau : Fin 8 → EReal) (a b : Fin 128) : EReal :=
  ∑ h : Fin 8, share (tau h) (s (row1 h) a) (s (row2 h) b) (e (row1 h) a) (e (row2 h) b)

/-- Expert `128 a + b` is the one of key `a` in the first table and key `b` in the second. -/
abbrev expert (a b : Fin 128) : Fin 16384 := ⟨a.val * 128 + b.val, by omega⟩

/-- What expert `(a, b)` adds to one output column of one token: its output weight times its gate times the activation
of its key against the token. -/
noncomputable def answer (h : Fin 4096 → EReal) (u : Fin 16384 → Fin 4096 → EReal) (v : Fin 16384 → EReal) (s e : Fin 16 → Fin 128 → EReal)
    (tau : Fin 8 → EReal) (a b : Fin 128) : EReal :=
  v (expert a b) * (gate s e tau a b * gelu (∑ k : Fin 4096, u (expert a b) k * h k))

/-- The layer, for one token and output column: the sum over all experts. -/
noncomputable def mixed (h : Fin 4096 → EReal) (u : Fin 16384 → Fin 4096 → EReal) (v : Fin 16384 → EReal) (s e : Fin 16 → Fin 128 → EReal)
    (tau : Fin 8 → EReal) : EReal :=
  ∑ a : Fin 128, ∑ b : Fin 128, answer h u v s e tau a b

/-- The layer over its six arrays: activations, keys, output weights, scores, exponentials and thresholds. The keys and
output weights of two layers come stacked; the call is the second layer's. -/
noncomputable def layer (H : Vec Ideal ⟨2, ![16384, 4096]⟩ .f32) (U V : Vec Ideal ⟨3, ![2, 16384, 4096]⟩ .f32)
    (S E : Vec Ideal ⟨3, ![16, 128, 16384]⟩ .f32) (T : Vec Ideal ⟨2, ![8, 16384]⟩ .f32) (t : Fin 16384) (d : Fin 4096) : EReal :=
  mixed (fun k => H (ix2 t k)) (fun r k => U (ix3 1 r k)) (fun r => V (ix3 1 r d)) (fun r k => S (ix3 r k t))
    (fun r k => E (ix3 r k t)) (fun h => T (ix2 h t))

end Cert.Mixer
-- ==== Proof.Point.lean ====
module

public import proofs.«01_k».proof.Proof.Gen.KernelIdeal.Value
public import proofs.«01_k».proof.Proof.Spec

/-!
# What one grid point adds

At point `(i, j)` the scratch holds, for every output column `d` and token `t` of tile `i`, the sum over the
experts of the tiles before `j`; the point adds the `4 × 128` experts of tile `j`.
-/

@[expose] public section

open Idealize.ShloMosaic Idealize.SL
namespace Cert.KernelIdeal.Hand
open Cert.KernelIdeal Cert.KernelIdeal.Gen Cert.Mixer
set_option maxRecDepth 65536

/-- The first key of the point's `q`-th group of 128 experts. -/
abbrev key (i : grid0.Coords) (q : Fin 4) : Fin 128 :=
  ⟨4 * (i 1).val + q.val, by have h : (i 1).val < 32 := (i 1).isLt; omega⟩

/-- The word the body computes for the first key of half `A` and group `B` of the half: `2 (2 j + A) + B`. -/
abbrev keyWord (i : grid0.Coords) (A B : BitVec 32) : Nat :=
  (Scalar.indexCast (Scalar.addi (Scalar.muli (Scalar.addi (Scalar.muli 2#32 (BitVec.ofNat 32 (i 1).val)) A) 2#32) B)).toNat

/-- The word is the key, group by group. -/
theorem key_zero (i : grid0.Coords) (h : keyWord i 0#32 0#32 < 128) : (⟨keyWord i 0#32 0#32, h⟩ : Fin 128) = key i 0 :=
  Fin.ext (congrFun (k0_off1_eq i 0 0) 1)
/-- The key of the point's second group. -/
theorem key_one (i : grid0.Coords) (h : keyWord i 0#32 1#32 < 128) : (⟨keyWord i 0#32 1#32, h⟩ : Fin 128) = key i 1 :=
  Fin.ext (congrFun (k0_off1_eq i 0 1) 1)
/-- The key of the point's third group. -/
theorem key_two (i : grid0.Coords) (h : keyWord i 1#32 0#32 < 128) : (⟨keyWord i 1#32 0#32, h⟩ : Fin 128) = key i 2 :=
  Fin.ext (congrFun (k0_off1_eq i 1 0) 1)
/-- The key of the point's fourth group. -/
theorem key_three (i : grid0.Coords) (h : keyWord i 1#32 1#32 < 128) : (⟨keyWord i 1#32 1#32, h⟩ : Fin 128) = key i 3 :=
  Fin.ext (congrFun (k0_off1_eq i 1 1) 1)

/-- Row `128 q + b` of a block of 512 experts. -/
abbrev blkRow (q : Fin 4) (b : Fin 128) : Fin 512 := ⟨128 * q.val + b.val, by omega⟩

/-- What expert `b` of the point's group `q` answers token `t` with, in output column `d`. -/
noncomputable def unit (i : grid0.Coords) (x0 : Vec Ideal S1x512x4096 .bf16) (x1 : Vec Ideal S4096x512 .bf16) (x2 : Vec Ideal S1x4096x512 .bf16)
    (x3 : Vec Ideal S16x128x512 .f32) (x4 : Vec Ideal S16x128x512 .f32) (x5 : Vec Ideal S8x512 .f32) (d : Fin 4096) (t : Fin 512)
    (q : Fin 4) (b : Fin 128) : EReal :=
  x2 (ix3 0 d (blkRow q b)) *
    (gate (fun r k => x3 (ix3 r k t)) (fun r k => x4 (ix3 r k t)) (fun h => x5 (ix2 h t)) (key i q) b *
      gelu (∑ k : Fin 4096, x0 (ix3 0 (blkRow q b) k) * x1 (ix2 k t)))

/-- Rows of a block as the body numbers them, half by half and key by key. -/
theorem row_zero (b : Fin 128) (h : b.val < 512) : (⟨b.val, h⟩ : Fin 512) = blkRow 0 b := Fin.ext (by simp [blkRow])
/-- A row of the block's second group. -/
theorem row_one (b : Fin 128) (h : 128 + b.val < 512) : (⟨128 + b.val, h⟩ : Fin 512) = blkRow 1 b := Fin.ext (by simp [blkRow])
/-- A row of the block's third group. -/
theorem row_two (b : Fin 128) (h : 256 + b.val < 512) : (⟨256 + b.val, h⟩ : Fin 512) = blkRow 2 b := Fin.ext (by simp [blkRow])
/-- A row of the block's fourth group. -/
theorem row_three (b : Fin 128) (h : 256 + (128 + b.val) < 512) : (⟨256 + (128 + b.val), h⟩ : Fin 512) = blkRow 3 b :=
  Fin.ext (by simp [blkRow]; omega)

/-- The body adds the two halves one after the other. -/
theorem regroup (a b c d e : EReal) : (a + (b + c)) + (d + e) = a + (b + c + d + e) := by simp only [add_assoc]

variable (c : Dev nD) (i : grid0.Coords) (arg2 : Memref sig .tc .vmem S1x512x4096 .bf16) (harg2 : arg2.IsWhole) (arg3 : Memref sig .tc .vmem S4096x512 .bf16) (harg3 : arg3.IsWhole)
  (arg4 : Memref sig .tc .vmem S1x4096x512 .bf16) (harg4 : arg4.IsWhole) (arg5 : Memref sig .tc .vmem S16x128x512 .f32) (harg5 : arg5.IsWhole)
  (arg6 : Memref sig .tc .vmem S16x128x512 .f32) (harg6 : arg6.IsWhole) (arg7 : Memref sig .tc .vmem S8x512 .f32) (harg7 : arg7.IsWhole)
  (arg8 : Memref sig .tc .vmem S512x4096 .f32) (harg8 : arg8.IsWhole) (arg9 : Memref sig .tc .vmem S4096x512 .f32) (harg9 : arg9.IsWhole)
  (x0 : Vec Ideal S1x512x4096 .bf16) (x1 : Vec Ideal S4096x512 .bf16) (x2 : Vec Ideal S1x4096x512 .bf16) (x3 : Vec Ideal S16x128x512 .f32)
  (x4 : Vec Ideal S16x128x512 .f32) (x5 : Vec Ideal S8x512 .f32)

/-- A middle point of a token tile adds its experts to what the scratch held. -/
theorem sout_B (hc0 : ¬cond0_0 i) (hc1 : ¬cond0_1 i) (xs0 : Vec Ideal S4096x512 .f32) (d : Fin 4096) (t : Fin 512) :
    sout0_B_0 (F := Ideal) c i arg2 harg2 arg3 harg3 arg4 harg4 arg5 harg5 arg6 harg6 arg7 harg7 arg8 harg8 arg9 harg9 hc0 hc1 x0 x1 x2 x3 x4 x5 xs0 (ix2 d t) =
      xs0 (ix2 d t) + ∑ q : Fin 4, ∑ b : Fin 128, unit i x0 x1 x2 x3 x4 x5 d t q b := by
  rw [Fin.sum_univ_four, ← regroup]
  simp only [unit, gate, Fin.sum_univ_eight]
  frame_out
  unfold_payloads
  pointwise [k0_off1, k0_off2, k0_off3, k0_off4, k0_off5, k0_off6, k0_off7, k0_off8]
  simp only [key_zero, key_one, key_two, key_three, row_zero, row_one, row_two, row_three]
  refine congrArg₂ (fun a b : EReal => a + b) (congrArg₂ (fun a b : EReal => a + b) rfl (congrArg₂ (fun a b : EReal => a + b)
      (Finset.sum_congr rfl fun b _ => ?_) (Finset.sum_congr rfl fun b _ => ?_)))
    (congrArg₂ (fun a b : EReal => a + b) (Finset.sum_congr rfl fun b _ => ?_) (Finset.sum_congr rfl fun b _ => ?_))
  all_goals rfl

/-- So does the last point. -/
theorem sout_C (hc0 : ¬cond0_0 i) (hc1 : cond0_1 i) (xs0 : Vec Ideal S4096x512 .f32) (d : Fin 4096) (t : Fin 512) :
    sout0_C_0 (F := Ideal) c i arg2 harg2 arg3 harg3 arg4 harg4 arg5 harg5 arg6 harg6 arg7 harg7 arg8 harg8 arg9 harg9 hc0 hc1 x0 x1 x2 x3 x4 x5 xs0 (ix2 d t) =
      xs0 (ix2 d t) + ∑ q : Fin 4, ∑ b : Fin 128, unit i x0 x1 x2 x3 x4 x5 d t q b := by
  rw [Fin.sum_univ_four, ← regroup]
  simp only [unit, gate, Fin.sum_univ_eight]
  frame_out
  unfold_payloads
  pointwise [k0_off1, k0_off2, k0_off3, k0_off4, k0_off5, k0_off6, k0_off7, k0_off8]
  simp only [key_zero, key_one, key_two, key_three, row_zero, row_one, row_two, row_three]
  refine congrArg₂ (fun a b : EReal => a + b) (congrArg₂ (fun a b : EReal => a + b) rfl (congrArg₂ (fun a b : EReal => a + b)
      (Finset.sum_congr rfl fun b _ => ?_) (Finset.sum_congr rfl fun b _ => ?_)))
    (congrArg₂ (fun a b : EReal => a + b) (Finset.sum_congr rfl fun b _ => ?_) (Finset.sum_congr rfl fun b _ => ?_))
  all_goals rfl

/-- The first point adds them to zero. -/
theorem sout_A (hc0 : cond0_0 i) (hc1 : ¬cond0_1 i) (d : Fin 4096) (t : Fin 512) :
    sout0_A_0 (F := Ideal) c i arg2 harg2 arg3 harg3 arg4 harg4 arg5 harg5 arg6 harg6 arg7 harg7 arg8 harg8 arg9 harg9 hc0 hc1 x0 x1 x2 x3 x4 x5 (ix2 d t) =
      0 + ∑ q : Fin 4, ∑ b : Fin 128, unit i x0 x1 x2 x3 x4 x5 d t q b := by
  rw [Fin.sum_univ_four, ← regroup]
  simp only [unit, gate, Fin.sum_univ_eight]
  frame_out
  unfold_payloads
  pointwise [k0_off1, k0_off2, k0_off3, k0_off4, k0_off5, k0_off6, k0_off7, k0_off8]
  simp only [key_zero, key_one, key_two, key_three, row_zero, row_one, row_two, row_three]
  refine congrArg₂ (fun a b : EReal => a + b)
    (congrArg₂ (fun a b : EReal => a + b) (Finset.sum_congr rfl fun b _ => ?_) (Finset.sum_congr rfl fun b _ => ?_))
    (congrArg₂ (fun a b : EReal => a + b) (Finset.sum_congr rfl fun b _ => ?_) (Finset.sum_congr rfl fun b _ => ?_))
  all_goals rfl

end Cert.KernelIdeal.Hand
-- ==== Proof.Flush.lean ====
module

public import proofs.«01_k».proof.Proof.Gen.KernelIdeal.Value
public import proofs.«01_k».proof.Proof.Spec
public import Idealize.ShloMosaic.Lib.Pipeline.ReadBack

/-!
# What the last point of a token tile writes out
-/

@[expose] public section

open Idealize.ShloMosaic Idealize.SL
namespace Cert.KernelIdeal.Hand
open Cert.KernelIdeal Cert.KernelIdeal.Gen Cert.Mixer
set_option maxRecDepth 65536

variable (c : Dev nD) (i : grid0.Coords) (arg2 : Memref sig .tc .vmem S1x512x4096 .bf16) (harg2 : arg2.IsWhole) (arg3 : Memref sig .tc .vmem S4096x512 .bf16) (harg3 : arg3.IsWhole)
  (arg4 : Memref sig .tc .vmem S1x4096x512 .bf16) (harg4 : arg4.IsWhole) (arg5 : Memref sig .tc .vmem S16x128x512 .f32) (harg5 : arg5.IsWhole)
  (arg6 : Memref sig .tc .vmem S16x128x512 .f32) (harg6 : arg6.IsWhole) (arg7 : Memref sig .tc .vmem S8x512 .f32) (harg7 : arg7.IsWhole)
  (arg8 : Memref sig .tc .vmem S512x4096 .f32) (harg8 : arg8.IsWhole) (arg9 : Memref sig .tc .vmem S4096x512 .f32) (harg9 : arg9.IsWhole)
  (x0 : Vec Ideal S1x512x4096 .bf16) (x1 : Vec Ideal S4096x512 .bf16) (x2 : Vec Ideal S1x4096x512 .bf16) (x3 : Vec Ideal S16x128x512 .f32)
  (x4 : Vec Ideal S16x128x512 .f32) (x5 : Vec Ideal S8x512 .f32)

/-- A tile of 512 rows of the scratch, turned round: entry `(t, d)` of the result is entry `(d, t)` of the scratch. -/
theorem flip (X : Vec Ideal S4096x512 .f32) (o : Nat) (inb : ∀ a, (![o, 0] : Fin 2 → Nat) a + S512x512.size a ≤ S4096x512.size a)
    (x : S512x512.Idx) (d : Fin 4096) (t : Fin 512) (h0 : t.val = (x 0).val) (h1 : d.val = o + (x 1).val) :
    k0_pay2 (F := Ideal) (View.ld X (Rect.unit ![o, 0] S512x512.size inb)) x = X (ix2 d t) := by
  unfold k0_pay2
  refine congrArg X (funext fun a => Fin.ext ?_)
  fin_cases a
  · show o + 1 * (x 1).val = d.val; omega
  · show 0 + 1 * (x 0).val = t.val; omega

/-- The last point also writes the scratch it has just stored out, transposed. -/
theorem out_C (hc0 : ¬cond0_0 i) (hc1 : cond0_1 i) (xs0 : Vec Ideal S4096x512 .f32) (d : Fin 4096) (t : Fin 512) :
    out0_C_6 (F := Ideal) c i arg2 harg2 arg3 harg3 arg4 harg4 arg5 harg5 arg6 harg6 arg7 harg7 arg8 harg8 arg9 harg9 hc0 hc1 x0 x1 x2 x3 x4 x5 xs0 (ix2 t d) =
      sout0_C_0 (F := Ideal) c i arg2 harg2 arg3 harg3 arg4 harg4 arg5 harg5 arg6 harg6 arg7 harg7 arg8 harg8 arg9 harg9 hc0 hc1 x0 x1 x2 x3 x4 x5 xs0 (ix2 d t) := by
  frame_out
  simp (disch := decide) only [↓ View.readCov_fill]
  generalize k0_pay1 (F := Ideal) _ = X
  canon_tiles x h
  all_goals exact flip X _ _ x d t h0 (by first | exact h1 | exact h1.trans (Nat.zero_add _).symm)

end Cert.KernelIdeal.Hand
-- ==== Proof.Array.lean ====
module

public import proofs.«01_k».proof.Proof.Point
public import proofs.«01_k».proof.Proof.Flush

/-!
# What the kernel's result array holds

Grid point `32 I + j` works on token tile `I` and expert tile `j`. Over `j` the scratch gathers all `128 × 128`
experts; the last point writes it out.
-/

@[expose] public section

open Idealize.ShloMosaic Idealize.SL
namespace Cert.KernelIdeal.Hand
open Cert.KernelIdeal Cert.KernelIdeal.Gen Cert.Mixer
set_option maxRecDepth 65536

variable (m : (ℓ : Loc nD τ sig) → Buf (Elt Ideal) ℓ) (c : Dev nD)

/-- The blocks grid point `t` reads. -/
theorem idx : ∀ t : Fin cfg0.N, win0_0.index t = ![1, t.val % 32, 0] ∧ win0_1.index t = ![0, t.val / 32]
    ∧ win0_2.index t = ![1, 0, t.val % 32] ∧ win0_3.index t = ![0, 0, t.val / 32] ∧ win0_4.index t = ![0, 0, t.val / 32]
    ∧ win0_5.index t = ![0, t.val / 32] ∧ win0_6.index t = ![t.val / 32, 0] :=
  (by decide +kernel : ∀ t : Fin grid0.N, _)

/-- The expert tile of grid point `t`. -/
theorem tile : ∀ t : Fin cfg0.N, (grid0.coords t 1).val = t.val % 32 := (by decide +kernel : ∀ t : Fin grid0.N, _)

/-- Token `x` of grid point `t`'s tile. -/
abbrev token (t : Fin cfg0.N) (x : Fin 512) : Fin 16384 := ⟨t.val / 32 * 512 + x.val, by have := t.isLt; have h : cfg0.N = 1024 := N_0; omega⟩
/-- Row `r` of grid point `t`'s expert tile. -/
abbrev tileRow (t : Fin cfg0.N) (r : Fin 512) : Fin 16384 := ⟨t.val % 32 * 512 + r.val, by omega⟩

/-- The six arguments, as arrays. -/
abbrev argH : Vec Ideal ⟨2, ![16384, 4096]⟩ .f32 := m ((c.tc : Thread nD τ).loc main_arg0)
abbrev argU : Vec Ideal ⟨3, ![2, 16384, 4096]⟩ .f32 := m ((c.tc : Thread nD τ).loc main_arg1)
abbrev argV : Vec Ideal ⟨3, ![2, 16384, 4096]⟩ .f32 := m ((c.tc : Thread nD τ).loc main_arg2)
abbrev argS : Vec Ideal ⟨3, ![16, 128, 16384]⟩ .f32 := m ((c.tc : Thread nD τ).loc main_arg3)
abbrev argE : Vec Ideal ⟨3, ![16, 128, 16384]⟩ .f32 := m ((c.tc : Thread nD τ).loc main_arg4)
abbrev argT : Vec Ideal ⟨2, ![8, 16384]⟩ .f32 := m ((c.tc : Thread nD τ).loc main_arg5)

/-- The blocks the point reads, entry by entry: its tile of rows of `u`, -/
theorem read_u (t : Fin cfg0.N) (r : Fin 512) (k : Fin 4096) :
    iblk m c 0 t (ix3 0 r k) = argU m c (ix3 1 (tileRow t r) k) := by
  blk_ext! [iblk, V, idx t]
/-- its tokens' activations, -/
theorem read_h (t : Fin cfg0.N) (k : Fin 4096) (x : Fin 512) :
    iblk m c 1 t (ix2 k x) = argH m c (ix2 (token t x) k) := by
  blk_ext! [iblk, V, idx t]
/-- its tile of output weights, -/
theorem read_v (t : Fin cfg0.N) (d : Fin 4096) (r : Fin 512) :
    iblk m c 2 t (ix3 0 d r) = argV m c (ix3 1 (tileRow t r) d) := by
  blk_ext! [iblk, V, idx t]
/-- and its tokens' scores, -/
theorem read_s (t : Fin cfg0.N) (a : Fin 16) (b : Fin 128) (x : Fin 512) :
    iblk m c 3 t (ix3 a b x) = argS m c (ix3 a b (token t x)) := by
  blk_ext! [iblk, V, idx t]
/-- exponentials -/
theorem read_e (t : Fin cfg0.N) (a : Fin 16) (b : Fin 128) (x : Fin 512) :
    iblk m c 4 t (ix3 a b x) = argE m c (ix3 a b (token t x)) := by
  blk_ext! [iblk, V, idx t]
/-- and thresholds. -/
theorem read_tau (t : Fin cfg0.N) (a : Fin 8) (x : Fin 512) :
    iblk m c 5 t (ix2 a x) = argT m c (ix2 a (token t x)) := by
  blk_ext! [iblk, V, idx t]

/-- What grid point `t` adds to the scratch. -/
noncomputable def adds (t : Fin cfg0.N) (y : S4096x512.Idx) : EReal :=
  ∑ q : Fin 4, ∑ b : Fin 128, unit (grid0.coords t) (iblk m c 0 t) (iblk m c 1 t) (iblk m c 2 t) (iblk m c 3 t) (iblk m c 4 t)
    (iblk m c 5 t) (y 0) (y 1) q b

/-- The same at a column and a token. -/
theorem adds_apply (t : Fin cfg0.N) (d : Fin 4096) (x : Fin 512) :
    adds m c t (ix2 d x) = ∑ q : Fin 4, ∑ b : Fin 128, unit (grid0.coords t) (iblk m c 0 t) (iblk m c 1 t) (iblk m c 2 t) (iblk m c 3 t)
      (iblk m c 4 t) (iblk m c 5 t) d x q b := rfl

/-- The first point of a token tile leaves in the scratch what it adds. -/
theorem scratch_first (t : Fin cfg0.N) (h : t.val % 32 = 0) (y : S4096x512.Idx) :
    (outsAt0 m c t.val t.isLt).2 y = 0 + adds m c t y := by
  rw [outsAt0_A m c t h (by omega)]
  obtain ⟨d, x, rfl⟩ : ∃ d x, y = ix2 d x := ⟨y 0, y 1, eq_ix2 y⟩
  dsimp only
  rw [sout_A, adds_apply]

/-- Every further point adds to what the point before it left. -/
theorem scratch_step (t : Fin cfg0.N) (h : ¬t.val % 32 = 0) (y : S4096x512.Idx) :
    (outsAt0 m c t.val t.isLt).2 y = (outsAt0 m c (t.val - 1) (Nat.lt_of_le_of_lt (Nat.sub_le _ _) t.isLt)).2 y + adds m c t y := by
  obtain ⟨d, x, rfl⟩ : ∃ d x, y = ix2 d x := ⟨y 0, y 1, eq_ix2 y⟩
  by_cases h' : t.val % 32 = 31
  · rw [outsAt0_C m c t h h']
    dsimp only
    rw [sout_C, adds_apply]
  · rw [outsAt0_B m c t h h']
    dsimp only
    rw [sout_B, adds_apply]

/-- So the last point of a tile finds the sum over the tile's 32 points. -/
theorem scratch_last (t : Fin cfg0.N) (h : t.val % 32 = 31) (y : S4096x512.Idx) :
    (outsAt0 m c t.val t.isLt).2 y = ∑ s : Fin 32, adds m c ⟨32 * (t.val / 32) + s.val, Pipeline.run_point_lt_of_flush t h s⟩ y := by
  rw [Pipeline.eq_sum_fin_of_reset_step_apply_of_flush (fun n h => (outsAt0 m c n h).2) 32 (fun _ => (0 : EReal)) (adds m c)
    (scratch_first m c) (scratch_step m c) t h y, zero_add]

/-- The expert layer's result at token `t`, column `d`, over the kernel's arguments. -/
noncomputable def result (t : Fin 16384) (d : Fin 4096) : EReal :=
  layer (argH m c) (argU m c) (argV m c) (argS m c) (argE m c) (argT m c) t d

/-- A point of the tile `t` closes adds the experts of its own keys. -/
theorem adds_eq (t : Fin cfg0.N) (h : t.val % 32 = 31) (s : Fin 32) (d : Fin 4096) (x : Fin 512) :
    adds m c ⟨32 * (t.val / 32) + s.val, Pipeline.run_point_lt_of_flush t h s⟩ (ix2 d x) =
      ∑ q : Fin 4, ∑ b : Fin 128, answer (fun k => argH m c (ix2 (token t x) k)) (fun r k => argU m c (ix3 1 r k))
        (fun r => argV m c (ix3 1 r d)) (fun r k => argS m c (ix3 r k (token t x))) (fun r k => argE m c (ix3 r k (token t x)))
        (fun h => argT m c (ix2 h (token t x))) ⟨s.val * 4 + q.val, by omega⟩ b := by
  generalize hp : (⟨32 * (t.val / 32) + s.val, Pipeline.run_point_lt_of_flush t h s⟩ : Fin cfg0.N) = p
  have hv : p.val = 32 * (t.val / 32) + s.val := by rw [← hp]
  have hm : p.val % 32 = s.val := by omega
  have hd : p.val / 32 = t.val / 32 := by omega
  have ht : ∀ x, token p x = token t x := fun x => Fin.ext (by simp only [token, hd])
  rw [adds_apply]
  refine Finset.sum_congr rfl fun q _ => Finset.sum_congr rfl fun b _ => ?_
  have hk : key (grid0.coords p) q = ⟨s.val * 4 + q.val, by omega⟩ := Fin.ext (by simp only [key, tile p, hm]; omega)
  have hr : tileRow p (blkRow q b) = expert ⟨s.val * 4 + q.val, by omega⟩ b := Fin.ext (by simp only [tileRow, blkRow, expert, hm]; omega)
  simp only [unit, answer, read_u, read_h, read_v, read_s, read_e, read_tau, ht, hk, hr]

/-- What the last point of a token tile holds for its tokens: the whole layer. -/
theorem scratch_result (t : Fin cfg0.N) (h : t.val % 32 = 31) (d : Fin 4096) (x : Fin 512) :
    (outsAt0 m c t.val t.isLt).2 (ix2 d x) = result m c (token t x) d := by
  rw [scratch_last m c t h, Finset.sum_congr rfl fun s _ => adds_eq m c t h s d x]
  exact Fin.sum_mul_add_fin 32 4 (fun a => ∑ b : Fin 128, answer _ _ _ _ _ _ a b)

/-- The block the last point writes back. -/
theorem out_result (t : Fin cfg0.N) (h : t.val % 32 = 31) (d : Fin 4096) (x : Fin 512) :
    (outsAt0 m c t.val t.isLt).1 (ix2 x d) = result m c (token t x) d := by
  rw [← scratch_result m c t h d x, outsAt0_C m c t (by omega) h]
  dsimp only
  rw [out_C]

/-- The array after the run. -/
theorem final : (dats m 0 c).arrAt 6 cfg0.N = fun i => result m c (i 0) (i 1) := by
  refine (dats m 0 c).arrAt_eq_of_cover 6 _ (fun t hf => ?_) (fun i => (Value.covered_iff6 i).2 (by
    have h0 : (i 0).val < 16384 := (i 0).isLt; have h1 : (i 1).val < 4096 := (i 1).isLt; omega))
  show (cfg0.win 6).cut (grid0.coords t) ((dats m 0 c).after 6 t) = _
  rw [after0_6]
  have hm : t.val % 32 = 31 := (flush0_6 t).mp hf
  obtain ⟨-, -, -, -, -, -, e⟩ := idx t
  funext y
  obtain ⟨x, d, rfl⟩ : ∃ x d, y = ix2 x d := ⟨y 0, y 1, eq_ix2 y⟩
  refine (out_result m c t hm d x).trans (congrArg₂ (result m c) (Fin.ext ?_) (Fin.ext ?_))
  · show t.val / 32 * 512 + x.val = win0_6.index t (0 : Fin 2) * 512 + 1 * x.val
    rw [e]; show _ = t.val / 32 * 512 + 1 * x.val; omega
  · show d.val = win0_6.index t (1 : Fin 2) * 4096 + 1 * d.val
    rw [e]; show _ = 0 * 4096 + 1 * d.val; omega

end Cert.KernelIdeal.Hand
-- ==== Proof.RefValue.lean ====
module

public import proofs.«01_k».proof.Proof.Gen.ReferenceIdeal.Read
public import proofs.«01_k».proof.Proof.Spec

/-!
# What the reference's result array holds
-/

@[expose] public section

open Idealize.ShloMosaic Idealize.SL
namespace Cert.ReferenceIdeal.Hand
open Cert.ReferenceIdeal Cert.ReferenceIdeal.Read Cert.Mixer

variable (H : Vec Ideal ⟨2, ![16384, 4096]⟩ .f32) (U V : Vec Ideal ⟨3, ![2, 16384, 4096]⟩ .f32)
  (S E : Vec Ideal ⟨3, ![16, 128, 16384]⟩ .f32) (T : Vec Ideal ⟨2, ![8, 16384]⟩ .f32)

/-- The first table's scores, spread over the second key, -/
theorem score_one (h : Fin 8) (a b : Fin 128) (t : Fin 16384) : val_main_v8 (F := Ideal) S (ix4 h a b t) = S (ix3 (row1 h) a t) := by
  rw [val_main_v8_apply, val_main_v4_apply, val_main_v3_apply, val_main_v2_apply, val_main_v0_apply]
  refine congrArg S (funext fun x => Fin.ext ?_)
  fin_cases x <;> dsimp <;> omega
/-- and the second table's, over the first. -/
theorem score_two (h : Fin 8) (a b : Fin 128) (t : Fin 16384) : val_main_v9 (F := Ideal) S (ix4 h a b t) = S (ix3 (row2 h) b t) := by
  rw [val_main_v9_apply, val_main_v7_apply, val_main_v6_apply, val_main_v5_apply, val_main_v0_apply]
  refine congrArg S (funext fun x => Fin.ext ?_)
  fin_cases x <;> dsimp <;> omega
/-- The exponentials likewise. -/
theorem exp_one (h : Fin 8) (a b : Fin 128) (t : Fin 16384) : val_main_v17 (F := Ideal) E (ix4 h a b t) = E (ix3 (row1 h) a t) := by
  rw [val_main_v17_apply, val_main_v13_apply, val_main_v12_apply, val_main_v11_apply, val_main_v1_apply]
  refine congrArg E (funext fun x => Fin.ext ?_)
  fin_cases x <;> dsimp <;> omega
/-- The second exponential of a pair, as the reference spreads it. -/
theorem exp_two (h : Fin 8) (a b : Fin 128) (t : Fin 16384) : val_main_v18 (F := Ideal) E (ix4 h a b t) = E (ix3 (row2 h) b t) := by
  rw [val_main_v18_apply, val_main_v16_apply, val_main_v15_apply, val_main_v14_apply, val_main_v1_apply]
  refine congrArg E (funext fun x => Fin.ext ?_)
  fin_cases x <;> dsimp <;> omega
/-- The thresholds, over both keys. -/
theorem tau_at (h : Fin 8) (a b : Fin 128) (t : Fin 16384) : val_main_v21 (F := Ideal) T (ix4 h a b t) = T (ix2 h t) := by
  rw [val_main_v21_apply, val_main_v20_apply]
  refine congrArg T (funext fun x => Fin.ext ?_)
  fin_cases x <;> rfl

/-- The gates, before they are laid out by expert. -/
theorem gate_at (a b : Fin 128) (t : Fin 16384) :
    val_main_v24 (F := Ideal) S E T (ix3 a b t) = gate (fun r k => S (ix3 r k t)) (fun r k => E (ix3 r k t)) (fun h => T (ix2 h t)) a b := by
  rw [val_main_v24_apply, val_main_cst_0_apply]
  refine (congrArg₂ (· + ·) Ideal.ofBits_zero_f32 (Finset.sum_congr rfl fun h _ => ?_)).trans (zero_add _)
  have e : idx_main_v24 (ix3 a b t) h = ix4 h a b t := by funext x; fin_cases x <;> rfl
  rw [e, val_main_v23_apply, val_main_v22_apply, val_main_v10_apply, val_main_v19_apply, score_one, score_two, exp_one, exp_two, tau_at,
    val_main_call0_v1_apply, val_main_call0_v0_apply, val_main_cst_apply]
  unfold share
  pointwise

/-- The gates by expert and token. -/
theorem gate_expert (a b : Fin 128) (t : Fin 16384) :
    val_main_v26 (F := Ideal) S E T (ix2 t (expert a b)) = gate (fun r k => S (ix3 r k t)) (fun r k => E (ix3 r k t)) (fun h => T (ix2 h t)) a b := by
  rw [val_main_v26_apply, val_main_v25_apply, ← gate_at S E T a b t]
  refine congrArg _ (funext fun x => Fin.ext ?_)
  fin_cases x <;> dsimp <;> omega

/-- A token against an expert's key. -/
theorem dot_at (t e : Fin 16384) : val_main_v30 (F := Ideal) H U (ix2 t e) = ∑ k : Fin 4096, U (ix3 1 e k) * H (ix2 t k) := by
  rw [val_main_v30_apply]
  refine Finset.sum_congr rfl fun k _ => ?_
  rw [val_main_v29_apply, val_main_v28_apply, val_main_v27_apply, mul_comm]
  refine congrArg₂ (· * ·) (congrArg U (funext fun x => Fin.ext ?_)) (congrArg H (funext fun x => Fin.ext ?_))
  · fin_cases x <;> dsimp <;> omega
  · fin_cases x <;> rfl

/-- The activation of an expert. -/
theorem act_at (t e : Fin 16384) : val_main_v37 (F := Ideal) H U (ix2 t e) = gelu (∑ k : Fin 4096, U (ix3 1 e k) * H (ix2 t k)) := by
  rw [val_main_v37_apply, val_main_v36_apply, val_main_v35_apply, val_main_v34_apply, val_main_v33_apply, val_main_v32_apply, val_main_v31_apply,
    val_main_cst_1_apply, val_main_cst_2_apply, dot_at]
  generalize (∑ k : Fin 4096, U (ix3 1 e k) * H (ix2 t k)) = x
  refine congrArg₂ (fun a b : EReal => a * b) rfl ?_
  show Ideal.erfc (-x * Ideal.ofBits .f32 0x3F3504F3#32) = _
  rw [EReal.neg_mul, Ideal.erfc_neg]
  rfl

/-- The output weights. -/
theorem weight_at (e : Fin 16384) (d : Fin 4096) : val_main_v40 (F := Ideal) V (ix2 e d) = V (ix3 1 e d) := by
  rw [val_main_v40_apply, val_main_v39_apply]
  refine congrArg V (funext fun x => Fin.ext ?_)
  fin_cases x <;> dsimp <;> omega

/-- The reference's result is the layer. -/
theorem result_at (t : Fin 16384) (d : Fin 4096) : val_main_v41 (F := Ideal) H U V S E T (ix2 t d) = layer H U V S E T t d := by
  rw [val_main_v41_apply]
  unfold layer mixed
  refine ((Fin.sum_mul_add_fin 128 128 (fun e : Fin 16384 => val_main_v38 (F := Ideal) H U S E T (ix2 t e) * val_main_v40 (F := Ideal) V (ix2 e d))).trans
    (Finset.sum_congr rfl fun e _ => ?_)).symm.trans (Finset.sum_congr rfl fun a _ => Finset.sum_congr rfl fun b _ => ?_)
  · refine congrArg₂ (fun a b : EReal => a * b) (congrArg _ ?_) (congrArg _ ?_) <;> (funext x; fin_cases x <;> rfl)
  · unfold answer
    show val_main_v38 (F := Ideal) H U S E T (ix2 t (expert a b)) * val_main_v40 (F := Ideal) V (ix2 (expert a b) d) = _
    rw [val_main_v38_apply, gate_expert, act_at, weight_at]
    exact mul_comm _ _

end Cert.ReferenceIdeal.Hand
-- ==== Proof.NormSpec.lean ====
module

public import Idealize.ShloMosaic.Lib.Pointwise
public import Idealize.ShloMosaic.Lib.Pipeline.ValueKit

/-!
# What the layer's normalisations compute, written on the extended reals
-/

@[expose] public section

open Idealize.ShloMosaic

namespace Cert.LastNorm

/-- A row with the gated mixer's output added. -/
noncomputable def added (x y g : Fin 4096 → EReal) (k : Fin 4096) : EReal := x k + g k * y k

/-- The row divided by the root of its mean square (plus the printed epsilon), and scaled: column `n`. -/
noncomputable def normed (x s : Fin 4096 → EReal) (n : Fin 4096) : EReal :=
  x n * Ideal.rsqrt (Ideal.div (∑ k : Fin 4096, x k * x k) (Ideal.ofBits FTy.f32 1166016512#32) + Ideal.ofBits FTy.f32 897988541#32) * s n

/-- The normalised row scaled by one plus the modulation's scale, and shifted: column `n`. -/
noncomputable def modulated (x s sh sc : Fin 4096 → EReal) (n : Fin 4096) : EReal := normed x s n * (1 + sc n) + sh n

end Cert.LastNorm
-- ==== Proof.NormArray.lean ====
module

public import proofs.«01_k».proof.Proof.Gen.NormIdeal.Value
public import proofs.«01_k».proof.Proof.NormSpec

/-!
# What the last normalisation leaves

Grid point `I` adds the gated output of the last mixer to 256 rows and normalises them.
-/

@[expose] public section

open Idealize.ShloMosaic Idealize.SL
namespace Cert.NormIdeal.Hand
open Cert.NormIdeal Cert.NormIdeal.Gen Cert.LastNorm
set_option maxRecDepth 65536

/-- One block of the result. -/
theorem out_at (x0 : Vec Ideal S1x256x4096 .f32) (x1 : Vec Ideal S1x256x4096 .f32) (x2 : Vec Ideal S1x1x4096 .f32) (x3 : Vec Ideal S1x4096 .f32)
    (r : Fin 256) (n : Fin 4096) :
    out0_4 (F := Ideal) x0 x1 x2 x3 (ix3 0 r n) =
      normed (added (fun k => x0 (ix3 0 r k)) (fun k => x1 (ix3 0 r k)) (fun k => x2 (ix3 0 0 k))) (fun k => x3 (ix2 0 k)) n := by
  unfold normed added
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![0, t.val, 0] ∧ win0_1.index t = ![0, t.val, 0] ∧ win0_2.index t = ![0, 0, 0]
    ∧ win0_3.index t = ![0, 0] ∧ win0_4.index t = ![0, t.val, 0] :=
  (by decide +kernel : ∀ t : Fin grid0.N, _)

/-- The token of row `r` of grid point `t`'s tile. -/
abbrev row (t : Fin cfg0.N) (r : Fin 256) : Fin 16384 := ⟨t.val * 256 + r.val, by have := t.isLt; have h : cfg0.N = 64 := N_0; omega⟩

/-- The four arguments, as arrays. -/
abbrev argX : Vec Ideal ⟨3, ![1, 16384, 4096]⟩ .f32 := m ((c.tc : Thread nD τ).loc main_arg0)
abbrev argY : Vec Ideal ⟨3, ![1, 16384, 4096]⟩ .f32 := m ((c.tc : Thread nD τ).loc main_arg1)
abbrev argG : Vec Ideal ⟨2, ![1, 4096]⟩ .f32 := m ((c.tc : Thread nD τ).loc main_arg2)
abbrev argS : Vec Ideal ⟨1, ![4096]⟩ .f32 := m ((c.tc : Thread nD τ).loc main_arg3)

/-- The blocks the point reads, entry by entry: its rows of the residual -/
theorem read_x (t : Fin cfg0.N) (r : Fin 256) (k : Fin 4096) : iblk m c 0 t (ix3 0 r k) = argX m c (ix3 0 (row t r) k) := by
  blk_ext! [iblk, V, idx t]
/-- and of the mixer's output, -/
theorem read_y (t : Fin cfg0.N) (r : Fin 256) (k : Fin 4096) : iblk m c 1 t (ix3 0 r k) = argY m c (ix3 0 (row t r) k) := by
  blk_ext! [iblk, V, idx t]
/-- the gate -/
theorem read_g (t : Fin cfg0.N) (k : Fin 4096) : iblk m c 2 t (ix3 0 0 k) = argG m c (ix2 0 k) := by
  blk_ext! [iblk, V, idx t]
/-- and the scale. -/
theorem read_s (t : Fin cfg0.N) (k : Fin 4096) : iblk m c 3 t (ix2 0 k) = argS m c (ix1 k) := by
  blk_ext! [iblk, V, idx t]

/-- The result at a token and a column. -/
noncomputable def result (t : Fin 16384) (n : Fin 4096) : EReal :=
  normed (added (fun k => argX m c (ix3 0 t k)) (fun k => argY m c (ix3 0 t k)) (fun k => argG m c (ix2 0 k))) (fun k => argS m c (ix1 k)) n

/-- Every entry is in some grid point's block. -/
theorem cover (i : S1x16384x4096.Idx) : ∃ t : Fin cfg0.N, (cfg0.win 4).flush t = true ∧ i ∈ ((cfg0.win 4).blk t).view.set := by
  have h0 : (i 0).val < 1 := (i 0).isLt
  have h1 : (i 1).val < 16384 := (i 1).isLt
  have h2 : (i 2).val < 4096 := (i 2).isLt
  have hN : cfg0.N = 64 := N_0
  obtain ⟨t, ht⟩ : ∃ t : Fin cfg0.N, t.val = (i 1).val / 256 := ⟨⟨_, by omega⟩, rfl⟩
  refine ⟨t, flush0_4 t, ?_⟩
  show i ∈ ((View.whole main_v2).slice (win0_4.rect t)).set
  rw [View.set_slice_whole, Rect.mem_set_unit]
  obtain ⟨-, -, -, -, e⟩ := idx t
  intro a
  show win0_4.index t a * _ ≤ _ ∧ _ < win0_4.index t a * _ + _
  rw [e]
  match a with
  | ⟨0, _⟩ => show 0 * 1 ≤ (i 0).val ∧ (i 0).val < 0 * 1 + 1; omega
  | ⟨1, _⟩ => show t.val * 256 ≤ (i 1).val ∧ (i 1).val < t.val * 256 + 256; omega
  | ⟨2, _⟩ => show 0 * 4096 ≤ (i 2).val ∧ (i 2).val < 0 * 4096 + 4096; omega

/-- The array after the run. -/
theorem final : (dats m 0 c).arrAt 4 cfg0.N = fun i => result m c (i 1) (i 2) := by
  refine (dats m 0 c).arrAt_eq_of_cover 4 _ (fun t hf => ?_) cover
  rw [Value.flushed4]
  obtain ⟨-, -, -, -, e⟩ := idx t
  funext y
  obtain ⟨z, x, d, rfl⟩ : ∃ z x d, y = ix3 z x d := ⟨y 0, y 1, y 2, eq_ix3 y⟩
  obtain rfl : z = 0 := Subsingleton.elim _ _
  refine (out_at _ _ _ _ x d).trans ?_
  simp only [read_x, read_y, read_g, read_s]
  refine (congrArg₂ (result m c) (Fin.ext ?_) (Fin.ext ?_) : result m c (row t x) d = _)
  · show t.val * 256 + x.val = win0_4.index t (1 : Fin 3) * 256 + 1 * x.val
    rw [e]; show _ = t.val * 256 + 1 * x.val; omega
  · show d.val = win0_4.index t (2 : Fin 3) * 4096 + 1 * d.val
    rw [e]; show _ = 0 * 4096 + 1 * d.val; omega

end Cert.NormIdeal.Hand
-- ==== Proof.NormRef.lean ====
module

public import proofs.«01_k».proof.Proof.Gen.NormRefIdeal.Run
public import proofs.«01_k».proof.Proof.Gen.NormRefIdeal.Read
public import proofs.«01_k».proof.Proof.NormSpec

/-!
# What the reference's last normalisation leaves
-/

@[expose] public section

open Idealize.ShloMosaic Idealize.SL
namespace Cert.NormRefIdeal.Hand
open Cert.NormRefIdeal Cert.NormRefIdeal.Read Cert.LastNorm

variable (X Y : Vec Ideal ⟨3, ![1, 16384, 4096]⟩ .f32) (G : Vec Ideal ⟨2, ![1, 4096]⟩ .f32) (g : Vec Ideal ⟨1, ![4096]⟩ .f32)

/-- The row the reference normalises. -/
theorem added_at (t : Fin 16384) (k : Fin 4096) :
    val_main_v3 (F := Ideal) X Y G (ix3 0 t k) = added (fun k => X (ix3 0 t k)) (fun k => Y (ix3 0 t k)) (fun k => G (ix2 0 k)) k := by
  rw [val_main_v3_apply, val_main_v2_apply, val_main_v1_apply, val_main_v0_apply]
  refine congrArg₂ (fun a b : EReal => a + b) rfl (congrArg₂ (fun a b : EReal => a * b) (congrArg G (funext fun x => Fin.ext ?_)) rfl)
  fin_cases x <;> rfl

/-- The reference's result, entry by entry. -/
theorem result_at (t : Fin 16384) (n : Fin 4096) :
    val_main_v16 (F := Ideal) X Y G g (ix3 0 t n) =
      normed (added (fun k => X (ix3 0 t k)) (fun k => Y (ix3 0 t k)) (fun k => G (ix2 0 k))) (fun k => g (ix1 k)) n := by
  have s : ∑ k, val_main_v4 (F := Ideal) X Y G (idx_main_v5 (idx_main_v6 (idx_main_v12 (ix3 0 t n))) k) =
      ∑ k : Fin 4096, added (fun k => X (ix3 0 t k)) (fun k => Y (ix3 0 t k)) (fun k => G (ix2 0 k)) k *
        added (fun k => X (ix3 0 t k)) (fun k => Y (ix3 0 t k)) (fun k => G (ix2 0 k)) k := by
    refine Finset.sum_congr rfl fun k _ => ?_
    have e : idx_main_v5 (idx_main_v6 (idx_main_v12 (ix3 0 t n))) k = ix3 0 t k := by funext x; fin_cases x <;> rfl
    rw [e, val_main_v4_apply, added_at]
    rfl
  rw [val_main_v16_apply, val_main_v15_apply, val_main_v14_apply, val_main_v13_apply, val_main_v12_apply, val_main_v11_apply, val_main_v10_apply,
    val_main_v9_apply, val_main_v8_apply, val_main_v7_apply, val_main_v6_apply, val_main_v5_apply, added_at, s]
  refine congrArg₂ (fun a b : EReal => a * b) (congrArg₂ (fun a b : EReal => a * b) rfl ?_) (congrArg g (funext fun x => Fin.ext ?_))
  · refine congrArg Ideal.rsqrt (congrArg₂ (fun a b : EReal => a + b) (congrArg₂ Ideal.div ?_ rfl) rfl)
    refine (congrArg (· + _) Ideal.ofBits_zero_f32).trans (zero_add _)
  · fin_cases x; rfl

end Cert.NormRefIdeal.Hand
-- ==== Proof.InArray.lean ====
module

public import proofs.«01_k».proof.Proof.Gen.InIdeal.Value
public import Idealize.ShloMosaic.Lib.Pointwise
public import Idealize.ShloMosaic.Lib.Pipeline.ValueKit

/-!
# What the input projection of the even mixer leaves

Grid point `16 J + I` multiplies row tile `I` of the activations with column tile `J` of the weights.
-/

@[expose] public section

open Idealize.ShloMosaic Idealize.SL
namespace Cert.InIdeal.Hand
open Cert.InIdeal Cert.InIdeal.Gen
set_option maxRecDepth 65536

/-- One block of the product. -/
theorem out_at (x0 : Vec Ideal S1024x4096 .bf16) (x1 : Vec Ideal S4096x512 .bf16) (r : Fin 1024) (n : Fin 512) :
    out0_2 (F := Ideal) x0 x1 (ix2 r n) = ∑ k : Fin 4096, x0 (ix2 r k) * x1 (ix2 k n) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- The array's row of row `r` of grid point `t`'s tile, -/
abbrev row (t : Fin cfg0.N) (r : Fin 1024) : Fin 16384 := ⟨t.val % 16 * 1024 + r.val, by omega⟩
/-- and its column of column `n` of the tile. -/
abbrev col (t : Fin cfg0.N) (n : Fin 512) : Fin 9216 := ⟨t.val / 16 * 512 + n.val, by have := t.isLt; have h : cfg0.N = 288 := N_0; omega⟩

/-- The two arguments, as arrays. -/
abbrev argH : Vec Ideal ⟨3, ![1, 16384, 4096]⟩ .f32 := m ((c.tc : Thread nD τ).loc main_arg0)
abbrev argW : Vec Ideal ⟨3, ![1, 4096, 9216]⟩ .f32 := m ((c.tc : Thread nD τ).loc main_arg1)

/-- The blocks the point reads, entry by entry: its rows of the activations -/
theorem read_h (t : Fin cfg0.N) (r : Fin 1024) (k : Fin 4096) : iblk m c 0 t (ix2 r k) = argH m c (ix3 0 (row t r) k) := by
  blk_ext! [iblk, V, idx t]
/-- and its columns of the weights. -/
theorem read_w (t : Fin cfg0.N) (k : Fin 4096) (n : Fin 512) : iblk m c 1 t (ix2 k n) = argW m c (ix3 0 k (col t n)) := by
  blk_ext! [iblk, V, idx t]

/-- The result at a row and a column. -/
noncomputable def result (t : Fin 16384) (n : Fin 9216) : EReal := ∑ k : Fin 4096, argH m c (ix3 0 t k) * argW m c (ix3 0 k n)

/-- Every entry is in some grid point's block. -/
theorem cover (i : S16384x9216.Idx) : ∃ t : Fin cfg0.N, (cfg0.win 2).flush t = true ∧ i ∈ ((cfg0.win 2).blk t).view.set := by
  have h0 : (i 0).val < 16384 := (i 0).isLt
  have h1 : (i 1).val < 9216 := (i 1).isLt
  have hN : cfg0.N = 288 := N_0
  obtain ⟨t, ht⟩ : ∃ t : Fin cfg0.N, t.val = (i 1).val / 512 * 16 + (i 0).val / 1024 := ⟨⟨_, by omega⟩, rfl⟩
  refine ⟨t, flush0_2 t, ?_⟩
  show i ∈ ((View.whole main_v4).slice (win0_2.rect t)).set
  rw [View.set_slice_whole, Rect.mem_set_unit]
  obtain ⟨-, -, e⟩ := idx t
  intro a
  show win0_2.index t a * _ ≤ _ ∧ _ < win0_2.index t a * _ + _
  rw [e]
  match a with
  | ⟨0, _⟩ => show t.val % 16 * 1024 ≤ (i 0).val ∧ (i 0).val < t.val % 16 * 1024 + 1024; omega
  | ⟨1, _⟩ => show t.val / 16 * 512 ≤ (i 1).val ∧ (i 1).val < t.val / 16 * 512 + 512; omega

/-- The array after the run. -/
theorem final : (dats m 0 c).arrAt 2 cfg0.N = fun i => result m c (i 0) (i 1) := by
  refine (dats m 0 c).arrAt_eq_of_cover 2 _ (fun t hf => ?_) cover
  rw [Value.flushed2]
  obtain ⟨-, -, e⟩ := idx t
  funext y
  obtain ⟨x, d, rfl⟩ : ∃ x d, y = ix2 x d := ⟨y 0, y 1, eq_ix2 y⟩
  refine (out_at _ _ x d).trans ?_
  simp only [read_h, read_w]
  refine (congrArg₂ (result m c) (Fin.ext ?_) (Fin.ext ?_) : result m c (row t x) (col t d) = _)
  · show t.val % 16 * 1024 + x.val = win0_2.index t (0 : Fin 2) * 1024 + 1 * x.val
    rw [e]; show _ = t.val % 16 * 1024 + 1 * x.val; omega
  · show t.val / 16 * 512 + d.val = win0_2.index t (1 : Fin 2) * 512 + 1 * d.val
    rw [e]; show _ = t.val / 16 * 512 + 1 * d.val; omega

end Cert.InIdeal.Hand
-- ==== Proof.InRef.lean ====
module

public import proofs.«01_k».proof.Proof.Gen.InRefIdeal.Run
public import proofs.«01_k».proof.Proof.Gen.InRefIdeal.Read
public import Idealize.ShloMosaic.Lib.Pointwise
public import Idealize.ShloMosaic.Lib.Pipeline.ValueKit

/-!
# What the reference's input projection leaves
-/

@[expose] public section

open Idealize.ShloMosaic Idealize.SL
namespace Cert.InRefIdeal.Hand
open Cert.InRefIdeal Cert.InRefIdeal.Read

/-- The product of the activations and the weights, entry by entry. -/
theorem result_at (H : Vec Ideal ⟨3, ![1, 16384, 4096]⟩ .f32) (W : Vec Ideal ⟨3, ![1, 4096, 9216]⟩ .f32) (t : Fin 16384) (n : Fin 9216) :
    val_main_v2 (F := Ideal) H W (ix2 t n) = ∑ k : Fin 4096, H (ix3 0 t k) * W (ix3 0 k n) := by
  rw [val_main_v2_apply, val_main_v1_apply]
  refine Finset.sum_congr rfl fun k _ => ?_
  rw [val_main_v0_apply]
  refine congrArg₂ (· * ·) (congrArg H (funext fun x => Fin.ext ?_)) (congrArg W (funext fun x => Fin.ext ?_)) <;>
    (fin_cases x <;> dsimp <;> omega)

end Cert.InRefIdeal.Hand
-- ==== Proof.RkvArray.lean ====
module

public import proofs.«01_k».proof.Proof.Gen.RkvIdeal.Value
public import Idealize.ShloMosaic.Lib.Pointwise
public import Idealize.ShloMosaic.Lib.Pipeline.ValueKit

/-!
# What the projections of the recurrent mixer leave (receptance, key and value alike)

Grid point `16 J + I` multiplies row tile `I` of the activations with column tile `J` of the weights.
-/

@[expose] public section

open Idealize.ShloMosaic Idealize.SL
namespace Cert.RkvIdeal.Hand
open Cert.RkvIdeal Cert.RkvIdeal.Gen
set_option maxRecDepth 65536

/-- One block of the product. -/
theorem out_at (x0 : Vec Ideal S1024x4096 .bf16) (x1 : Vec Ideal S4096x512 .bf16) (r : Fin 1024) (n : Fin 512) :
    out0_2 (F := Ideal) x0 x1 (ix2 r n) = ∑ k : Fin 4096, x0 (ix2 r k) * x1 (ix2 k n) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- The array's row of row `r` of grid point `t`'s tile, -/
abbrev row (t : Fin cfg0.N) (r : Fin 1024) : Fin 16384 := ⟨t.val % 16 * 1024 + r.val, by omega⟩
/-- and its column of column `n` of the tile. -/
abbrev col (t : Fin cfg0.N) (n : Fin 512) : Fin 4096 := ⟨t.val / 16 * 512 + n.val, by have := t.isLt; have h : cfg0.N = 128 := N_0; omega⟩

/-- The two arguments, as arrays. -/
abbrev argH : Vec Ideal ⟨3, ![1, 16384, 4096]⟩ .f32 := m ((c.tc : Thread nD τ).loc main_arg0)
abbrev argW : Vec Ideal ⟨3, ![1, 4096, 4096]⟩ .f32 := m ((c.tc : Thread nD τ).loc main_arg1)

/-- The blocks the point reads, entry by entry: its rows of the activations -/
theorem read_h (t : Fin cfg0.N) (r : Fin 1024) (k : Fin 4096) : iblk m c 0 t (ix2 r k) = argH m c (ix3 0 (row t r) k) := by
  blk_ext! [iblk, V, idx t]
/-- and its columns of the weights. -/
theorem read_w (t : Fin cfg0.N) (k : Fin 4096) (n : Fin 512) : iblk m c 1 t (ix2 k n) = argW m c (ix3 0 k (col t n)) := by
  blk_ext! [iblk, V, idx t]

/-- The result at a row and a column. -/
noncomputable def result (t : Fin 16384) (n : Fin 4096) : EReal := ∑ k : Fin 4096, argH m c (ix3 0 t k) * argW m c (ix3 0 k n)

/-- Every entry is in some grid point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : cfg0.N = 128 := N_0
  obtain ⟨t, ht⟩ : ∃ t : Fin cfg0.N, t.val = (i 1).val / 512 * 16 + (i 0).val / 1024 := ⟨⟨_, by omega⟩, rfl⟩
  refine ⟨t, flush0_2 t, ?_⟩
  show i ∈ ((View.whole main_v4).slice (win0_2.rect t)).set
  rw [View.set_slice_whole, Rect.mem_set_unit]
  obtain ⟨-, -, e⟩ := idx t
  intro a
  show win0_2.index t a * _ ≤ _ ∧ _ < win0_2.index t a * _ + _
  rw [e]
  match a with
  | ⟨0, _⟩ => show t.val % 16 * 1024 ≤ (i 0).val ∧ (i 0).val < t.val % 16 * 1024 + 1024; omega
  | ⟨1, _⟩ => show t.val / 16 * 512 ≤ (i 1).val ∧ (i 1).val < t.val / 16 * 512 + 512; omega

/-- The array after the run. -/
theorem final : (dats m 0 c).arrAt 2 cfg0.N = fun i => result m c (i 0) (i 1) := by
  refine (dats m 0 c).arrAt_eq_of_cover 2 _ (fun t hf => ?_) cover
  rw [Value.flushed2]
  obtain ⟨-, -, e⟩ := idx t
  funext y
  obtain ⟨x, d, rfl⟩ : ∃ x d, y = ix2 x d := ⟨y 0, y 1, eq_ix2 y⟩
  refine (out_at _ _ x d).trans ?_
  simp only [read_h, read_w]
  refine (congrArg₂ (result m c) (Fin.ext ?_) (Fin.ext ?_) : result m c (row t x) (col t d) = _)
  · show t.val % 16 * 1024 + x.val = win0_2.index t (0 : Fin 2) * 1024 + 1 * x.val
    rw [e]; show _ = t.val % 16 * 1024 + 1 * x.val; omega
  · show t.val / 16 * 512 + d.val = win0_2.index t (1 : Fin 2) * 512 + 1 * d.val
    rw [e]; show _ = t.val / 16 * 512 + 1 * d.val; omega

end Cert.RkvIdeal.Hand
-- ==== Proof.RkvRef.lean ====
module

public import proofs.«01_k».proof.Proof.Gen.RkvRefIdeal.Run
public import proofs.«01_k».proof.Proof.Gen.RkvRefIdeal.Read
public import Idealize.ShloMosaic.Lib.Pointwise
public import Idealize.ShloMosaic.Lib.Pipeline.ValueKit

/-!
# What the reference leaves for a projection of the recurrent mixer
-/

@[expose] public section

open Idealize.ShloMosaic Idealize.SL
namespace Cert.RkvRefIdeal.Hand
open Cert.RkvRefIdeal Cert.RkvRefIdeal.Read

/-- The product of the activations and the weights, entry by entry. -/
theorem result_at (H : Vec Ideal ⟨3, ![1, 16384, 4096]⟩ .f32) (W : Vec Ideal ⟨3, ![1, 4096, 4096]⟩ .f32) (t : Fin 16384) (n : Fin 4096) :
    val_main_v2 (F := Ideal) H W (ix2 t n) = ∑ k : Fin 4096, H (ix3 0 t k) * W (ix3 0 k n) := by
  rw [val_main_v2_apply, val_main_v1_apply]
  refine Finset.sum_congr rfl fun k _ => ?_
  rw [val_main_v0_apply]
  refine congrArg₂ (· * ·) (congrArg H (funext fun x => Fin.ext ?_)) (congrArg W (funext fun x => Fin.ext ?_)) <;>
    (fin_cases x <;> dsimp <;> omega)

end Cert.RkvRefIdeal.Hand
-- ==== Proof.QueryArray.lean ====
module

public import proofs.«01_k».proof.Proof.Gen.QueryIdeal.Value
public import Idealize.ShloMosaic.Lib.Pointwise
public import Idealize.ShloMosaic.Lib.Pipeline.ValueKit

/-!
# What the experts' query product leaves

Grid point `2 J + I` multiplies row tile `I` of the turned query weights with column tile `J` of the turned activations.
-/

@[expose] public section

open Idealize.ShloMosaic Idealize.SL
namespace Cert.QueryIdeal.Hand
open Cert.QueryIdeal Cert.QueryIdeal.Gen
set_option maxRecDepth 65536

/-- One block of the product. -/
theorem out_at (x0 : Vec Ideal S1x1024x4096 .bf16) (x1 : Vec Ideal S4096x512 .bf16) (r : Fin 1024) (n : Fin 512) :
    out0_2 (F := Ideal) x0 x1 (ix2 r n) = ∑ k : Fin 4096, x0 (ix3 0 r k) * x1 (ix2 k n) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![1, t.val % 2, 0] ∧ win0_1.index t = ![0, t.val / 2]
    ∧ win0_2.index t = ![t.val % 2, t.val / 2] :=
  (by decide +kernel : ∀ t : Fin grid0.N, _)

/-- The query dimension of row `r` of grid point `t`'s tile, -/
abbrev row (t : Fin cfg0.N) (r : Fin 1024) : Fin 2048 := ⟨t.val % 2 * 1024 + r.val, by omega⟩
/-- and the token of its column `n`. -/
abbrev col (t : Fin cfg0.N) (n : Fin 512) : Fin 16384 := ⟨t.val / 2 * 512 + n.val, by have := t.isLt; have h : cfg0.N = 64 := N_0; omega⟩

/-- The two arguments, as arrays. -/
abbrev argH : Vec Ideal ⟨3, ![1, 16384, 4096]⟩ .f32 := m ((c.tc : Thread nD τ).loc main_arg0)
abbrev argW : Vec Ideal ⟨3, ![2, 4096, 2048]⟩ .f32 := m ((c.tc : Thread nD τ).loc main_arg1)

/-- The blocks the point reads, entry by entry: its rows of the weights -/
theorem read_w (t : Fin cfg0.N) (r : Fin 1024) (k : Fin 4096) : iblk m c 0 t (ix3 0 r k) = argW m c (ix3 1 k (row t r)) := by
  blk_ext! [iblk, V, idx t]
/-- and its tokens' activations. -/
theorem read_h (t : Fin cfg0.N) (k : Fin 4096) (n : Fin 512) : iblk m c 1 t (ix2 k n) = argH m c (ix3 0 (col t n) k) := by
  blk_ext! [iblk, V, idx t]

/-- The result at a query dimension and a token. -/
noncomputable def result (n : Fin 2048) (t : Fin 16384) : EReal := ∑ k : Fin 4096, argW m c (ix3 1 k n) * argH m c (ix3 0 t k)

/-- Every entry is in some grid point's block. -/
theorem cover (i : S2048x16384.Idx) : ∃ t : Fin cfg0.N, (cfg0.win 2).flush t = true ∧ i ∈ ((cfg0.win 2).blk t).view.set := by
  have h0 : (i 0).val < 2048 := (i 0).isLt
  have h1 : (i 1).val < 16384 := (i 1).isLt
  have hN : cfg0.N = 64 := N_0
  obtain ⟨t, ht⟩ : ∃ t : Fin cfg0.N, t.val = (i 1).val / 512 * 2 + (i 0).val / 1024 := ⟨⟨_, by omega⟩, rfl⟩
  refine ⟨t, flush0_2 t, ?_⟩
  show i ∈ ((View.whole main_v5).slice (win0_2.rect t)).set
  rw [View.set_slice_whole, Rect.mem_set_unit]
  obtain ⟨-, -, e⟩ := idx t
  intro a
  show win0_2.index t a * _ ≤ _ ∧ _ < win0_2.index t a * _ + _
  rw [e]
  match a with
  | ⟨0, _⟩ => show t.val % 2 * 1024 ≤ (i 0).val ∧ (i 0).val < t.val % 2 * 1024 + 1024; omega
  | ⟨1, _⟩ => show t.val / 2 * 512 ≤ (i 1).val ∧ (i 1).val < t.val / 2 * 512 + 512; omega

/-- The array after the run. -/
theorem final : (dats m 0 c).arrAt 2 cfg0.N = fun i => result m c (i 0) (i 1) := by
  refine (dats m 0 c).arrAt_eq_of_cover 2 _ (fun t hf => ?_) cover
  rw [Value.flushed2]
  obtain ⟨-, -, e⟩ := idx t
  funext y
  obtain ⟨x, d, rfl⟩ : ∃ x d, y = ix2 x d := ⟨y 0, y 1, eq_ix2 y⟩
  refine (out_at _ _ x d).trans ?_
  simp only [read_h, read_w]
  refine (congrArg₂ (result m c) (Fin.ext ?_) (Fin.ext ?_) : result m c (row t x) (col t d) = _)
  · show t.val % 2 * 1024 + x.val = win0_2.index t (0 : Fin 2) * 1024 + 1 * x.val
    rw [e]; show _ = t.val % 2 * 1024 + 1 * x.val; omega
  · show t.val / 2 * 512 + d.val = win0_2.index t (1 : Fin 2) * 512 + 1 * d.val
    rw [e]; show _ = t.val / 2 * 512 + 1 * d.val; omega

end Cert.QueryIdeal.Hand
-- ==== Proof.QueryRef.lean ====
module

public import proofs.«01_k».proof.Proof.Gen.QueryRefIdeal.Run
public import proofs.«01_k».proof.Proof.Gen.QueryRefIdeal.Read
public import Idealize.ShloMosaic.Lib.Pointwise
public import Idealize.ShloMosaic.Lib.Pipeline.ValueKit

/-!
# What the reference's query product leaves
-/

@[expose] public section

open Idealize.ShloMosaic Idealize.SL
namespace Cert.QueryRefIdeal.Hand
open Cert.QueryRefIdeal Cert.QueryRefIdeal.Read

/-- The product, turned round, entry by entry. -/
theorem result_at (H : Vec Ideal ⟨3, ![1, 16384, 4096]⟩ .f32) (W : Vec Ideal ⟨3, ![2, 4096, 2048]⟩ .f32) (n : Fin 2048) (t : Fin 16384) :
    val_main_v4 (F := Ideal) H W (ix2 n t) = ∑ k : Fin 4096, W (ix3 1 k n) * H (ix3 0 t k) := by
  rw [val_main_v4_apply, val_main_v3_apply]
  refine Finset.sum_congr rfl fun k _ => ?_
  rw [val_main_v0_apply, val_main_v2_apply, val_main_v1_apply, mul_comm]
  refine congrArg₂ (· * ·) (congrArg W (funext fun x => Fin.ext ?_)) (congrArg H (funext fun x => Fin.ext ?_)) <;>
    (fin_cases x <;> dsimp <;> omega)

end Cert.QueryRefIdeal.Hand
-- ==== Proof.OddArray.lean ====
module

public import proofs.«01_k».proof.Proof.Gen.OddIdeal.Value
public import Idealize.ShloMosaic.Lib.Pointwise
public import Idealize.ShloMosaic.Lib.Pipeline.ValueKit

/-!
# What the recurrent mixer's output projection leaves

Grid point `16 J + I` multiplies row tile `I` of the mixer's output with column tile `J` of the weights, scales it by the gate
of its columns and adds its tile of the residual.
-/

@[expose] public section

open Idealize.ShloMosaic Idealize.SL
namespace Cert.OddIdeal.Hand
open Cert.OddIdeal Cert.OddIdeal.Gen
set_option maxRecDepth 65536

/-- One block of the result. -/
theorem out_at (x0 : Vec Ideal S1024x4096 .bf16) (x1 : Vec Ideal S4096x512 .bf16) (x2 : Vec Ideal S1024x512 .f32) (x3 : Vec Ideal S1x1x512 .f32)
    (r : Fin 1024) (n : Fin 512) :
    out0_4 (F := Ideal) x0 x1 x2 x3 (ix2 r n) = x2 (ix2 r n) + x3 (ix3 0 0 n) * ∑ k : Fin 4096, x0 (ix2 r k) * x1 (ix2 k n) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val % 16, 0] ∧ win0_1.index t = ![0, t.val / 16]
    ∧ win0_2.index t = ![t.val % 16, t.val / 16] ∧ win0_3.index t = ![0, 0, t.val / 16] ∧ win0_4.index t = ![t.val % 16, t.val / 16] :=
  (by decide +kernel : ∀ t : Fin grid0.N, _)

/-- The array's row of row `r` of grid point `t`'s tile, -/
abbrev row (t : Fin cfg0.N) (r : Fin 1024) : Fin 16384 := ⟨t.val % 16 * 1024 + r.val, by omega⟩
/-- and its column of column `n` of the tile. -/
abbrev col (t : Fin cfg0.N) (n : Fin 512) : Fin 4096 := ⟨t.val / 16 * 512 + n.val, by have := t.isLt; have h : cfg0.N = 128 := N_0; omega⟩

/-- The four arguments, as arrays. -/
abbrev argY : Vec Ideal ⟨3, ![1, 16384, 4096]⟩ .f32 := m ((c.tc : Thread nD τ).loc main_arg0)
abbrev argW : Vec Ideal ⟨3, ![1, 4096, 4096]⟩ .f32 := m ((c.tc : Thread nD τ).loc main_arg1)
abbrev argX : Vec Ideal ⟨3, ![1, 16384, 4096]⟩ .f32 := m ((c.tc : Thread nD τ).loc main_arg2)
abbrev argG : Vec Ideal ⟨2, ![1, 4096]⟩ .f32 := m ((c.tc : Thread nD τ).loc main_arg3)

/-- The blocks the point reads, entry by entry: its rows of the mixer's output, -/
theorem read_y (t : Fin cfg0.N) (r : Fin 1024) (k : Fin 4096) : iblk m c 0 t (ix2 r k) = argY m c (ix3 0 (row t r) k) := by
  blk_ext! [iblk, V, idx t]
/-- its columns of the weights, -/
theorem read_w (t : Fin cfg0.N) (k : Fin 4096) (n : Fin 512) : iblk m c 1 t (ix2 k n) = argW m c (ix3 0 k (col t n)) := by
  blk_ext! [iblk, V, idx t]
/-- its tile of the residual -/
theorem read_x (t : Fin cfg0.N) (r : Fin 1024) (n : Fin 512) : iblk m c 2 t (ix2 r n) = argX m c (ix3 0 (row t r) (col t n)) := by
  blk_ext! [iblk, V, idx t]
/-- and the gate of its columns. -/
theorem read_g (t : Fin cfg0.N) (n : Fin 512) : iblk m c 3 t (ix3 0 0 n) = argG m c (ix2 0 (col t n)) := by
  blk_ext! [iblk, V, idx t]

/-- The result at a row and a column. -/
noncomputable def result (t : Fin 16384) (n : Fin 4096) : EReal :=
  argX m c (ix3 0 t n) + argG m c (ix2 0 n) * ∑ k : Fin 4096, argY m c (ix3 0 t k) * argW m c (ix3 0 k n)

/-- Every entry is in some grid point's block. -/
theorem cover (i : S16384x4096.Idx) : ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 128 := N_0
  obtain ⟨t, ht⟩ : ∃ t : Fin cfg0.N, t.val = (i 1).val / 512 * 16 + (i 0).val / 1024 := ⟨⟨_, by omega⟩, rfl⟩
  refine ⟨t, flush0_4 t, ?_⟩
  show i ∈ ((View.whole main_v6).slice (win0_4.rect t)).set
  rw [View.set_slice_whole, Rect.mem_set_unit]
  obtain ⟨-, -, -, -, e⟩ := idx t
  intro a
  show win0_4.index t a * _ ≤ _ ∧ _ < win0_4.index t a * _ + _
  rw [e]
  match a with
  | ⟨0, _⟩ => show t.val % 16 * 1024 ≤ (i 0).val ∧ (i 0).val < t.val % 16 * 1024 + 1024; omega
  | ⟨1, _⟩ => show t.val / 16 * 512 ≤ (i 1).val ∧ (i 1).val < t.val / 16 * 512 + 512; omega

/-- The array after the run. -/
theorem final : (dats m 0 c).arrAt 4 cfg0.N = fun i => result m c (i 0) (i 1) := by
  refine (dats m 0 c).arrAt_eq_of_cover 4 _ (fun t hf => ?_) cover
  rw [Value.flushed4]
  obtain ⟨-, -, -, -, e⟩ := idx t
  funext y
  obtain ⟨x, d, rfl⟩ : ∃ x d, y = ix2 x d := ⟨y 0, y 1, eq_ix2 y⟩
  refine (out_at _ _ _ _ x d).trans ?_
  simp only [read_y, read_w, read_x, read_g]
  refine (congrArg₂ (result m c) (Fin.ext ?_) (Fin.ext ?_) : result m c (row t x) (col t d) = _)
  · show t.val % 16 * 1024 + x.val = win0_4.index t (0 : Fin 2) * 1024 + 1 * x.val
    rw [e]; show _ = t.val % 16 * 1024 + 1 * x.val; omega
  · show t.val / 16 * 512 + d.val = win0_4.index t (1 : Fin 2) * 512 + 1 * d.val
    rw [e]; show _ = t.val / 16 * 512 + 1 * d.val; omega

end Cert.OddIdeal.Hand
-- ==== Proof.OddRef.lean ====
module

public import proofs.«01_k».proof.Proof.Gen.OddRefIdeal.Run
public import proofs.«01_k».proof.Proof.Gen.OddRefIdeal.Read
public import Idealize.ShloMosaic.Lib.Pointwise
public import Idealize.ShloMosaic.Lib.Pipeline.ValueKit

/-!
# What the reference leaves for the recurrent mixer's output projection
-/

@[expose] public section

open Idealize.ShloMosaic Idealize.SL
namespace Cert.OddRefIdeal.Hand
open Cert.OddRefIdeal Cert.OddRefIdeal.Read

/-- The residual plus the gate times the product, entry by entry. -/
theorem result_at (Y : Vec Ideal ⟨3, ![1, 16384, 4096]⟩ .f32) (W : Vec Ideal ⟨3, ![1, 4096, 4096]⟩ .f32) (X : Vec Ideal ⟨3, ![1, 16384, 4096]⟩ .f32)
    (G : Vec Ideal ⟨2, ![1, 4096]⟩ .f32) (t : Fin 16384) (n : Fin 4096) :
    val_main_v6 (F := Ideal) Y W X G (ix2 t n) = X (ix3 0 t n) + G (ix2 0 n) * ∑ k : Fin 4096, Y (ix3 0 t k) * W (ix3 0 k n) := by
  have e : idx_main_v6 (ix2 t n) = ix3 0 t n := funext fun x => Fin.ext (by fin_cases x <;> dsimp <;> omega)
  rw [val_main_v6_apply, e, val_main_v5_apply, val_main_v4_apply, val_main_v3_apply, val_main_v0_apply, val_main_v2_apply]
  refine congrArg₂ (fun a b : EReal => a + b) rfl (congrArg₂ (fun a b : EReal => a * b) (congrArg G (funext fun x => Fin.ext ?_))
    (Finset.sum_congr rfl fun k _ => ?_))
  · fin_cases x <;> rfl
  · rw [val_main_v1_apply]
    refine congrArg₂ (· * ·) (congrArg Y (funext fun x => Fin.ext ?_)) (congrArg W (funext fun x => Fin.ext ?_)) <;>
      (fin_cases x <;> dsimp <;> omega)

end Cert.OddRefIdeal.Hand
-- ==== Proof.EvenArray.lean ====
module

public import proofs.«01_k».proof.Proof.Gen.EvenIdeal.Value
public import Idealize.ShloMosaic.Lib.Pointwise
public import Idealize.ShloMosaic.Lib.Pipeline.ValueKit

/-!
# What the even mixer's output projection leaves

Grid point `16 J + I` multiplies row tile `I` of the attention's output and of the convolution's with column tile `J` of the upper and
the lower half of the weights, scales the sum by the gate of its columns and adds its tile of the residual.
-/

@[expose] public section

open Idealize.ShloMosaic Idealize.SL
namespace Cert.EvenIdeal.Hand
open Cert.EvenIdeal Cert.EvenIdeal.Gen
set_option maxRecDepth 65536

/-- One block of the result. -/
theorem out_at (x0 : Vec Ideal S1024x2048 .bf16) (x1 : Vec Ideal S2048x512 .bf16) (x2 : Vec Ideal S1024x2048 .bf16) (x3 : Vec Ideal S2048x512 .bf16)
    (x4 : Vec Ideal S1024x512 .f32) (x5 : Vec Ideal S1x1x512 .f32) (r : Fin 1024) (n : Fin 512) :
    out0_6 (F := Ideal) x0 x1 x2 x3 x4 x5 (ix2 r n) = x4 (ix2 r n) + x5 (ix3 0 0 n) *
      (∑ k : Fin 2048, x0 (ix2 r k) * x1 (ix2 k n) + ∑ k : Fin 2048, x2 (ix2 r k) * x3 (ix2 k n)) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val % 16, 0] ∧ win0_1.index t = ![0, t.val / 16]
    ∧ win0_2.index t = ![t.val % 16, 0] ∧ win0_3.index t = ![0, t.val / 16]
    ∧ win0_4.index t = ![t.val % 16, t.val / 16] ∧ win0_5.index t = ![0, 0, t.val / 16] ∧ win0_6.index t = ![t.val % 16, t.val / 16] :=
  (by decide +kernel : ∀ t : Fin grid0.N, _)

/-- The array's row of row `r` of grid point `t`'s tile, -/
abbrev row (t : Fin cfg0.N) (r : Fin 1024) : Fin 16384 := ⟨t.val % 16 * 1024 + r.val, by omega⟩
/-- and its column of column `n` of the tile. -/
abbrev col (t : Fin cfg0.N) (n : Fin 512) : Fin 4096 := ⟨t.val / 16 * 512 + n.val, by have := t.isLt; have h : cfg0.N = 128 := N_0; omega⟩

/-- The five arguments, as arrays. -/
abbrev argA : Vec Ideal ⟨3, ![1, 16384, 2048]⟩ .f32 := m ((c.tc : Thread nD τ).loc main_arg0)
abbrev argB : Vec Ideal ⟨3, ![1, 16384, 2048]⟩ .f32 := m ((c.tc : Thread nD τ).loc main_arg1)
abbrev argW : Vec Ideal ⟨3, ![1, 4096, 4096]⟩ .f32 := m ((c.tc : Thread nD τ).loc main_arg2)
abbrev argX : Vec Ideal ⟨3, ![1, 16384, 4096]⟩ .f32 := m ((c.tc : Thread nD τ).loc main_arg3)
abbrev argG : Vec Ideal ⟨2, ![1, 4096]⟩ .f32 := m ((c.tc : Thread nD τ).loc main_arg4)

/-- Row `k` of the weights' upper half -/
abbrev upper (k : Fin 2048) : Fin 4096 := ⟨k.val, by omega⟩
/-- and of their lower half. -/
abbrev lower (k : Fin 2048) : Fin 4096 := ⟨2048 + k.val, by omega⟩

/-- The blocks the point reads, entry by entry: its rows of the attention's output, -/
theorem read_a (t : Fin cfg0.N) (r : Fin 1024) (k : Fin 2048) : iblk m c 0 t (ix2 r k) = argA m c (ix3 0 (row t r) k) := by
  blk_ext! [iblk, V, idx t]
/-- its columns of the weights' upper half, -/
theorem read_u (t : Fin cfg0.N) (k : Fin 2048) (n : Fin 512) : iblk m c 1 t (ix2 k n) = argW m c (ix3 0 (upper k) (col t n)) := by
  blk_ext! [iblk, V, idx t]
/-- its rows of the convolution's output, -/
theorem read_b (t : Fin cfg0.N) (r : Fin 1024) (k : Fin 2048) : iblk m c 2 t (ix2 r k) = argB m c (ix3 0 (row t r) k) := by
  blk_ext! [iblk, V, idx t]
/-- its columns of the weights' lower half, -/
theorem read_l (t : Fin cfg0.N) (k : Fin 2048) (n : Fin 512) : iblk m c 3 t (ix2 k n) = argW m c (ix3 0 (lower k) (col t n)) := by
  blk_ext! [iblk, V, idx t]
/-- its tile of the residual -/
theorem read_x (t : Fin cfg0.N) (r : Fin 1024) (n : Fin 512) : iblk m c 4 t (ix2 r n) = argX m c (ix3 0 (row t r) (col t n)) := by
  blk_ext! [iblk, V, idx t]
/-- and the gate of its columns. -/
theorem read_g (t : Fin cfg0.N) (n : Fin 512) : iblk m c 5 t (ix3 0 0 n) = argG m c (ix2 0 (col t n)) := by
  blk_ext! [iblk, V, idx t]

/-- The result at a row and a column. -/
noncomputable def result (t : Fin 16384) (n : Fin 4096) : EReal :=
  argX m c (ix3 0 t n) + argG m c (ix2 0 n) * (∑ k : Fin 2048, argA m c (ix3 0 t k) * argW m c (ix3 0 (upper k) n)
    + ∑ k : Fin 2048, argB m c (ix3 0 t k) * argW m c (ix3 0 (lower k) n))

/-- Every entry is in some grid point's block. -/
theorem cover (i : S16384x4096.Idx) : ∃ t : Fin cfg0.N, (cfg0.win 6).flush t = true ∧ i ∈ ((cfg0.win 6).blk t).view.set := by
  have h0 : (i 0).val < 16384 := (i 0).isLt
  have h1 : (i 1).val < 4096 := (i 1).isLt
  have hN : cfg0.N = 128 := N_0
  obtain ⟨t, ht⟩ : ∃ t : Fin cfg0.N, t.val = (i 1).val / 512 * 16 + (i 0).val / 1024 := ⟨⟨_, by omega⟩, rfl⟩
  refine ⟨t, flush0_6 t, ?_⟩
  show i ∈ ((View.whole main_v10).slice (win0_6.rect t)).set
  rw [View.set_slice_whole, Rect.mem_set_unit]
  obtain ⟨-, -, -, -, -, -, e⟩ := idx t
  intro a
  show win0_6.index t a * _ ≤ _ ∧ _ < win0_6.index t a * _ + _
  rw [e]
  match a with
  | ⟨0, _⟩ => show t.val % 16 * 1024 ≤ (i 0).val ∧ (i 0).val < t.val % 16 * 1024 + 1024; omega
  | ⟨1, _⟩ => show t.val / 16 * 512 ≤ (i 1).val ∧ (i 1).val < t.val / 16 * 512 + 512; omega

/-- The array after the run. -/
theorem final : (dats m 0 c).arrAt 6 cfg0.N = fun i => result m c (i 0) (i 1) := by
  refine (dats m 0 c).arrAt_eq_of_cover 6 _ (fun t hf => ?_) cover
  rw [Value.flushed6]
  obtain ⟨-, -, -, -, -, -, e⟩ := idx t
  funext y
  obtain ⟨x, d, rfl⟩ : ∃ x d, y = ix2 x d := ⟨y 0, y 1, eq_ix2 y⟩
  refine (out_at _ _ _ _ _ _ x d).trans ?_
  simp only [read_a, read_u, read_b, read_l, read_x, read_g]
  refine (congrArg₂ (result m c) (Fin.ext ?_) (Fin.ext ?_) : result m c (row t x) (col t d) = _)
  · show t.val % 16 * 1024 + x.val = win0_6.index t (0 : Fin 2) * 1024 + 1 * x.val
    rw [e]; show _ = t.val % 16 * 1024 + 1 * x.val; omega
  · show t.val / 16 * 512 + d.val = win0_6.index t (1 : Fin 2) * 512 + 1 * d.val
    rw [e]; show _ = t.val / 16 * 512 + 1 * d.val; omega

end Cert.EvenIdeal.Hand
-- ==== Proof.EvenRef.lean ====
module

public import proofs.«01_k».proof.Proof.Gen.EvenRefIdeal.Run
public import proofs.«01_k».proof.Proof.Gen.EvenRefIdeal.Read
public import Idealize.ShloMosaic.Lib.Pointwise
public import Idealize.ShloMosaic.Lib.Pipeline.ValueKit

/-!
# What the reference leaves for the even mixer's output projection
-/

@[expose] public section

open Idealize.ShloMosaic Idealize.SL
namespace Cert.EvenRefIdeal.Hand
open Cert.EvenRefIdeal Cert.EvenRefIdeal.Read

variable (A B : Vec Ideal ⟨3, ![1, 16384, 2048]⟩ .f32) (W : Vec Ideal ⟨3, ![1, 4096, 4096]⟩ .f32) (X : Vec Ideal ⟨3, ![1, 16384, 4096]⟩ .f32)
    (G : Vec Ideal ⟨2, ![1, 4096]⟩ .f32)

/-- The two outputs side by side: the attention's columns, -/
theorem left_at (t : Fin 16384) (k : Fin 2048) : val_main_v1 (F := Ideal) A B (ix3 0 t (⟨k.val, by omega⟩ : Fin 4096)) = A (ix3 0 t k) := by
  unfold val_main_v1
  exact concatenate_pair_apply_left (t := S1x16384x4096) 2 A B Gen.concatenates_S1x16384x2048_S1x16384x2048_S1x16384x4096_d2 (ix3 0 t (⟨k.val, by omega⟩ : Fin 4096)) rfl (ix3 0 t k) (fun b => by
    match b with
    | ⟨0, _⟩ => rfl
    | ⟨1, _⟩ => rfl
    | ⟨2, _⟩ => rfl)
/-- then the convolution's. -/
theorem right_at (t : Fin 16384) (k : Fin 2048) : val_main_v1 (F := Ideal) A B (ix3 0 t (⟨2048 + k.val, by omega⟩ : Fin 4096)) = B (ix3 0 t k) := by
  unfold val_main_v1
  refine concatenate_pair_apply_right (t := S1x16384x4096) 2 A B Gen.concatenates_S1x16384x2048_S1x16384x2048_S1x16384x4096_d2 (ix3 0 t (⟨2048 + k.val, by omega⟩ : Fin 4096)) rfl rfl (ix3 0 t k) (fun b h => ?_) ?_
  · match b, h with
    | ⟨0, _⟩, _ => rfl
    | ⟨1, _⟩, _ => rfl
    | ⟨2, _⟩, h => exact absurd rfl h
  · show k.val + 2048 = 2048 + k.val
    omega

/-- The residual plus the gate times the product, entry by entry, the product as a sum over each half of the weights' rows. -/
theorem result_at (t : Fin 16384) (n : Fin 4096) :
    val_main_v7 (F := Ideal) A B W X G (ix2 t n) = X (ix3 0 t n) + G (ix2 0 n) *
      (∑ k : Fin 2048, A (ix3 0 t k) * W (ix3 0 (⟨k.val, by omega⟩ : Fin 4096) n)
        + ∑ k : Fin 2048, B (ix3 0 t k) * W (ix3 0 (⟨2048 + k.val, by omega⟩ : Fin 4096) n)) := by
  have e : idx_main_v7 (ix2 t n) = ix3 0 t n := funext fun x => Fin.ext (by fin_cases x <;> dsimp <;> omega)
  have s : ∑ k : Fin 4096, val_main_v1 (F := Ideal) A B (lidx_main_v3 (ix3 0 t n) k) * val_main_v2 (F := Ideal) W (ridx_main_v3 (ix3 0 t n) k)
      = ∑ k : Fin 4096, val_main_v1 (F := Ideal) A B (ix3 0 t k) * W (ix3 0 k n) := by
    refine Finset.sum_congr rfl fun k _ => ?_
    rw [val_main_v2_apply]
    refine congrArg₂ (· * ·) (congrArg _ (funext fun x => Fin.ext ?_)) (congrArg W (funext fun x => Fin.ext ?_)) <;>
      (fin_cases x <;> dsimp <;> omega)
  rw [val_main_v7_apply, e, val_main_v6_apply, val_main_v5_apply, val_main_v4_apply, val_main_v0_apply, val_main_v3_apply, s]
  refine congrArg₂ (fun a b : EReal => a + b) rfl (congrArg₂ (fun a b : EReal => a * b) (congrArg G (funext fun x => Fin.ext ?_)) ?_)
  · fin_cases x <;> rfl
  · refine (Fin.sum_univ_add (a := 2048) (b := 2048) (fun k : Fin 4096 => val_main_v1 (F := Ideal) A B (ix3 0 t k) * W (ix3 0 k n))).trans ?_
    refine congrArg₂ (fun a b : EReal => a + b) (Finset.sum_congr rfl fun k _ => ?_) (Finset.sum_congr rfl fun k _ => ?_)
    · exact congrArg (· * W (ix3 0 (⟨k.val, by omega⟩ : Fin 4096) n)) (left_at A B t k)
    · exact congrArg (· * W (ix3 0 (⟨2048 + k.val, by omega⟩ : Fin 4096) n)) (right_at A B t k)

end Cert.EvenRefIdeal.Hand
-- ==== Proof.AttnSpec.lean ====
module

public import Idealize.ShloMosaic.Lib.Pointwise
public import Idealize.ShloMosaic.Lib.IdealHost

/-!
# Banded attention with a sink, as a function of the projected columns

Query row `t = 128 n + r` sees 384 key slots: slot `j` stands for position `128 n + j - 128`, and is seen if that position exists and
is at most 128 away from the query.  The weight of a slot is the exponential of its score over the sum of all of them and of the sink's.
A slot that is not seen has score -∞, so weight 0: what stands in the slot does not matter, as long as the sum is not 0.
-/

@[expose] public section

open Idealize.ShloMosaic Idealize.SL
namespace Cert.Attn

/-! ### The weights -/

/-- The greatest of the scores and the sink. -/
noncomputable def top (s : Fin 384 → EReal) (sink : EReal) : EReal := max ((Finset.univ : Finset (Fin 384)).fold max ⊥ s) sink
/-- The sum of the exponentials, the sink's among them. -/
noncomputable def total (s : Fin 384 → EReal) (sink : EReal) : EReal :=
  ∑ j : Fin 384, Ideal.exp (s j - top s sink) + Ideal.exp (sink - top s sink)
/-- The weight of a slot. -/
noncomputable def weight (s : Fin 384 → EReal) (sink : EReal) (j : Fin 384) : EReal :=
  Ideal.div (Ideal.exp (s j - top s sink)) (total s sink)
/-- The weighted sum of the values. -/
noncomputable def attend (s : Fin 384 → EReal) (sink : EReal) (v : Fin 384 → EReal) : EReal := ∑ j : Fin 384, weight s sink j * v j

/-- The exponential is never negative, -/
theorem exp_nonneg (x : EReal) : 0 ≤ Ideal.exp x := by
  induction x with
  | bot => simp
  | top => simp
  | coe r => rw [Ideal.exp_coe]; exact_mod_cast (Real.exp_pos r).le
/-- and positive off -∞. -/
theorem exp_pos {x : EReal} (h : x ≠ ⊥) : 0 < Ideal.exp x := by
  induction x with
  | bot => exact absurd rfl h
  | top => simp
  | coe r => rw [Ideal.exp_coe]; exact_mod_cast Real.exp_pos r

/-- The greatest is not +∞ if no score is and the sink is not. -/
theorem top_ne_top (s : Fin 384 → EReal) (sink : EReal) (hs : ∀ j, s j ≠ ⊤) (hk : sink ≠ ⊤) : top s sink ≠ ⊤ := by
  have h : (Finset.univ : Finset (Fin 384)).fold max ⊥ s < ⊤ := (Finset.fold_max_lt _).mpr ⟨bot_lt_top, fun j _ => lt_top_iff_ne_top.mpr (hs j)⟩
  exact (max_lt h (lt_top_iff_ne_top.mpr hk)).ne

/-- Then the sum is positive, if some score is not -∞. -/
theorem total_pos (s : Fin 384 → EReal) (sink : EReal) (hs : ∀ j, s j ≠ ⊤) (hk : sink ≠ ⊤) (j₀ : Fin 384) (h₀ : s j₀ ≠ ⊥) :
    0 < total s sink := by
  have ht := top_ne_top s sink hs hk
  have hd : s j₀ - top s sink ≠ ⊥ := by
    rw [sub_eq_add_neg]
    intro h
    rcases EReal.add_eq_bot_iff.mp h with h | h
    · exact h₀ h
    · exact ht (by simpa using h)
  have h1 : Ideal.exp (s j₀ - top s sink) ≤ ∑ j : Fin 384, Ideal.exp (s j - top s sink) :=
    Finset.single_le_sum (f := fun j => Ideal.exp (s j - top s sink)) (fun j _ => exp_nonneg _) (Finset.mem_univ j₀)
  refine lt_of_lt_of_le (exp_pos hd) (h1.trans ?_)
  exact le_add_of_nonneg_right (exp_nonneg _)

/-- A slot of score -∞ has weight 0. -/
theorem weight_bot (s : Fin 384 → EReal) (sink : EReal) (ht : 0 < total s sink) (j : Fin 384) (h : s j = ⊥) : weight s sink j = 0 := by
  unfold weight
  rw [h, sub_eq_add_neg, EReal.bot_add, Ideal.exp_bot, Ideal.div, if_neg ht.ne', zero_mul]

/-- The values of the slots of score -∞ do not matter. -/
theorem attend_congr (s : Fin 384 → EReal) (sink : EReal) (v w : Fin 384 → EReal) (hs : ∀ j, s j ≠ ⊤) (hk : sink ≠ ⊤) (j₀ : Fin 384)
    (h₀ : s j₀ ≠ ⊥) (hv : ∀ j, s j ≠ ⊥ → v j = w j) : attend s sink v = attend s sink w := by
  refine Finset.sum_congr rfl fun j _ => ?_
  by_cases h : s j = ⊥
  · rw [weight_bot s sink (total_pos s sink hs hk j₀ h₀) j h, zero_mul, zero_mul]
  · rw [hv j h]

/-! ### Finite numbers -/

/-- `x` is a real number. -/
def IsReal (x : EReal) : Prop := ∃ r : ℝ, x = (r : EReal)

/-- A number is real. -/
theorem IsReal.coe (r : ℝ) : IsReal (r : EReal) := ⟨r, rfl⟩
/-- A product of reals is real. -/
theorem IsReal.mul {x y : EReal} : IsReal x → IsReal y → IsReal (x * y) := fun ⟨a, ha⟩ ⟨b, hb⟩ => ⟨a * b, by rw [ha, hb, EReal.coe_mul]⟩
/-- A sum of two reals is real. -/
theorem IsReal.add {x y : EReal} : IsReal x → IsReal y → IsReal (x + y) := fun ⟨a, ha⟩ ⟨b, hb⟩ => ⟨a + b, by rw [ha, hb, EReal.coe_add]⟩
/-- A negated real is real. -/
theorem IsReal.neg {x : EReal} : IsReal x → IsReal (-x) := fun ⟨a, ha⟩ => ⟨-a, by rw [ha, EReal.coe_neg]⟩
/-- A difference of reals is real. -/
theorem IsReal.sub {x y : EReal} (hx : IsReal x) (hy : IsReal y) : IsReal (x - y) := by rw [sub_eq_add_neg]; exact hx.add hy.neg
/-- A finite sum of reals is real. -/
theorem IsReal.sum {n : ℕ} {f : Fin n → EReal} (h : ∀ k, IsReal (f k)) : IsReal (∑ k, f k) :=
  Finset.sum_induction f IsReal (fun _ _ => IsReal.add) ⟨0, rfl⟩ fun k _ => h k
/-- The cosine of a real is real. -/
theorem IsReal.cos {x : EReal} : IsReal x → IsReal (Ideal.cos x) := fun ⟨a, ha⟩ => ⟨Real.cos a, by rw [ha, Ideal.cos_coe]⟩
/-- The sine of a real is real. -/
theorem IsReal.sin {x : EReal} : IsReal x → IsReal (Ideal.sin x) := fun ⟨a, ha⟩ => ⟨Real.sin a, by rw [ha, Ideal.sin_coe]⟩
/-- A real is not +∞. -/
theorem IsReal.ne_top {x : EReal} : IsReal x → x ≠ ⊤ := fun ⟨a, ha⟩ => by rw [ha]; exact EReal.coe_ne_top a
/-- A real is not -∞. -/
theorem IsReal.ne_bot {x : EReal} : IsReal x → x ≠ ⊥ := fun ⟨a, ha⟩ => by rw [ha]; exact EReal.coe_ne_bot a

/-! ### The rotation -/

/-- The constants of the angles and of the scores, as words: ten thousand, -/
theorem tenThousand : Ideal.ofBits .f32 0x461C4000#32 = ((10000 : ℝ) : EReal) := by
  simp [Ideal.ofBits, Ideal.ieee, -EReal.coe_mul]; norm_num
/-- two, -/
theorem two : Ideal.ofBits .f32 0x40000000#32 = ((2 : ℝ) : EReal) := by
  simp [Ideal.ofBits, Ideal.ieee, -EReal.coe_mul]; norm_num
/-- the head's width, -/
theorem width : Ideal.ofBits .f32 0x43000000#32 = ((128 : ℝ) : EReal) := by
  simp [Ideal.ofBits, Ideal.ieee, -EReal.coe_mul]; norm_num
/-- -∞ -/
theorem negInf : Ideal.ofBits .f32 0xFF800000#32 = (⊥ : EReal) := by
  simp [Ideal.ofBits, Ideal.ieee]
/-- and the scale, which is a real number. -/
theorem scale_real : IsReal (Ideal.ofBits .f32 0x3DB504F3#32) := by
  refine ⟨(1 : ℝ) * (2 ^ 23 + 3474675 : Nat) * (2 : ℝ) ^ ((123 : Int) - 127 - 23), ?_⟩
  simp [Ideal.ofBits, Ideal.ieee, -EReal.coe_mul]
  try norm_num

/-- The angle of position `t` for the pair of columns `d`, `d + 64`. -/
noncomputable def angle (t : Fin 16384) (d : Fin 64) : EReal :=
  (((BitVec.ofNat 32 t.val).toInt : ℝ) : EReal) * Ideal.pow (Ideal.ofBits .f32 0x461C4000#32)
    (Ideal.div (-(((BitVec.ofNat 32 d.val).toInt : ℝ) : EReal) * Ideal.ofBits .f32 0x40000000#32) (Ideal.ofBits .f32 0x43000000#32))

/-- It is a real number. -/
theorem angle_real (t : Fin 16384) (d : Fin 64) : IsReal (angle t d) := by
  unfold angle
  rw [tenThousand, two, width, Ideal.div_coe (by norm_num)]
  obtain ⟨y, hy⟩ := ((IsReal.coe ((BitVec.ofNat 32 d.val).toInt : ℝ)).neg.mul (IsReal.coe 2)).mul (IsReal.coe (1 / 128))
  rw [hy, Ideal.pow_coe_coe]
  exact (IsReal.coe _).mul (IsReal.coe _)

/-- A head's row, rotated by the angles of position `t`. -/
noncomputable def rope (x : Fin 128 → EReal) (t : Fin 16384) (d : Fin 128) : EReal :=
  if h : d.val < 64 then
    x d * Ideal.cos (angle t ⟨d.val, h⟩) - x ⟨d.val + 64, by omega⟩ * Ideal.sin (angle t ⟨d.val, h⟩)
  else x d * Ideal.cos (angle t ⟨d.val - 64, by omega⟩) + x ⟨d.val - 64, by omega⟩ * Ideal.sin (angle t ⟨d.val - 64, by omega⟩)

/-- A row of real numbers stays one. -/
theorem rope_real {x : Fin 128 → EReal} (h : ∀ d, IsReal (x d)) (t : Fin 16384) (d : Fin 128) : IsReal (rope x t d) := by
  unfold rope
  split
  · exact ((h _).mul (angle_real _ _).cos).sub ((h _).mul (angle_real _ _).sin)
  · exact ((h _).mul (angle_real _ _).cos).add ((h _).mul (angle_real _ _).sin)

/-- The same with the cosines and the signed sines in tables: the other half of the row comes to each half. -/
noncomputable def turn (v c s : Fin 128 → EReal) (d : Fin 128) : EReal := v d * c d + v ⟨(d.val + 128 - 64) % 128, by omega⟩ * s d
/-- The table of cosines -/
noncomputable def cosTable (t : Fin 16384) (d : Fin 128) : EReal :=
  if h : d.val < 64 then Ideal.cos (angle t ⟨d.val, h⟩) else Ideal.cos (angle t ⟨d.val - 64, by omega⟩)
/-- and that of sines. -/
noncomputable def sinTable (t : Fin 16384) (d : Fin 128) : EReal :=
  if h : d.val < 64 then -Ideal.sin (angle t ⟨d.val, h⟩) else Ideal.sin (angle t ⟨d.val - 64, by omega⟩)

/-- With these tables it is the rotation. -/
theorem turn_eq (v : Fin 128 → EReal) (t : Fin 16384) (d : Fin 128) : turn v (cosTable t) (sinTable t) d = rope v t d := by
  unfold turn rope cosTable sinTable
  by_cases h : d.val < 64
  · have e (h') : (⟨(d.val + 128 - 64) % 128, h'⟩ : Fin 128) = ⟨d.val + 64, by omega⟩ := Fin.ext (by dsimp only; omega)
    rw [dif_pos h, dif_pos h, dif_pos h, e, mul_neg, sub_eq_add_neg]
  · have e (h') : (⟨(d.val + 128 - 64) % 128, h'⟩ : Fin 128) = ⟨d.val - 64, by omega⟩ := Fin.ext (by dsimp only; omega)
    rw [dif_neg h, dif_neg h, dif_neg h, e]

/-! ### The scores -/

variable (Z : Vec Ideal ⟨3, ![1, 16384, 9216]⟩ .f32) (S : Vec Ideal ⟨2, ![1, 16]⟩ .f32)

/-- Head `h` of the query of position `t`, -/
noncomputable def qrow (t : Fin 16384) (h : Fin 16) (d : Fin 128) : EReal := Z (ix3 0 t (⟨h.val * 128 + d.val, by omega⟩ : Fin 9216))
/-- head `g` of its key -/
noncomputable def krow (t : Fin 16384) (g : Fin 4) (d : Fin 128) : EReal := Z (ix3 0 t (⟨2048 + (g.val * 128 + d.val), by omega⟩ : Fin 9216))
/-- and of its value. -/
noncomputable def vrow (t : Fin 16384) (g : Fin 4) (d : Fin 128) : EReal := Z (ix3 0 t (⟨2560 + (g.val * 128 + d.val), by omega⟩ : Fin 9216))

/-- Four heads of the query share one of the keys and values. -/
abbrev shared (h : Fin 16) : Fin 4 := ⟨h.val / 4, by omega⟩

/-- The score of the query of position `t` against the key of position `p`. -/
noncomputable def score (t p : Fin 16384) (h : Fin 16) : EReal :=
  (∑ d : Fin 128, rope (qrow Z t h) t d * rope (krow Z p (shared h)) p d) * Ideal.ofBits .f32 0x3DB504F3#32

/-- Slot `j` of the row's block is seen. -/
def Seen (n r : Fin 128) (j : Fin 384) : Prop := 128 ≤ n.val * 128 + j.val ∧ n.val * 128 + j.val < 16512 ∧ r.val ≤ j.val ∧ j.val ≤ r.val + 256

instance (n r : Fin 128) (j : Fin 384) : Decidable (Seen n r j) := inferInstanceAs (Decidable (_ ∧ _))

/-- The row in the array. -/
abbrev pos (n r : Fin 128) : Fin 16384 := ⟨n.val * 128 + r.val, by omega⟩
/-- The position a slot reads: of its block, or of the first or last block if there is none. -/
abbrev near (n : Fin 128) (j : Fin 384) : Fin 16384 :=
  if h : j.val < 128 then ⟨(n.val - 1) * 128 + j.val, by omega⟩
  else if h' : j.val < 256 then ⟨n.val * 128 + (j.val - 128), by omega⟩
  else ⟨min (n.val + 1) 127 * 128 + (j.val - 256), by omega⟩

/-- Of a slot that is seen it is the slot's position. -/
theorem near_val {n r : Fin 128} {j : Fin 384} (h : Seen n r j) : (near n j).val + 128 = n.val * 128 + j.val := by
  obtain ⟨h1, h2, h3, h4⟩ := h
  unfold near
  split
  · show (n.val - 1) * 128 + j.val + 128 = _; omega
  · split
    · show n.val * 128 + (j.val - 128) + 128 = _; omega
    · show min (n.val + 1) 127 * 128 + (j.val - 256) + 128 = _; omega

/-- One of three blocks, by the slot. -/
def three {α : Type} (a b c : Fin 128 → α) (j : Fin 384) : α :=
  if h : j.val < 128 then a ⟨j.val, h⟩ else if h' : j.val < 256 then b ⟨j.val - 128, by omega⟩ else c ⟨j.val - 256, by omega⟩

/-- The three blocks a row's slots read. -/
theorem three_eq {α : Type} (f : Fin 16384 → α) (n : Fin 128) (j : Fin 384) :
    three (fun r => f ⟨(n.val - 1) * 128 + r.val, by omega⟩) (fun r => f (pos n r)) (fun r => f ⟨min (n.val + 1) 127 * 128 + r.val, by omega⟩) j
      = f (near n j) := by
  unfold three near
  split
  · rfl
  · split <;> rfl

/-- The score of a slot, -∞ if it is not seen. -/
noncomputable def masked (n r : Fin 128) (h : Fin 16) (j : Fin 384) : EReal :=
  if Seen n r j then score Z (pos n r) (near n j) h else ⊥

/-- The result at a row and a column of a head. -/
noncomputable def result (n r : Fin 128) (h : Fin 16) (d : Fin 128) : EReal :=
  attend (masked Z n r h) (S (ix2 0 h)) fun j => vrow Z (near n j) (shared h) d

/-- The columns of the queries and keys are real numbers, -/
def RealRows : Prop := ∀ (t : Fin 16384) (k : Fin 9216), k.val < 2560 → IsReal (Z (ix3 0 t k))
/-- and the sinks are. -/
def RealSinks : Prop := ∀ h : Fin 16, IsReal (S (ix2 0 h))

variable (hZ : RealRows Z) (hS : RealSinks S)

include hZ in
/-- Scores of finite queries and keys are real numbers. -/
theorem score_real (t p : Fin 16384) (h : Fin 16) : IsReal (score Z t p h) := by
  unfold score
  refine (IsReal.sum fun d => (rope_real (fun k => ?_) _ _).mul (rope_real (fun k => ?_) _ _)).mul scale_real
  · exact hZ t _ (by dsimp only; omega)
  · exact hZ p _ (by dsimp only; omega)

include hZ hS in
/-- The values of the slots that are not seen do not matter. -/
theorem result_eq (n r : Fin 128) (h : Fin 16) (d : Fin 128) (v : Fin 384 → EReal)
    (hv : ∀ j, Seen n r j → v j = vrow Z (near n j) (shared h) d) : attend (masked Z n r h) (S (ix2 0 h)) v = result Z S n r h d := by
  have hs : Seen n r ⟨r.val + 128, by omega⟩ := by
    unfold Seen; dsimp only; omega
  refine attend_congr _ _ _ _ (fun j => ?_) (hS h).ne_top ⟨r.val + 128, by omega⟩ ?_ fun j hj => ?_
  · unfold masked
    split
    · exact (score_real Z hZ _ _ _).ne_top
    · exact bot_ne_top
  · unfold masked
    rw [if_pos hs]
    exact (score_real Z hZ _ _ _).ne_bot
  · refine hv j ?_
    by_contra hc
    exact hj (by unfold masked; rw [if_neg hc])

/-! ### The mask as words -/

/-- The mask of the positions `q` and `k`, held as 32-bit words. -/
def maskWord (q k : BitVec 32) : BitVec 1 :=
  IntOp.andi (IntOp.andi (IntOp.cmpi .sle (IntOp.absi (IntOp.subi q k)) 128#32) (IntOp.cmpi .sge k 0#32)) (IntOp.cmpi .slt k 16384#32)

/-- It is set if the slot is seen. -/
theorem maskWord_eq (n r : Fin 128) (j : Fin 384) (q k : BitVec 32) (hq : q.toNat = n.val * 128 + r.val)
    (hk : k.toNat = (n.val * 128 + j.val + 4294967168) % 4294967296) : maskWord q k = if Seen n r j then 1#1 else 0#1 := by
  have hn := n.isLt; have hr := r.isLt; have hj := j.isLt
  have e : (q - k).toInt = (r.val : Int) + 128 - j.val := by
    rw [BitVec.toInt_eq_toNat_cond, BitVec.toNat_sub, hq, hk]
    split <;> omega
  have ek : k.toInt = (n.val : Int) * 128 + j.val - 128 := by
    rw [BitVec.toInt_eq_toNat_cond, hk]
    split <;> omega
  have ea : (IntOp.absi (IntOp.subi q k)).toInt = |(r.val : Int) + 128 - j.val| := by
    show (if (q - k).msb then -(q - k) else q - k).toInt = _
    rw [BitVec.msb_eq_toInt, e]
    by_cases h : (r.val : Int) + 128 - j.val < 0
    · rw [if_pos (by simpa using h), BitVec.toInt_neg, e, abs_of_neg h]
      rw [Int.bmod_def]
      split <;> omega
    · rw [if_neg (by simpa using h), e, abs_of_nonneg (by omega)]
  have c1 : IntOp.cmpi .sle (IntOp.absi (IntOp.subi q k)) 128#32 = BitVec.ofBool (decide (|(r.val : Int) + 128 - j.val| ≤ 128)) := by
    show BitVec.ofBool (BitVec.sle _ _) = _
    rw [BitVec.sle_eq_decide, ea]; rfl
  have c2 : IntOp.cmpi .sge k 0#32 = BitVec.ofBool (decide (0 ≤ (n.val : Int) * 128 + j.val - 128)) := by
    show BitVec.ofBool (BitVec.sle _ _) = _
    rw [BitVec.sle_eq_decide, ek]; rfl
  have c3 : IntOp.cmpi .slt k 16384#32 = BitVec.ofBool (decide ((n.val : Int) * 128 + j.val - 128 < 16384)) := by
    show BitVec.ofBool (BitVec.slt _ _) = _
    rw [BitVec.slt_eq_decide, ek]; rfl
  have all (A B C : Prop) [Decidable A] [Decidable B] [Decidable C] :
      IntOp.andi (IntOp.andi (BitVec.ofBool (decide A)) (BitVec.ofBool (decide B))) (BitVec.ofBool (decide C))
        = if A ∧ B ∧ C then 1#1 else 0#1 := by
    by_cases h1 : A <;> by_cases h2 : B <;> by_cases h3 : C <;> simp [h1, h2, h3, IntOp.andi]
  unfold maskWord
  rw [c1, c2, c3, all]
  have hs : Seen n r j ↔ |(r.val : Int) + 128 - j.val| ≤ 128 ∧ 0 ≤ (n.val : Int) * 128 + j.val - 128 ∧ (n.val : Int) * 128 + j.val - 128 < 16384 := by
    unfold Seen
    rw [abs_le]
    omega
  exact (if_congr hs rfl rfl).symm

/-- What it selects. -/
theorem select_maskWord {α : Type} (n r : Fin 128) (j : Fin 384) (q k : BitVec 32) (hq : q.toNat = n.val * 128 + r.val)
    (hk : k.toNat = (n.val * 128 + j.val + 4294967168) % 4294967296) (a b : α) :
    Scalar.select (maskWord q k) a b = if Seen n r j then a else b := by
  rw [maskWord_eq n r j q k hq hk]
  by_cases h : Seen n r j
  · rw [if_pos h, if_pos h]; rfl
  · rw [if_neg h, if_neg h]; rfl

end Cert.Attn
-- ==== Proof.AttnPoint.lean ====
module

public import proofs.«01_k».proof.Proof.Gen.AttnIdeal.Value
public import proofs.«01_k».proof.Proof.AttnSpec
public import Idealize.ShloMosaic.Lib.Pointwise
public import Idealize.ShloMosaic.Lib.Pipeline.ValueKit
public import Idealize.ShloMosaic.Lib.Pipeline.ReadBack

/-!
# What one step of the banded attention writes

A step holds one block of queries of four heads, the block's keys and values and its neighbours', and the cosines and sines of the three
blocks' angles.  It writes the four heads' weighted sums side by side.
-/

@[expose] public section

open Idealize.ShloMosaic Idealize.SL
namespace Cert.AttnIdeal.Hand
open Cert.AttnIdeal Cert.AttnIdeal.Gen Cert.Attn
set_option maxRecDepth 65536

section payloads

variable (v : Vec Ideal S1x128x128 .f32) (c s : Vec Ideal S128x128 .f32)

/-- The queries of the group's first head, turned; -/
theorem turn8_at (r d : Fin 128) :
    k0_pay8 (F := Ideal) v c s (ix2 r d) = turn (fun k => v (ix3 0 r k)) (fun k => c (ix2 r k)) (fun k => s (ix2 r k)) d := by
  unfold_payloads
  pointwise
  rfl
/-- of its second, -/
theorem turn9_at (r d : Fin 128) :
    k0_pay9 (F := Ideal) v c s (ix2 r d) = turn (fun k => v (ix3 0 r k)) (fun k => c (ix2 r k)) (fun k => s (ix2 r k)) d :=
  turn8_at v c s r d
/-- of its third -/
theorem turn10_at (r d : Fin 128) :
    k0_pay10 (F := Ideal) v c s (ix2 r d) = turn (fun k => v (ix3 0 r k)) (fun k => c (ix2 r k)) (fun k => s (ix2 r k)) d :=
  turn8_at v c s r d
/-- and of its fourth. -/
theorem turn11_at (r d : Fin 128) :
    k0_pay11 (F := Ideal) v c s (ix2 r d) = turn (fun k => v (ix3 0 r k)) (fun k => c (ix2 r k)) (fun k => s (ix2 r k)) d :=
  turn8_at v c s r d

end payloads

/-- The keys of the three blocks, each turned with its own tables. -/
theorem keys_at (a b c : Vec Ideal S1x128x128 .f32) (ac az bc bz cc cz : Vec Ideal S128x128 .f32) (j : Fin 384) (d : Fin 128) :
    k0_pay5 (F := Ideal) a ac az b bc bz c cc cz (ix2 j d)
      = three (fun r => turn (fun k => a (ix3 0 r k)) (fun k => ac (ix2 r k)) (fun k => az (ix2 r k)) d)
        (fun r => turn (fun k => b (ix3 0 r k)) (fun k => bc (ix2 r k)) (fun k => bz (ix2 r k)) d)
        (fun r => turn (fun k => c (ix3 0 r k)) (fun k => cc (ix2 r k)) (fun k => cz (ix2 r k)) d) j := by
  unfold_payloads
  pointwise
  unfold three turn
  by_cases h : j.val < 128
  · rw [dif_pos h, dif_pos h]
  · rw [dif_neg h, dif_neg h]
    by_cases h' : j.val < 256
    · rw [dif_pos (by omega), dif_pos h']
    · have e : j.val - 128 - 128 = j.val - 256 := by omega
      rw [dif_neg (by omega), dif_neg h']
      simp only [e]

/-- The values of the three blocks. -/
theorem values_at (a b c : Vec Ideal S1x128x128 .f32) (j : Fin 384) (d : Fin 128) :
    k0_pay6 (F := Ideal) a b c (ix2 j d) = three (fun r => a (ix3 0 r d)) (fun r => b (ix3 0 r d)) (fun r => c (ix3 0 r d)) j := by
  unfold_payloads
  pointwise
  unfold three
  by_cases h : j.val < 128
  · rw [dif_pos h, dif_pos h]
  · rw [dif_neg h, dif_neg h]
    by_cases h' : j.val < 256
    · rw [dif_pos (by omega), dif_pos h']
    · have e : j.val - 128 - 128 = j.val - 256 := by omega
      rw [dif_neg (by omega), dif_neg h']
      simp only [e]

/-- The mask of block `n`. -/
theorem mask_at (n r : Fin 128) (j : Fin 384) (a b : EReal) :
    Scalar.select (k0_pay7 (BitVec.ofNat 32 n.val) (ix2 r j)) a b = if Seen n r j then a else b := by
  unfold_payloads
  pointwise
  refine select_maskWord n r j _ _ ?_ ?_ a b
  · show (BitVec.ofNat 32 n.val * 128#32 + BitVec.ofNat 32 r.val).toNat = _
    rw [BitVec.toNat_add, BitVec.toNat_mul, BitVec.toNat_ofNat, BitVec.toNat_ofNat]
    have := n.isLt
    show (n.val % 4294967296 * 128 % 4294967296 + r.val % 4294967296) % 4294967296 = _
    omega
  · show ((BitVec.ofNat 32 n.val - 1#32) * 128#32 + BitVec.ofNat 32 j.val).toNat = _
    rw [BitVec.toNat_add, BitVec.toNat_mul, BitVec.toNat_sub, BitVec.toNat_ofNat, BitVec.toNat_ofNat]
    have := n.isLt
    show ((4294967296 - 1 + n.val % 4294967296) % 4294967296 * 128 % 4294967296 + j.val % 4294967296) % 4294967296 = _
    omega

/-- A head's masked scores. -/
noncomputable def scores (k : FVec Ideal S384x128 .bf16) (q : FVec Ideal S128x128 .f32) (n r : Fin 128) (j : Fin 384) : EReal :=
  if Seen n r j then (∑ d : Fin 128, q (ix2 r d) * k (ix2 j d)) * Ideal.ofBits .f32 0x3DB504F3#32 else ⊥

section heads

variable (k v : FVec Ideal S384x128 .bf16) (q : FVec Ideal S128x128 .f32) (n r d : Fin 128) (sink : EReal)

/-- The first head's scores, masked. -/
theorem scores13_at (j : Fin 384) : k0_pay13 (F := Ideal) k (k0_pay7 (BitVec.ofNat 32 n.val)) q (ix2 r j) = scores k q n r j := by
  unfold k0_pay13
  pointwise
  rw [mask_at, negInf]
  rfl

/-- The weighted sums of the values. -/
theorem head_sum (w : FVec Ideal S128x384 .f32) : k0_pay1 (F := Ideal) v w (ix3 0 r d) = ∑ j : Fin 384, w (ix2 r j) * v (ix2 j d) := by
  unfold_payloads
  pointwise

/-- The softmax of a table of scores and a sink. -/
theorem softmax_at (s : FVec Ideal S128x384 .f32) (j : Fin 384) :
    k0_pay19 (F := Ideal) s sink (ix2 r j) = weight (fun j => s (ix2 r j)) sink j := by
  unfold k0_pay19
  pointwise
  rw [negInf]
  rfl

/-- Head 2, -/
theorem head2_at : k0_pay3 (F := Ideal) v (k0_pay19 (k0_pay14 k (k0_pay7 (BitVec.ofNat 32 n.val)) q) sink) (ix3 0 r d)
    = attend (scores k q n r) sink fun j => v (ix2 j d) := by
  refine (head_sum v r d _).trans ?_
  unfold attend
  refine Finset.sum_congr rfl fun j _ => ?_
  rw [softmax_at]
  refine congrArg (fun x => weight x sink j * v (ix2 j d)) (funext fun j => ?_)
  exact scores13_at k q n r j
/-- head 1, -/
theorem head1_at : k0_pay2 (F := Ideal) v (k0_pay18 (k0_pay13 k (k0_pay7 (BitVec.ofNat 32 n.val)) q) sink (k0_pay17 k (k0_pay7 (BitVec.ofNat 32 n.val)) q)) (ix3 0 r d)
    = attend (scores k q n r) sink fun j => v (ix2 j d) := head2_at k v q n r d sink
/-- head 3 -/
theorem head3_at : k0_pay4 (F := Ideal) v (k0_pay21 (k0_pay15 k (k0_pay7 (BitVec.ofNat 32 n.val)) q) sink) (k0_pay22 (k0_pay15 k (k0_pay7 (BitVec.ofNat 32 n.val)) q) sink) (ix3 0 r d)
    = attend (scores k q n r) sink fun j => v (ix2 j d) := head2_at k v q n r d sink
/-- and head 0. -/
theorem head0_at : k0_pay1 (F := Ideal) v (k0_pay16 (k0_pay7 (BitVec.ofNat 32 n.val)) (k0_pay12 k q) (Scalar.ofBits .f32 0xFF800000#32) sink) (ix3 0 r d)
    = attend (scores k q n r) sink fun j => v (ix2 j d) := head2_at k v q n r d sink

end heads

section step

variable (x0 : Vec Ideal S16 .f32) (x1 : Vec Ideal S1x128x512 .f32) (x2 x3 x4 x5 x6 x7 : Vec Ideal S1x128x128 .f32)
  (x8 x9 x10 x11 x12 x13 : Vec Ideal S128x128 .f32)

/-- A step's result for its head `g`, from the blocks it reads. -/
noncomputable def step (sink : EReal) (n r : Fin 128) (g : Fin 4) (d : Fin 128) : EReal :=
  attend (fun j => if Seen n r j then (∑ k : Fin 128,
      turn (fun k => x1 (ix3 0 r (⟨g.val * 128 + k.val, by omega⟩ : Fin 512))) (fun k => x8 (ix2 r k)) (fun k => x9 (ix2 r k)) k
        * three (fun r => turn (fun k => x2 (ix3 0 r k)) (fun k => x10 (ix2 r k)) (fun k => x11 (ix2 r k)) k)
          (fun r => turn (fun k => x3 (ix3 0 r k)) (fun k => x8 (ix2 r k)) (fun k => x9 (ix2 r k)) k)
          (fun r => turn (fun k => x4 (ix3 0 r k)) (fun k => x12 (ix2 r k)) (fun k => x13 (ix2 r k)) k) j)
      * Ideal.ofBits .f32 0x3DB504F3#32 else ⊥) sink
    fun j => three (fun r => x5 (ix3 0 r d)) (fun r => x6 (ix3 0 r d)) (fun r => x7 (ix3 0 r d)) j

/-- It is what the head's payloads give of the head's columns. -/
theorem step_eq (sink sink' : EReal) (hs : sink = sink') (n r : Fin 128) (g : Fin 4) (d : Fin 128) (o : Nat) (ho : o = g.val * 128)
    (inb : ∀ a, (![0, 0, o] : Fin 3 → Nat) a + S1x128x128.size a ≤ S1x128x512.size a) :
    attend (scores (k0_pay5 (F := Ideal) x2 x10 x11 x3 x8 x9 x4 x12 x13)
        (k0_pay8 (F := Ideal) (View.ld x1 (Rect.unit ![0, 0, o] S1x128x128.size inb)) x8 x9) n r) sink
      (fun j => k0_pay6 (F := Ideal) x5 x6 x7 (ix2 j d)) = step x1 x2 x3 x4 x5 x6 x7 x8 x9 x10 x11 x12 x13 sink' n r g d := by
  subst hs
  have hl (k : Fin 128) : View.ld x1 (Rect.unit ![0, 0, o] S1x128x128.size inb) (ix3 0 r k)
      = x1 (ix3 0 r (⟨g.val * 128 + k.val, by omega⟩ : Fin 512)) := by
    refine congrArg x1 (funext fun a => Fin.ext ?_)
    fin_cases a
    · rfl
    · show 0 + 1 * r.val = r.val; omega
    · show o + 1 * k.val = g.val * 128 + k.val; omega
  unfold step scores
  simp only [turn8_at, keys_at, values_at, hl]

/-- Where a step reads the sink of its head `g`. -/
theorem off_eq (i : grid0.Coords) (h : Fin 4) (hh : (i 2).val = h.val) (g : Fin 4) : k0_off1 i (BitVec.ofNat 32 g.val) 0 = h.val * 4 + g.val := by
  show (Scalar.indexCast (Scalar.addi (Scalar.muli (BitVec.ofNat 32 (i 2).val) 4#32) (BitVec.ofNat 32 g.val))).toNat = _
  rw [hh]
  clear hh
  revert h g
  decide

/-- The sink of head `g`. -/
theorem sink_eq (i : grid0.Coords) (h : Fin 4) (hh : (i 2).val = h.val) (g : Fin 4) (b : BitVec 32) (hb : b = BitVec.ofNat 32 g.val)
    (inb : ∀ a, k0_off1 i b a + S1.size a ≤ S16.size a) (y) :
    View.ld x0 (Rect.unit (s := S16) (k0_off1 i b) S1.size inb) y = x0 (ix1 (⟨h.val * 4 + g.val, by omega⟩ : Fin 16)) := by
  subst hb
  refine congrArg x0 (funext fun a => Fin.ext ?_)
  fin_cases a
  have hy : (y 0).val < 1 := (y 0).isLt
  show k0_off1 i (BitVec.ofNat 32 g.val) 0 + 1 * (y 0).val = h.val * 4 + g.val
  rw [off_eq i h hh g]; omega

variable (c : Dev nD) (i : grid0.Coords) (arg3 : Memref sig .tc .smem S16 .f32) (harg3 : arg3.IsWhole) (arg4 : Memref sig .tc .vmem S1x128x512 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S1x128x512 .bf16) (harg17 : arg17.IsWhole)

/-- What a step writes at a row and a column. -/
theorem out_at (n : Fin 128) (hn : (i 1).val = n.val) (h : Fin 4) (hh : (i 2).val = h.val) (r : Fin 128) (g : Fin 4) (d : Fin 128) :
    out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix3 0 r (⟨g.val * 128 + d.val, by omega⟩ : Fin 512))
      = step x1 x2 x3 x4 x5 x6 x7 x8 x9 x10 x11 x12 x13 (x0 (ix1 (⟨h.val * 4 + g.val, by omega⟩ : Fin 16))) n r g d := by
  frame_out
  rw [hn]
  canon_tiles x h
  all_goals
    obtain ⟨y, rfl⟩ : ∃ y : Fin 128, x = ix3 0 r y := ⟨x 2, by
      funext a
      fin_cases a
      · exact Fin.ext (by have := x0_lt; show (x 0).val = 0; omega)
      · exact Fin.ext h1.symm
      · rfl⟩
  · have e : g.val * 128 + d.val = 384 + y.val := h2
    obtain rfl : g = 3 := Fin.ext (by show g.val = 3; omega)
    obtain rfl : d = y := Fin.ext (by have : (3 : Fin 4).val = 3 := rfl; omega)
    exact (head3_at _ _ _ n r d _).trans (step_eq x1 x2 x3 x4 x5 x6 x7 x8 x9 x10 x11 x12 x13 _ _ (sink_eq x0 i h hh 3 _ rfl _ _) n r 3 d 384 rfl _)
  · have e : g.val * 128 + d.val = 256 + y.val := h2
    obtain rfl : g = 2 := Fin.ext (by show g.val = 2; omega)
    obtain rfl : d = y := Fin.ext (by have : (2 : Fin 4).val = 2 := rfl; omega)
    exact (head2_at _ _ _ n r d _).trans (step_eq x1 x2 x3 x4 x5 x6 x7 x8 x9 x10 x11 x12 x13 _ _ (sink_eq x0 i h hh 2 _ rfl _ _) n r 2 d 256 rfl _)
  · have e : g.val * 128 + d.val = 128 + y.val := h2
    obtain rfl : g = 1 := Fin.ext (by show g.val = 1; omega)
    obtain rfl : d = y := Fin.ext (by have : (1 : Fin 4).val = 1 := rfl; omega)
    exact (head1_at _ _ _ n r d _).trans (step_eq x1 x2 x3 x4 x5 x6 x7 x8 x9 x10 x11 x12 x13 _ _ (sink_eq x0 i h hh 1 _ rfl _ _) n r 1 d 128 rfl _)
  · have e : g.val * 128 + d.val = y.val := h2
    obtain rfl : g = 0 := Fin.ext (by show g.val = 0; omega)
    obtain rfl : d = y := Fin.ext (by have : (0 : Fin 4).val = 0 := rfl; omega)
    exact (head0_at _ _ _ n r d _).trans (step_eq x1 x2 x3 x4 x5 x6 x7 x8 x9 x10 x11 x12 x13 _ _ (sink_eq x0 i h hh 0 _ rfl _ _) n r 0 d 0 rfl _)

end step

end Cert.AttnIdeal.Hand
-- ==== Proof.AttnArray.lean ====
module

public import proofs.«01_k».proof.Proof.AttnPoint

/-!
# What the banded attention leaves
-/

@[expose] public section

open Idealize.ShloMosaic Idealize.SL
namespace Cert.AttnIdeal.Hand
open Cert.AttnIdeal Cert.AttnIdeal.Gen Cert.Attn
set_option maxRecDepth 65536

variable (m : (ℓ : Loc nD τ sig) → Buf (Elt Ideal) ℓ) (c : Dev nD)

/-- The coordinates of grid point `t` and the blocks it reads and writes. -/
theorem idx : ∀ t : Fin cfg0.N, ((grid0.coords t) 1).val = t.val / 4 ∧ ((grid0.coords t) 2).val = t.val % 4
    ∧ win0_0.index t = ![0] ∧ win0_1.index t = ![0, t.val / 4, t.val % 4]
    ∧ win0_2.index t = ![0, t.val / 4 - 1, 16 + t.val % 4] ∧ win0_3.index t = ![0, t.val / 4, 16 + t.val % 4]
    ∧ win0_4.index t = ![0, min (t.val / 4 + 1) 127, 16 + t.val % 4]
    ∧ win0_5.index t = ![0, t.val / 4 - 1, 20 + t.val % 4] ∧ win0_6.index t = ![0, t.val / 4, 20 + t.val % 4]
    ∧ win0_7.index t = ![0, min (t.val / 4 + 1) 127, 20 + t.val % 4]
    ∧ win0_8.index t = ![t.val / 4, 0] ∧ win0_9.index t = ![t.val / 4, 0]
    ∧ win0_10.index t = ![t.val / 4 - 1, 0] ∧ win0_11.index t = ![t.val / 4 - 1, 0]
    ∧ win0_12.index t = ![min (t.val / 4 + 1) 127, 0] ∧ win0_13.index t = ![min (t.val / 4 + 1) 127, 0]
    ∧ win0_14.index t = ![0, t.val / 4, t.val % 4] :=
  (by decide +kernel : ∀ t : Fin grid0.N, _)

/-- The block of queries of grid point `t` -/
abbrev block (t : Fin cfg0.N) : Fin 128 := ⟨t.val / 4, by have := t.isLt; have h : cfg0.N = 512 := N_0; omega⟩
/-- and its head of keys. -/
abbrev kv (t : Fin cfg0.N) : Fin 4 := ⟨t.val % 4, by omega⟩

/-- The two arguments, as arrays. -/
abbrev argZ : Vec Ideal ⟨3, ![1, 16384, 9216]⟩ .f32 := m ((c.tc : Thread nD τ).loc main_arg0)
abbrev argS : Vec Ideal ⟨2, ![1, 16]⟩ .f32 := m ((c.tc : Thread nD τ).loc main_arg1)

/-- A position of the block before, held at the first block, is one of the sequence. -/
theorem before (n r : Fin 128) : (n.val - 1) * 128 + r.val < 16384 := by omega
/-- A position of the block after, held at the last block, is one of the sequence. -/
theorem after (n r : Fin 128) : min (n.val + 1) 127 * 128 + r.val < 16384 := by omega

/-- The blocks the point reads, entry by entry: the sinks, -/
theorem read_s (t : Fin cfg0.N) (h : Fin 16) : iblk m c 0 t (ix1 h) = argS m c (ix2 0 h) := by
  blk_ext! [iblk, V, idx t]
/-- the queries, -/
theorem read_q (t : Fin cfg0.N) (r : Fin 128) (g : Fin 4) (k : Fin 128) :
    iblk m c 1 t (ix3 0 r (⟨g.val * 128 + k.val, by omega⟩ : Fin 512)) = qrow (argZ m c) (pos (block t) r) ⟨(kv t).val * 4 + g.val, by omega⟩ k := by
  unfold qrow
  blk_ext! [iblk, V, idx t]
/-- the keys before, -/
theorem read_k0 (t : Fin cfg0.N) (r k : Fin 128) : iblk m c 2 t (ix3 0 r k) = krow (argZ m c) ⟨_, before (block t) r⟩ (kv t) k := by
  unfold krow
  blk_ext! [iblk, V, idx t]
/-- the block's -/
theorem read_k1 (t : Fin cfg0.N) (r k : Fin 128) : iblk m c 3 t (ix3 0 r k) = krow (argZ m c) (pos (block t) r) (kv t) k := by
  unfold krow
  blk_ext! [iblk, V, idx t]
/-- and those after, -/
theorem read_k2 (t : Fin cfg0.N) (r k : Fin 128) : iblk m c 4 t (ix3 0 r k) = krow (argZ m c) ⟨_, after (block t) r⟩ (kv t) k := by
  unfold krow
  blk_ext! [iblk, V, idx t]
/-- the values before, -/
theorem read_v0 (t : Fin cfg0.N) (r k : Fin 128) : iblk m c 5 t (ix3 0 r k) = vrow (argZ m c) ⟨_, before (block t) r⟩ (kv t) k := by
  unfold vrow
  blk_ext! [iblk, V, idx t]
/-- the block's -/
theorem read_v1 (t : Fin cfg0.N) (r k : Fin 128) : iblk m c 6 t (ix3 0 r k) = vrow (argZ m c) (pos (block t) r) (kv t) k := by
  unfold vrow
  blk_ext! [iblk, V, idx t]
/-- and those after, -/
theorem read_v2 (t : Fin cfg0.N) (r k : Fin 128) : iblk m c 7 t (ix3 0 r k) = vrow (argZ m c) ⟨_, after (block t) r⟩ (kv t) k := by
  unfold vrow
  blk_ext! [iblk, V, idx t]

/-- The table of cosines, as the host leaves it, -/
theorem cosTable_at (t : Fin 16384) (k : Fin 128) : V m c main_v17 (ix2 t k) = cosTable t k := by
  blk_simp [V]
  entry_read
  pointwise
  rfl
/-- and that of sines. -/
theorem sinTable_at (t : Fin 16384) (k : Fin 128) : V m c main_v21 (ix2 t k) = sinTable t k := by
  blk_simp [V]
  entry_read
  pointwise
  rfl

/-- Cosines and sines of the block's angles, -/
theorem read_c1 (t : Fin cfg0.N) (r k : Fin 128) : iblk m c 8 t (ix2 r k) = cosTable (pos (block t) r) k := by
  refine Eq.trans ?_ (cosTable_at m c _ k)
  blk_ext [iblk, idx t]
/-- The block's own rows of the table of sines. -/
theorem read_z1 (t : Fin cfg0.N) (r k : Fin 128) : iblk m c 9 t (ix2 r k) = sinTable (pos (block t) r) k := by
  refine Eq.trans ?_ (sinTable_at m c _ k)
  blk_ext [iblk, idx t]
/-- of those before -/
theorem read_c0 (t : Fin cfg0.N) (r k : Fin 128) : iblk m c 10 t (ix2 r k) = cosTable ⟨_, before (block t) r⟩ k := by
  refine Eq.trans ?_ (cosTable_at m c _ k)
  blk_ext [iblk, idx t]
/-- The rows of the table of sines of the block before. -/
theorem read_z0 (t : Fin cfg0.N) (r k : Fin 128) : iblk m c 11 t (ix2 r k) = sinTable ⟨_, before (block t) r⟩ k := by
  refine Eq.trans ?_ (sinTable_at m c _ k)
  blk_ext [iblk, idx t]
/-- and of those after. -/
theorem read_c2 (t : Fin cfg0.N) (r k : Fin 128) : iblk m c 12 t (ix2 r k) = cosTable ⟨_, after (block t) r⟩ k := by
  refine Eq.trans ?_ (cosTable_at m c _ k)
  blk_ext [iblk, idx t]
/-- The rows of the table of sines of the block after. -/
theorem read_z2 (t : Fin cfg0.N) (r k : Fin 128) : iblk m c 13 t (ix2 r k) = sinTable ⟨_, after (block t) r⟩ k := by
  refine Eq.trans ?_ (sinTable_at m c _ k)
  blk_ext [iblk, idx t]

/-- A point's result. -/
theorem point (t : Fin cfg0.N) (r : Fin 128) (g : Fin 4) (d : Fin 128) :
    step (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 0 t (ix1 (⟨(kv t).val * 4 + g.val, by omega⟩ : Fin 16))) (block t) r g d
      = result (argZ m c) (argS m c) (block t) r ⟨(kv t).val * 4 + g.val, by omega⟩ d := by
  have hg : shared ⟨(kv t).val * 4 + g.val, by omega⟩ = kv t := Fin.ext (by show ((kv t).val * 4 + g.val) / 4 = _; omega)
  unfold step result
  simp only [read_s, read_q, read_k0, read_k1, read_k2, read_v0, read_v1, read_v2, read_c0, read_c1, read_c2, read_z0, read_z1, read_z2]
  rw [hg]
  refine congrArg₂ (fun s v => attend s _ v) (funext fun j => ?_) (funext fun j => ?_)
  · unfold masked score
    refine if_congr Iff.rfl (congrArg (· * _) (Finset.sum_congr rfl fun k _ => ?_)) rfl
    rw [hg]
    exact congrArg₂ (· * ·) (turn_eq _ _ _)
      ((three_eq (fun p => turn (krow (argZ m c) p (kv t)) (cosTable p) (sinTable p) k) (block t) j).trans (turn_eq _ _ _))
  · exact three_eq (fun p => vrow (argZ m c) p (kv t) d) (block t) j

/-- The result at an index of the array. -/
noncomputable def whole (i : S1x16384x2048.Idx) : EReal :=
  result (argZ m c) (argS m c) ⟨(i 1).val / 128, by have : (i 1).val < 16384 := (i 1).isLt; omega⟩ ⟨(i 1).val % 128, by omega⟩
    ⟨(i 2).val / 128, by have : (i 2).val < 2048 := (i 2).isLt; omega⟩ ⟨(i 2).val % 128, by omega⟩

/-- It by block, row, head and column. -/
theorem whole_at (i : S1x16384x2048.Idx) (n r : Fin 128) (h : Fin 16) (d : Fin 128) (h1 : (i 1).val = n.val * 128 + r.val)
    (h2 : (i 2).val = h.val * 128 + d.val) : whole m c i = result (argZ m c) (argS m c) n r h d := by
  unfold whole
  have e1 : (⟨(i 1).val / 128, by omega⟩ : Fin 128) = n := Fin.ext (by dsimp only; omega)
  have e2 : (⟨(i 1).val % 128, by omega⟩ : Fin 128) = r := Fin.ext (by dsimp only; omega)
  have e3 : (⟨(i 2).val / 128, by omega⟩ : Fin 16) = h := Fin.ext (by dsimp only; omega)
  have e4 : (⟨(i 2).val % 128, by omega⟩ : Fin 128) = d := Fin.ext (by dsimp only; omega)
  rw [e1, e2, e3, e4]

/-- Every entry is in some grid point's block. -/
theorem cover (i : S1x16384x2048.Idx) : ∃ t : Fin cfg0.N, (cfg0.win 14).flush t = true ∧ i ∈ ((cfg0.win 14).blk t).view.set := by
  have h0 : (i 0).val < 1 := (i 0).isLt
  have h1 : (i 1).val < 16384 := (i 1).isLt
  have h2 : (i 2).val < 2048 := (i 2).isLt
  have hN : cfg0.N = 512 := N_0
  obtain ⟨t, ht⟩ : ∃ t : Fin cfg0.N, t.val = (i 1).val / 128 * 4 + (i 2).val / 512 := ⟨⟨_, by omega⟩, rfl⟩
  refine ⟨t, flush0_14 t, ?_⟩
  show i ∈ ((View.whole main_v22).slice (win0_14.rect t)).set
  rw [View.set_slice_whole, Rect.mem_set_unit]
  obtain ⟨-, -, -, -, -, -, -, -, -, -, -, -, -, -, -, -, e⟩ := idx t
  intro a
  show win0_14.index t a * _ ≤ _ ∧ _ < win0_14.index t a * _ + _
  rw [e]
  match a with
  | ⟨0, _⟩ => show 0 * 1 ≤ (i 0).val ∧ (i 0).val < 0 * 1 + 1; omega
  | ⟨1, _⟩ => show t.val / 4 * 128 ≤ (i 1).val ∧ (i 1).val < t.val / 4 * 128 + 128; omega
  | ⟨2, _⟩ => show t.val % 4 * 512 ≤ (i 2).val ∧ (i 2).val < t.val % 4 * 512 + 512; omega

/-- The array after the run. -/
theorem final : (dats m 0 c).arrAt 14 cfg0.N = whole m c := by
  refine (dats m 0 c).arrAt_eq_of_cover 14 _ (fun t hf => ?_) cover
  rw [Value.flushed14_A]
  obtain ⟨e1, e2, -, -, -, -, -, -, -, -, -, -, -, -, -, -, e⟩ := idx t
  funext y
  obtain ⟨x, d, rfl⟩ : ∃ (x : Fin 128) (d : Fin 512), y = ix3 0 x d := ⟨y 1, y 2, funext fun a => by
    fin_cases a
    · exact Fin.ext (Nat.lt_one_iff.mp (y 0).isLt)
    · rfl
    · rfl⟩
  obtain ⟨g, k, rfl⟩ : ∃ (g : Fin 4) (k : Fin 128), d = ⟨g.val * 128 + k.val, by omega⟩ :=
    ⟨⟨d.val / 128, by omega⟩, ⟨d.val % 128, by omega⟩, Fin.ext (by dsimp only; omega)⟩
  refine ((out_at _ _ _ _ _ _ _ _ _ _ _ _ _ _ _ _ _ _ _ _ _ _ _ _ _ _ _ _ _ _ _ _ _ _ _ _ _ _ _ _ _ _ _ _ _ _
    (block t) e1 (kv t) e2 x g k).trans (point m c t x g k)).trans ?_
  refine (whole_at m c (((cfg0.win 14).blk t).view.emb (ix3 0 x (⟨g.val * 128 + k.val, by omega⟩ : Fin 512))) (block t) x
    ⟨(kv t).val * 4 + g.val, by omega⟩ k ?_ ?_).symm
  · show win0_14.index t (1 : Fin 3) * 128 + 1 * x.val = t.val / 4 * 128 + x.val
    rw [e]; show t.val / 4 * 128 + 1 * x.val = _; omega
  · show win0_14.index t (2 : Fin 3) * 512 + 1 * (g.val * 128 + k.val) = (t.val % 4 * 4 + g.val) * 128 + k.val
    rw [e]; show t.val % 4 * 512 + 1 * (g.val * 128 + k.val) = _; omega

end Cert.AttnIdeal.Hand
-- ==== Proof.AttnRef.lean ====
module

public import proofs.«01_k».proof.Proof.Gen.AttnRefIdeal.Run
public import proofs.«01_k».proof.Proof.Gen.AttnRefIdeal.Read
public import proofs.«01_k».proof.Proof.AttnSpec
public import Idealize.ShloMosaic.Lib.Pointwise
public import Idealize.ShloMosaic.Lib.Pipeline.ValueKit

/-!
# What the reference's attention leaves

The reference pads keys and values by a block of zeros on each side and gathers, for each block of queries, its own block and its two
neighbours.  Where a slot is seen, what it gathers is the slot's key and value; where it is not, the score is -∞.
-/

@[expose] public section

open Idealize.ShloMosaic Idealize.SL
namespace Cert.AttnRefIdeal.Hand
open Cert.AttnRefIdeal Cert.AttnRefIdeal.Read Cert.Attn
set_option maxRecDepth 65536

variable (Z : Vec Ideal ⟨3, ![1, 16384, 9216]⟩ .f32) (S : Vec Ideal ⟨2, ![1, 16]⟩ .f32)

/-- The angles. -/
theorem angle_at (t : Fin 16384) (d : Fin 64) : val_main_v15 (F := Ideal) (ix2 t d) = angle t d := by
  unfold val_main_v15 val_main_v13 val_main_v14 val_main_v11 val_main_v12 val_main_v10 val_main_v9 val_main_v8 val_main_v7 val_main_v6 val_main_v5 val_main_v4 val_main_v3 val_main_v2 val_main_cst val_main_cst_0 val_main_cst_1
  pointwise
  rfl

/-- The heads of queries and keys, side by side, -/
theorem heads_at (t : Fin 16384) (h : Fin 20) (d : Fin 128) :
    val_main_v1 (F := Ideal) Z (ix4 0 t h d) = Z (ix3 0 t (⟨h.val * 128 + d.val, by omega⟩ : Fin 9216)) := by
  rw [val_main_v1_apply, val_main_v0_apply]
  exact congrArg Z (funext fun x => Fin.ext (by fin_cases x <;> dsimp <;> omega))
/-- rotated. -/
theorem rope_at (t : Fin 16384) (h : Fin 20) (d : Fin 128) :
    val_main_v32 (F := Ideal) Z (ix4 0 t h d) = rope (fun k => Z (ix3 0 t (⟨h.val * 128 + k.val, by omega⟩ : Fin 9216))) t d := by
  unfold val_main_v32 val_main_v26 val_main_v31 val_main_v23 val_main_v25 val_main_v28 val_main_v30 val_main_v22 val_main_v24 val_main_v27 val_main_v29 val_main_v20 val_main_v21 val_main_v17 val_main_v19 val_main_v16 val_main_v18
  pointwise
  unfold rope
  simp only [heads_at, angle_at]
  split
  · have e (p q) : (⟨64 + d.val, p⟩ : Fin 128) = ⟨d.val + 64, q⟩ := Fin.ext (Nat.add_comm _ _)
    simp only [e _ (by omega), Nat.add_comm 64 d.val]
  · have e : 64 + (d.val - 64) = d.val := by omega
    simp only [e]

/-- The queries, by blocks, heads' groups and heads. -/
theorem query_at (n r : Fin 128) (g hh : Fin 4) (d : Fin 128) :
    val_main_v50 (F := Ideal) Z (ix6 0 n r g hh d) = rope (qrow Z (pos n r) ⟨g.val * 4 + hh.val, by omega⟩) (pos n r) d := by
  unfold val_main_v50 val_main_v35
  pointwise
  rw [rope_at]
  rfl

/-- The padded keys, off the padding, -/
theorem padKey_at (t : Fin 16640) (p : Fin 16384) (ht : t.val = p.val + 128) (g : Fin 4) (d : Fin 128) :
    val_main_v38 (F := Ideal) Z (ix4 0 t g d) = rope (krow Z p g) p d := by
  have e (h) : (⟨t.val - 128, h⟩ : Fin 16384) = p := Fin.ext (by dsimp only; omega)
  unfold val_main_v38 val_main_v36
  pointwise
  rw [dif_pos (by omega), e, rope_at]
  unfold krow
  refine congrArg (fun x => rope x p d) (funext fun k => congrArg (fun q => Z (ix3 0 p q)) (Fin.ext ?_))
  dsimp only
  omega
/-- and the padded values. -/
theorem padValue_at (t : Fin 16640) (p : Fin 16384) (ht : t.val = p.val + 128) (g : Fin 4) (d : Fin 128) :
    val_main_v40 (F := Ideal) Z (ix4 0 t g d) = vrow Z p g d := by
  have e (h) : (⟨t.val - 128, h⟩ : Fin 16384) = p := Fin.ext (by dsimp only; omega)
  unfold val_main_v40 val_main_v34 val_main_v33
  pointwise
  rw [dif_pos (by omega), e]
  rfl

/-- A slot's key: the key of its position if there is one. -/
theorem key_at (n : Fin 128) (j : Fin 384) (g : Fin 4) (d : Fin 128) (h1 : 128 ≤ n.val * 128 + j.val) (h2 : n.val * 128 + j.val < 16512) :
    val_main_v45 (F := Ideal) Z (ix5 0 n j g d) =
      rope (krow Z ⟨n.val * 128 + j.val - 128, by omega⟩ g) ⟨n.val * 128 + j.val - 128, by omega⟩ d := by
  unfold val_main_v45 val_main_v42 val_main_v43 val_main_v44
  pointwise
  unfold val_main_v39
  pointwise
  split_ifs <;> exact padKey_at Z _ _ (by dsimp only; omega) g d

/-- A slot's value. -/
theorem value_at (n : Fin 128) (j : Fin 384) (g : Fin 4) (d : Fin 128) (h1 : 128 ≤ n.val * 128 + j.val) (h2 : n.val * 128 + j.val < 16512) :
    val_main_v49 (F := Ideal) Z (ix5 0 n j g d) = vrow Z ⟨n.val * 128 + j.val - 128, by omega⟩ g d := by
  unfold val_main_v49 val_main_v46 val_main_v47 val_main_v48
  pointwise
  unfold val_main_v41
  pointwise
  split_ifs <;> exact padValue_at Z _ _ (by dsimp only; omega) g d

/-- The mask. -/
theorem mask_at (n r : Fin 128) (j : Fin 384) (a b : EReal) :
    Scalar.select (val_main_v82 (F := Ideal) (ix3 n r j)) a b = if Seen n r j then a else b := by
  have e (n r : Fin 128) : val_main_v56 (F := Ideal) (ix2 n r) = BitVec.ofNat 32 (n.val * 128 + r.val) := by
    rw [val_main_v56_apply, val_main_v55_apply]
    rfl
  unfold val_main_v82 val_main_v77 val_main_v81 val_main_v72 val_main_v76 val_main_v80 val_main_v78 val_main_v79 val_main_v75 val_main_v73 val_main_v74 val_main_v70 val_main_v71 val_main_v69 val_main_v67 val_main_v68 val_main_v65 val_main_v66 val_main_v64 val_main_v62 val_main_v63 val_main_v57 val_main_v61 val_main_v60 val_main_v58 val_main_v59 val_main_c_4 val_main_c_5 val_main_c_6 val_main_c_7
  pointwise
  rw [e, e]
  refine select_maskWord n r j _ _ ?_ ?_ a b
  · rw [BitVec.toNat_ofNat]; omega
  · show (BitVec.ofNat 32 (n.val * 128 + 0) + (4294967168#32 + BitVec.ofNat 32 j.val)).toNat = _
    rw [BitVec.toNat_add, BitVec.toNat_add, BitVec.toNat_ofNat, BitVec.toNat_ofNat, BitVec.toNat_ofNat]; omega

/-- The products of queries and keys. -/
theorem product_at (n r : Fin 128) (j : Fin 384) (g hh : Fin 4) (h1 : 128 ≤ n.val * 128 + j.val) (h2 : n.val * 128 + j.val < 16512) :
    val_main_v51 (F := Ideal) Z (ix6 0 n g j r hh) = ∑ d : Fin 128,
      rope (qrow Z (pos n r) ⟨g.val * 4 + hh.val, by omega⟩) (pos n r) d *
        rope (krow Z ⟨n.val * 128 + j.val - 128, by omega⟩ g) ⟨n.val * 128 + j.val - 128, by omega⟩ d := by
  rw [val_main_v51_apply]
  refine Finset.sum_congr rfl fun d _ => ?_
  rw [← query_at, ← key_at Z n j g d h1 h2, mul_comm]
  refine congrArg₂ (· * ·) (congrArg _ (funext fun x => ?_)) (congrArg _ (funext fun x => ?_)) <;> fin_cases x <;> rfl

/-- The masked scores. -/
theorem score_at (n : Fin 128) (g hh : Fin 4) (r : Fin 128) (j : Fin 384) :
    val_main_v84 (F := Ideal) Z (ix6 0 n g hh r j) = masked Z n r ⟨g.val * 4 + hh.val, by omega⟩ j := by
  unfold val_main_v84 val_main_call2_v1 val_main_call2_v2 val_main_call2_v0 val_main_v54 val_main_v53 val_main_v52 val_main_cst_3 val_main_v83 val_main_cst_8
  pointwise
  rw [mask_at]
  unfold masked
  by_cases hs : Seen n r j
  · rw [if_pos hs, if_pos hs, product_at Z n r j g hh hs.1 hs.2.1]
    unfold score shared
    have e1 : g = (⟨(g.val * 4 + hh.val) / 4, by omega⟩ : Fin 4) := Fin.ext (by dsimp only; omega)
    have e2 : (⟨n.val * 128 + j.val - 128, by have := hs.2.1; omega⟩ : Fin 16384) = near n j :=
      Fin.ext (by have := near_val hs; dsimp only; omega)
    rw [e2, ← e1]
  · rw [if_neg hs, if_neg hs]
    exact negInf

/-- The sinks. -/
theorem sink_at (g hh : Fin 4) : val_main_v85 (F := Ideal) S (ix6 0 0 g hh 0 0) = S (ix2 0 ⟨g.val * 4 + hh.val, by omega⟩) := by
  unfold val_main_v85 val_main_v37
  pointwise

/-- The greatest of a row's scores. -/
theorem fold_at (n : Fin 128) (g hh : Fin 4) (r : Fin 128) :
    val_main_v86 (F := Ideal) Z (ix5 0 n g hh r) = (Finset.univ : Finset (Fin 384)).fold max ⊥ (masked Z n r ⟨g.val * 4 + hh.val, by omega⟩) := by
  unfold val_main_v86 val_main_cst_9
  pointwise
  rw [negInf]
  have lift (j : Fin 384) : Gen.reducesTo_S1x128x4x4x128x384_S1x128x4x4x128_d5.drop (ix6 0 n g hh r j) = ix5 0 n g hh r := by
    funext b
    fin_cases b <;> rfl
  have back (i : S1x128x4x4x128x384.Idx) (h : Gen.reducesTo_S1x128x4x4x128x384_S1x128x4x4x128_d5.drop i = ix5 0 n g hh r) :
      i = ix6 0 n g hh r (i 5) := by
    funext b
    have h' := fun a => congrFun h a
    fin_cases b
    · exact h' 0
    · exact h' 1
    · exact h' 2
    · exact h' 3
    · exact h' 4
    · rfl
  refine le_antisymm ?_ ?_
  · rw [Finset.fold_max_le]
    refine ⟨bot_le, fun i hi => ?_⟩
    obtain ⟨j, rfl⟩ : ∃ j : Fin 384, i = ix6 0 n g hh r j := ⟨i 5, back i (by simpa using hi)⟩
    rw [score_at]
    exact (Finset.le_fold_max _).mpr (Or.inr ⟨j, Finset.mem_univ _, le_rfl⟩)
  · rw [Finset.fold_max_le]
    refine ⟨bot_le, fun j _ => ?_⟩
    rw [← score_at]
    exact (Finset.le_fold_max _).mpr (Or.inr ⟨ix6 0 n g hh r j, by simpa using lift j, le_rfl⟩)

/-- The greatest of a row's scores and its sink. -/
theorem top_at (n : Fin 128) (g hh : Fin 4) (r : Fin 128) : val_main_v89 (F := Ideal) Z S (ix6 0 n g hh r 0)
    = top (masked Z n r ⟨g.val * 4 + hh.val, by omega⟩) (S (ix2 0 ⟨g.val * 4 + hh.val, by omega⟩)) := by
  have e1 : idx_main_v87 (ix6 0 n g hh r 0) = ix5 0 n g hh r := by funext x; fin_cases x <;> rfl
  have e2 : idx_main_v88 (ix6 0 n g hh r 0) = ix6 0 0 g hh 0 0 := by funext x; fin_cases x <;> rfl
  have hmax (a b : EReal) : FloatOps.maximumf (F := Ideal) (φ := .f32) a b = max a b := rfl
  rw [val_main_v89_apply, val_main_v87_apply, val_main_v88_apply, e1, e2, hmax, fold_at, sink_at]
  unfold top
  rfl
/-- A slot's exponential. -/
theorem exp_at (n : Fin 128) (g hh : Fin 4) (r : Fin 128) (j : Fin 384) : val_main_v92 (F := Ideal) Z S (ix6 0 n g hh r j)
    = Ideal.exp (masked Z n r ⟨g.val * 4 + hh.val, by omega⟩ j
      - top (masked Z n r ⟨g.val * 4 + hh.val, by omega⟩) (S (ix2 0 ⟨g.val * 4 + hh.val, by omega⟩))) := by
  unfold val_main_v92 val_main_v91 val_main_v90
  pointwise
  rw [top_at, score_at]
/-- The sum of the slots' exponentials. -/
theorem sum_at (n : Fin 128) (g hh : Fin 4) (r : Fin 128) : val_main_v93 (F := Ideal) Z S (ix5 0 n g hh r)
    = ∑ j : Fin 384, Ideal.exp (masked Z n r ⟨g.val * 4 + hh.val, by omega⟩ j
      - top (masked Z n r ⟨g.val * 4 + hh.val, by omega⟩) (S (ix2 0 ⟨g.val * 4 + hh.val, by omega⟩))) := by
  rw [val_main_v93_apply]
  unfold val_main_cst_10
  pointwise
  refine Finset.sum_congr rfl fun j _ => ?_
  rw [← exp_at]
  refine congrArg _ (funext fun x => ?_)
  fin_cases x <;> rfl
/-- All exponentials. -/
theorem total_at (n : Fin 128) (g hh : Fin 4) (r : Fin 128) : val_main_v98 (F := Ideal) Z S (ix6 0 n g hh r 0)
    = total (masked Z n r ⟨g.val * 4 + hh.val, by omega⟩) (S (ix2 0 ⟨g.val * 4 + hh.val, by omega⟩)) := by
  unfold val_main_v98 val_main_v94 val_main_v97 val_main_v96 val_main_v95 total
  pointwise
  rw [sum_at, sink_at, top_at]
/-- The weights. -/
theorem weight_at (n : Fin 128) (g hh : Fin 4) (r : Fin 128) (j : Fin 384) :
    val_main_v100 (F := Ideal) Z S (ix6 0 n g hh r j)
      = weight (masked Z n r ⟨g.val * 4 + hh.val, by omega⟩) (S (ix2 0 ⟨g.val * 4 + hh.val, by omega⟩)) j := by
  unfold val_main_v100 val_main_v99 weight
  pointwise
  rw [exp_at, total_at]

/-- The weighted values, of what the slots hold. -/
theorem attend_at (n r : Fin 128) (g hh : Fin 4) (d : Fin 128) :
    val_main_v101 (F := Ideal) Z S (ix6 0 n g d hh r)
      = attend (masked Z n r ⟨g.val * 4 + hh.val, by omega⟩) (S (ix2 0 ⟨g.val * 4 + hh.val, by omega⟩))
        fun j => val_main_v49 (F := Ideal) Z (ix5 0 n j g d) := by
  rw [val_main_v101_apply]
  unfold attend
  refine Finset.sum_congr rfl fun j _ => ?_
  rw [← weight_at, mul_comm]
  refine congrArg₂ (· * ·) (congrArg _ (funext fun x => ?_)) (congrArg _ (funext fun x => ?_)) <;> fin_cases x <;> rfl

/-- The result's columns are the heads'. -/
theorem column_at (n r : Fin 128) (g hh : Fin 4) (d : Fin 128) :
    val_main_v104 (F := Ideal) Z S (ix3 0 (pos n r) (⟨(g.val * 4 + hh.val) * 128 + d.val, by omega⟩ : Fin 2048))
      = val_main_v101 (F := Ideal) Z S (ix6 0 n g d hh r) := by
  have e (h h') : (ix6 0 (⟨(n.val * 128 + r.val) / 128, h⟩ : Fin 128) (⟨(n.val * 128 + r.val) % 128, h'⟩ : Fin 128) g hh d
      : S1x128x128x4x4x128.Idx) = ix6 0 n r g hh d := by
    have e1 : (⟨(n.val * 128 + r.val) / 128, h⟩ : Fin 128) = n := Fin.ext (by dsimp only; omega)
    have e2 : (⟨(n.val * 128 + r.val) % 128, h'⟩ : Fin 128) = r := Fin.ext (by dsimp only; omega)
    rw [e1, e2]
  show val_main_v103 (F := Ideal) Z S _ = _
  unfold val_main_v103
  pointwise
  rw [e, val_main_v102_apply]
  refine congrArg (val_main_v101 (F := Ideal) Z S) (funext fun x => ?_)
  fin_cases x <;> rfl

/-- The result. -/
theorem result_at (hZ : RealRows Z) (hS : RealSinks S) (n r : Fin 128) (g hh : Fin 4) (d : Fin 128) :
    val_main_v104 (F := Ideal) Z S (ix3 0 (pos n r) (⟨(g.val * 4 + hh.val) * 128 + d.val, by omega⟩ : Fin 2048))
      = result Z S n r ⟨g.val * 4 + hh.val, by omega⟩ d := by
  rw [column_at, attend_at]
  refine result_eq Z S hZ hS n r _ d _ fun j hj => ?_
  have e1 : (⟨(g.val * 4 + hh.val) / 4, by omega⟩ : Fin 4) = g := Fin.ext (by dsimp only; omega)
  have e2 : (⟨n.val * 128 + j.val - 128, by have := hj.2.1; omega⟩ : Fin 16384) = near n j :=
    Fin.ext (by have := near_val hj; dsimp only; omega)
  unfold shared
  rw [value_at Z n j g d hj.1 hj.2.1, e2]
  exact congrArg (fun g => vrow Z (near n j) g d) e1.symm

end Cert.AttnRefIdeal.Hand
-- ==== Proof.AttnFinite.lean ====
module

public import proofs.«01_k».proof.Pre_attn_finite
public import proofs.«01_k».proof.Proof.AttnSpec

/-!
# What the attention's precondition says
-/

@[expose] public section

open Idealize.ShloMosaic Idealize.SL
namespace Cert.Pre_attn_finite.Hand
open Cert.Pre_attn_finite Cert.Attn

/-- The shape relations it states. -/
theorem facts : Cert.Pre_attn_finite.Facts := ⟨by decide, by decide, by decide⟩

/-- A number whose absolute value is less than +∞ is a real number. -/
theorem real_of_lt (x : EReal) (h : FloatOps.cmpf (F := Ideal) (φ := .f32) .olt (FloatOps.hostAbsf (F := Ideal) (φ := .f32) x) (FloatOps.ofBits (F := Ideal) .f32 0x7F800000#32) = 1#1) :
    IsReal x := by
  have htop : Ideal.ofBits .f32 0x7F800000#32 = (⊤ : EReal) := by simp [Ideal.ofBits, Ideal.ieee]
  have hlt : max x (-x) < ⊤ := by
    rw [← htop]
    by_contra hc
    have h' : BitVec.ofBool (decide (max x (-x) < Ideal.ofBits .f32 0x7F800000#32)) = 1#1 := h
    rw [decide_eq_false hc] at h'
    exact absurd h' (by decide)
  induction x with
  | bot => simp at hlt
  | top => simp at hlt
  | coe r => exact ⟨r, rfl⟩

variable (Z : Vec Ideal ⟨3, ![1, 16384, 9216]⟩ .f32) (S : Vec Ideal ⟨2, ![1, 16]⟩ .f32)
attribute [local instance] facts

/-- Under it the queries and keys are real numbers, -/
theorem rows (h : (fn (F := Ideal) Z S).1 = fun _ => 1#1) : RealRows Z := by
  intro t k hk
  have e := congrFun h (ix3 0 t (⟨k.val, hk⟩ : Fin 2560))
  refine real_of_lt _ ?_
  refine Eq.trans ?_ e
  unfold fn
  pointwise
/-- and the sinks are. -/
theorem sinks (h : (fn (F := Ideal) Z S).2 = fun _ => 1#1) : RealSinks S := fun k =>
  real_of_lt _ (congrFun h (ix2 0 k))

end Cert.Pre_attn_finite.Hand
-- ==== Proof.ModArray.lean ====
module

public import proofs.«01_k».proof.Proof.Gen.ModIdeal.Value
public import proofs.«01_k».proof.Proof.NormSpec

/-!
# What the normalisation before the recurrent mixer leaves

Grid point `I` adds the gated output of the layer before to 256 rows, which is the first result, and normalises and modulates
them, which is the second.
-/

@[expose] public section

open Idealize.ShloMosaic Idealize.SL
namespace Cert.ModIdeal.Hand
open Cert.ModIdeal Cert.ModIdeal.Gen Cert.LastNorm
set_option maxRecDepth 65536

/-- One block of the sums, -/
theorem sum_at (x0 : Vec Ideal S1x256x4096 .f32) (x1 : Vec Ideal S1x256x4096 .f32) (x2 : Vec Ideal S1x1x4096 .f32) (x3 : Vec Ideal S1x4096 .f32)
    (x4 x5 : Vec Ideal S1x1x4096 .f32) (r : Fin 256) (n : Fin 4096) :
    out0_6 (F := Ideal) x0 x1 x2 x3 x4 x5 (ix3 0 r n) = added (fun k => x0 (ix3 0 r k)) (fun k => x1 (ix3 0 r k)) (fun k => x2 (ix3 0 0 k)) n := by
  unfold added
  frame_out
  unfold_payloads
  pointwise
/-- and one of the modulated rows. -/
theorem out_at (x0 : Vec Ideal S1x256x4096 .f32) (x1 : Vec Ideal S1x256x4096 .f32) (x2 : Vec Ideal S1x1x4096 .f32) (x3 : Vec Ideal S1x4096 .f32)
    (x4 x5 : Vec Ideal S1x1x4096 .f32) (r : Fin 256) (n : Fin 4096) :
    out0_7 (F := Ideal) x0 x1 x2 x3 x4 x5 (ix3 0 r n) =
      modulated (added (fun k => x0 (ix3 0 r k)) (fun k => x1 (ix3 0 r k)) (fun k => x2 (ix3 0 0 k))) (fun k => x3 (ix2 0 k))
        (fun k => x4 (ix3 0 0 k)) (fun k => x5 (ix3 0 0 k)) n := by
  unfold modulated normed added
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![0, t.val, 0] ∧ win0_1.index t = ![0, t.val, 0] ∧ win0_2.index t = ![0, 0, 0]
    ∧ win0_3.index t = ![0, 0] ∧ win0_4.index t = ![0, 0, 0] ∧ win0_5.index t = ![0, 0, 0] ∧ win0_6.index t = ![0, t.val, 0]
    ∧ win0_7.index t = ![0, t.val, 0] :=
  (by decide +kernel : ∀ t : Fin grid0.N, _)

/-- The token of row `r` of grid point `t`'s tile. -/
abbrev row (t : Fin cfg0.N) (r : Fin 256) : Fin 16384 := ⟨t.val * 256 + r.val, by have := t.isLt; have h : cfg0.N = 64 := N_0; omega⟩

/-- The six arguments, as arrays. -/
abbrev argX : Vec Ideal ⟨3, ![1, 16384, 4096]⟩ .f32 := m ((c.tc : Thread nD τ).loc main_arg0)
abbrev argY : Vec Ideal ⟨3, ![1, 16384, 4096]⟩ .f32 := m ((c.tc : Thread nD τ).loc main_arg1)
abbrev argG : Vec Ideal ⟨2, ![1, 4096]⟩ .f32 := m ((c.tc : Thread nD τ).loc main_arg2)
abbrev argS : Vec Ideal ⟨3, ![2, 2, 4096]⟩ .f32 := m ((c.tc : Thread nD τ).loc main_arg3)
abbrev argP : Vec Ideal ⟨2, ![1, 4096]⟩ .f32 := m ((c.tc : Thread nD τ).loc main_arg4)
abbrev argQ : Vec Ideal ⟨2, ![1, 4096]⟩ .f32 := m ((c.tc : Thread nD τ).loc main_arg5)

/-- The blocks the point reads, entry by entry: its rows of the residual -/
theorem read_x (t : Fin cfg0.N) (r : Fin 256) (k : Fin 4096) : iblk m c 0 t (ix3 0 r k) = argX m c (ix3 0 (row t r) k) := by
  blk_ext! [iblk, V, idx t]
/-- and of the output of the layer before, -/
theorem read_y (t : Fin cfg0.N) (r : Fin 256) (k : Fin 4096) : iblk m c 1 t (ix3 0 r k) = argY m c (ix3 0 (row t r) k) := by
  blk_ext! [iblk, V, idx t]
/-- the gate, -/
theorem read_g (t : Fin cfg0.N) (k : Fin 4096) : iblk m c 2 t (ix3 0 0 k) = argG m c (ix2 0 k) := by
  blk_ext! [iblk, V, idx t]
/-- the norm's scale, -/
theorem read_s (t : Fin cfg0.N) (k : Fin 4096) : iblk m c 3 t (ix2 0 k) = argS m c (ix3 1 0 k) := by
  blk_ext! [iblk, V, idx t]
/-- the modulation's shift -/
theorem read_p (t : Fin cfg0.N) (k : Fin 4096) : iblk m c 4 t (ix3 0 0 k) = argP m c (ix2 0 k) := by
  blk_ext! [iblk, V, idx t]
/-- and its scale. -/
theorem read_q (t : Fin cfg0.N) (k : Fin 4096) : iblk m c 5 t (ix3 0 0 k) = argQ m c (ix2 0 k) := by
  blk_ext! [iblk, V, idx t]

/-- The first result at a token and a column, -/
noncomputable def summed (t : Fin 16384) : Fin 4096 → EReal :=
  added (fun k => argX m c (ix3 0 t k)) (fun k => argY m c (ix3 0 t k)) (fun k => argG m c (ix2 0 k))
/-- and the second. -/
noncomputable def result (t : Fin 16384) (n : Fin 4096) : EReal :=
  modulated (summed m c t) (fun k => argS m c (ix3 1 0 k)) (fun k => argP m c (ix2 0 k)) (fun k => argQ m c (ix2 0 k)) n

/-- Every entry of the first result is in some grid point's block, -/
theorem cover_sum (i : S1x16384x4096.Idx) : ∃ t : Fin cfg0.N, (cfg0.win 6).flush t = true ∧ i ∈ ((cfg0.win 6).blk t).view.set := by
  have h0 : (i 0).val < 1 := (i 0).isLt
  have h1 : (i 1).val < 16384 := (i 1).isLt
  have h2 : (i 2).val < 4096 := (i 2).isLt
  have hN : cfg0.N = 64 := N_0
  obtain ⟨t, ht⟩ : ∃ t : Fin cfg0.N, t.val = (i 1).val / 256 := ⟨⟨_, by omega⟩, rfl⟩
  refine ⟨t, flush0_6 t, ?_⟩
  show i ∈ ((View.whole main_v6_0).slice (win0_6.rect t)).set
  rw [View.set_slice_whole, Rect.mem_set_unit]
  obtain ⟨-, -, -, -, -, -, e, -⟩ := idx t
  intro a
  show win0_6.index t a * _ ≤ _ ∧ _ < win0_6.index t a * _ + _
  rw [e]
  match a with
  | ⟨0, _⟩ => show 0 * 1 ≤ (i 0).val ∧ (i 0).val < 0 * 1 + 1; omega
  | ⟨1, _⟩ => show t.val * 256 ≤ (i 1).val ∧ (i 1).val < t.val * 256 + 256; omega
  | ⟨2, _⟩ => show 0 * 4096 ≤ (i 2).val ∧ (i 2).val < 0 * 4096 + 4096; omega
/-- and so is every entry of the second. -/
theorem cover (i : S1x16384x4096.Idx) : ∃ t : Fin cfg0.N, (cfg0.win 7).flush t = true ∧ i ∈ ((cfg0.win 7).blk t).view.set := by
  have h0 : (i 0).val < 1 := (i 0).isLt
  have h1 : (i 1).val < 16384 := (i 1).isLt
  have h2 : (i 2).val < 4096 := (i 2).isLt
  have hN : cfg0.N = 64 := N_0
  obtain ⟨t, ht⟩ : ∃ t : Fin cfg0.N, t.val = (i 1).val / 256 := ⟨⟨_, by omega⟩, rfl⟩
  refine ⟨t, flush0_7 t, ?_⟩
  show i ∈ ((View.whole main_v6_1).slice (win0_7.rect t)).set
  rw [View.set_slice_whole, Rect.mem_set_unit]
  obtain ⟨-, -, -, -, -, -, -, e⟩ := idx t
  intro a
  show win0_7.index t a * _ ≤ _ ∧ _ < win0_7.index t a * _ + _
  rw [e]
  match a with
  | ⟨0, _⟩ => show 0 * 1 ≤ (i 0).val ∧ (i 0).val < 0 * 1 + 1; omega
  | ⟨1, _⟩ => show t.val * 256 ≤ (i 1).val ∧ (i 1).val < t.val * 256 + 256; omega
  | ⟨2, _⟩ => show 0 * 4096 ≤ (i 2).val ∧ (i 2).val < 0 * 4096 + 4096; omega

/-- The first array after the run, -/
theorem final_sum : (dats m 0 c).arrAt 6 cfg0.N = fun i => summed m c (i 1) (i 2) := by
  refine (dats m 0 c).arrAt_eq_of_cover 6 _ (fun t hf => ?_) cover_sum
  rw [Value.flushed6]
  obtain ⟨-, -, -, -, -, -, e, -⟩ := idx t
  funext y
  obtain ⟨z, x, d, rfl⟩ : ∃ z x d, y = ix3 z x d := ⟨y 0, y 1, y 2, eq_ix3 y⟩
  obtain rfl : z = 0 := Subsingleton.elim _ _
  refine (sum_at _ _ _ _ _ _ x d).trans ?_
  simp only [read_x, read_y, read_g]
  refine (congrArg₂ (summed m c) (Fin.ext ?_) (Fin.ext ?_) : summed m c (row t x) d = _)
  · show t.val * 256 + x.val = win0_6.index t (1 : Fin 3) * 256 + 1 * x.val
    rw [e]; show _ = t.val * 256 + 1 * x.val; omega
  · show d.val = win0_6.index t (2 : Fin 3) * 4096 + 1 * d.val
    rw [e]; show _ = 0 * 4096 + 1 * d.val; omega
/-- and the second. -/
theorem final : (dats m 0 c).arrAt 7 cfg0.N = fun i => result m c (i 1) (i 2) := by
  refine (dats m 0 c).arrAt_eq_of_cover 7 _ (fun t hf => ?_) cover
  rw [Value.flushed7]
  obtain ⟨-, -, -, -, -, -, -, e⟩ := idx t
  funext y
  obtain ⟨z, x, d, rfl⟩ : ∃ z x d, y = ix3 z x d := ⟨y 0, y 1, y 2, eq_ix3 y⟩
  obtain rfl : z = 0 := Subsingleton.elim _ _
  refine (out_at _ _ _ _ _ _ x d).trans ?_
  simp only [read_x, read_y, read_g, read_s, read_p, read_q]
  refine (congrArg₂ (result m c) (Fin.ext ?_) (Fin.ext ?_) : result m c (row t x) d = _)
  · show t.val * 256 + x.val = win0_7.index t (1 : Fin 3) * 256 + 1 * x.val
    rw [e]; show _ = t.val * 256 + 1 * x.val; omega
  · show d.val = win0_7.index t (2 : Fin 3) * 4096 + 1 * d.val
    rw [e]; show _ = 0 * 4096 + 1 * d.val; omega

end Cert.ModIdeal.Hand
-- ==== Proof.ModRef.lean ====
module

public import proofs.«01_k».proof.Proof.Gen.ModRefIdeal.Run
public import proofs.«01_k».proof.Proof.Gen.ModRefIdeal.Read
public import proofs.«01_k».proof.Proof.NormSpec

/-!
# What the reference leaves for the normalisation before the recurrent mixer
-/

@[expose] public section

open Idealize.ShloMosaic Idealize.SL
namespace Cert.ModRefIdeal.Hand
open Cert.ModRefIdeal Cert.ModRefIdeal.Read Cert.LastNorm

variable (X Y : Vec Ideal ⟨3, ![1, 16384, 4096]⟩ .f32) (G : Vec Ideal ⟨2, ![1, 4096]⟩ .f32) (g : Vec Ideal ⟨3, ![2, 2, 4096]⟩ .f32)
    (sh sc : Vec Ideal ⟨2, ![1, 4096]⟩ .f32)

/-- The first result, entry by entry: the sum. -/
theorem added_at (t : Fin 16384) (k : Fin 4096) :
    val_main_v3 (F := Ideal) X Y G (ix3 0 t k) = added (fun k => X (ix3 0 t k)) (fun k => Y (ix3 0 t k)) (fun k => G (ix2 0 k)) k := by
  rw [val_main_v3_apply, val_main_v2_apply, val_main_v1_apply, val_main_v0_apply]
  refine congrArg₂ (fun a b : EReal => a + b) rfl (congrArg₂ (fun a b : EReal => a * b) (congrArg G (funext fun x => Fin.ext ?_)) rfl)
  fin_cases x <;> rfl

/-- The normalised row, entry by entry. -/
theorem normed_at (t : Fin 16384) (n : Fin 4096) :
    val_main_v18 (F := Ideal) X Y G g (ix3 0 t n) =
      normed (added (fun k => X (ix3 0 t k)) (fun k => Y (ix3 0 t k)) (fun k => G (ix2 0 k))) (fun k => g (ix3 1 0 k)) n := by
  have s : ∑ k, val_main_v6 (F := Ideal) X Y G (idx_main_v7 (idx_main_v8 (idx_main_v14 (ix3 0 t n))) k) =
      ∑ k : Fin 4096, added (fun k => X (ix3 0 t k)) (fun k => Y (ix3 0 t k)) (fun k => G (ix2 0 k)) k *
        added (fun k => X (ix3 0 t k)) (fun k => Y (ix3 0 t k)) (fun k => G (ix2 0 k)) k := by
    refine Finset.sum_congr rfl fun k _ => ?_
    have e : idx_main_v7 (idx_main_v8 (idx_main_v14 (ix3 0 t n))) k = ix3 0 t k := by funext x; fin_cases x <;> rfl
    rw [e, val_main_v6_apply, added_at]
    rfl
  rw [val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v5_apply, val_main_v4_apply,
    added_at, s]
  refine congrArg₂ (fun a b : EReal => a * b) (congrArg₂ (fun a b : EReal => a * b) rfl ?_) (congrArg g (funext fun x => Fin.ext ?_))
  · refine congrArg Ideal.rsqrt (congrArg₂ (fun a b : EReal => a + b) (congrArg₂ Ideal.div ?_ rfl) rfl)
    refine (congrArg (· + _) Ideal.ofBits_zero_f32).trans (zero_add _)
  · fin_cases x <;> dsimp <;> omega

/-- The second result, entry by entry: the modulated row. -/
theorem result_at (t : Fin 16384) (n : Fin 4096) :
    val_main_v26 (F := Ideal) X Y G g sh sc (ix3 0 t n) =
      modulated (added (fun k => X (ix3 0 t k)) (fun k => Y (ix3 0 t k)) (fun k => G (ix2 0 k))) (fun k => g (ix3 1 0 k))
        (fun k => sh (ix2 0 k)) (fun k => sc (ix2 0 k)) n := by
  rw [val_main_v26_apply, val_main_v25_apply, val_main_v24_apply, val_main_v23_apply, val_main_v22_apply, val_main_v21_apply, val_main_v20_apply,
    val_main_v19_apply, normed_at, val_main_cst_2_apply]
  refine congrArg₂ (fun a b : EReal => a + b) (congrArg₂ (fun a b : EReal => a * b) rfl (congrArg₂ (fun a b : EReal => a + b) ?_
    (congrArg sc (funext fun x => Fin.ext ?_)))) (congrArg sh (funext fun x => Fin.ext ?_))
  · exact Ideal.ofBits_one_f32
  all_goals fin_cases x <;> rfl

end Cert.ModRefIdeal.Hand
-- ==== Proof.TurnedArray.lean ====
module

public import proofs.«01_k».proof.Proof.Gen.TurnedIdeal.Value
public import proofs.«01_k».proof.Proof.NormSpec

/-!
# What the normalisation before the expert queries leaves

Grid point `I` normalises and modulates 256 rows, and stores them as columns.
-/

@[expose] public section

open Idealize.ShloMosaic Idealize.SL
namespace Cert.TurnedIdeal.Hand
open Cert.TurnedIdeal Cert.TurnedIdeal.Gen Cert.LastNorm
set_option maxRecDepth 65536

/-- One block of the result. -/
theorem out_at (x0 : Vec Ideal S1x256x4096 .f32) (x1 : Vec Ideal S1x4096 .f32) (x2 : Vec Ideal S1x1x4096 .f32) (x3 : Vec Ideal S1x1x4096 .f32)
    (n : Fin 4096) (r : Fin 256) :
    out0_4 (F := Ideal) x0 x1 x2 x3 (ix2 n r) =
      modulated (fun k => x0 (ix3 0 r k)) (fun k => x1 (ix2 0 k)) (fun k => x2 (ix3 0 0 k)) (fun k => x3 (ix3 0 0 k)) n := by
  unfold modulated normed
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![0, t.val, 0] ∧ win0_1.index t = ![0, 0] ∧ win0_2.index t = ![0, 0, 0]
    ∧ win0_3.index t = ![0, 0, 0] ∧ win0_4.index t = ![0, t.val] :=
  (by decide +kernel : ∀ t : Fin grid0.N, _)

/-- The token of row `r` of grid point `t`'s tile. -/
abbrev row (t : Fin cfg0.N) (r : Fin 256) : Fin 16384 := ⟨t.val * 256 + r.val, by have := t.isLt; have h : cfg0.N = 64 := N_0; omega⟩

/-- The four arguments, as arrays. -/
abbrev argX : Vec Ideal ⟨3, ![1, 16384, 4096]⟩ .f32 := m ((c.tc : Thread nD τ).loc main_arg0)
abbrev argS : Vec Ideal ⟨3, ![2, 2, 4096]⟩ .f32 := m ((c.tc : Thread nD τ).loc main_arg1)
abbrev argP : Vec Ideal ⟨2, ![1, 4096]⟩ .f32 := m ((c.tc : Thread nD τ).loc main_arg2)
abbrev argQ : Vec Ideal ⟨2, ![1, 4096]⟩ .f32 := m ((c.tc : Thread nD τ).loc main_arg3)

/-- The blocks the point reads, entry by entry: its rows, -/
theorem read_x (t : Fin cfg0.N) (r : Fin 256) (k : Fin 4096) : iblk m c 0 t (ix3 0 r k) = argX m c (ix3 0 (row t r) k) := by
  blk_ext! [iblk, V, idx t]
/-- the norm's scale, -/
theorem read_s (t : Fin cfg0.N) (k : Fin 4096) : iblk m c 1 t (ix2 0 k) = argS m c (ix3 1 1 k) := by
  blk_ext! [iblk, V, idx t]
/-- the modulation's shift -/
theorem read_p (t : Fin cfg0.N) (k : Fin 4096) : iblk m c 2 t (ix3 0 0 k) = argP m c (ix2 0 k) := by
  blk_ext! [iblk, V, idx t]
/-- and its scale. -/
theorem read_q (t : Fin cfg0.N) (k : Fin 4096) : iblk m c 3 t (ix3 0 0 k) = argQ m c (ix2 0 k) := by
  blk_ext! [iblk, V, idx t]

/-- The result at a column and a token. -/
noncomputable def result (n : Fin 4096) (t : Fin 16384) : EReal :=
  modulated (fun k => argX m c (ix3 0 t k)) (fun k => argS m c (ix3 1 1 k)) (fun k => argP m c (ix2 0 k)) (fun k => argQ m c (ix2 0 k)) n

/-- Every entry is in some grid point's block. -/
theorem cover (i : S4096x16384.Idx) : ∃ t : Fin cfg0.N, (cfg0.win 4).flush t = true ∧ i ∈ ((cfg0.win 4).blk t).view.set := by
  have h0 : (i 0).val < 4096 := (i 0).isLt
  have h1 : (i 1).val < 16384 := (i 1).isLt
  have hN : cfg0.N = 64 := N_0
  obtain ⟨t, ht⟩ : ∃ t : Fin cfg0.N, t.val = (i 1).val / 256 := ⟨⟨_, by omega⟩, rfl⟩
  refine ⟨t, flush0_4 t, ?_⟩
  show i ∈ ((View.whole main_v5).slice (win0_4.rect t)).set
  rw [View.set_slice_whole, Rect.mem_set_unit]
  obtain ⟨-, -, -, -, e⟩ := idx t
  intro a
  show win0_4.index t a * _ ≤ _ ∧ _ < win0_4.index t a * _ + _
  rw [e]
  match a with
  | ⟨0, _⟩ => show 0 * 4096 ≤ (i 0).val ∧ (i 0).val < 0 * 4096 + 4096; omega
  | ⟨1, _⟩ => show t.val * 256 ≤ (i 1).val ∧ (i 1).val < t.val * 256 + 256; omega

/-- The array after the run. -/
theorem final : (dats m 0 c).arrAt 4 cfg0.N = fun i => result m c (i 0) (i 1) := by
  refine (dats m 0 c).arrAt_eq_of_cover 4 _ (fun t hf => ?_) cover
  rw [Value.flushed4]
  obtain ⟨-, -, -, -, e⟩ := idx t
  funext y
  obtain ⟨d, x, rfl⟩ : ∃ d x, y = ix2 d x := ⟨y 0, y 1, eq_ix2 y⟩
  refine (out_at _ _ _ _ d x).trans ?_
  simp only [read_x, read_s, read_p, read_q]
  refine (congrArg₂ (result m c) (Fin.ext ?_) (Fin.ext ?_) : result m c d (row t x) = _)
  · show d.val = win0_4.index t (0 : Fin 2) * 4096 + 1 * d.val
    rw [e]; show _ = 0 * 4096 + 1 * d.val; omega
  · show t.val * 256 + x.val = win0_4.index t (1 : Fin 2) * 256 + 1 * x.val
    rw [e]; show _ = t.val * 256 + 1 * x.val; omega

end Cert.TurnedIdeal.Hand
-- ==== Proof.TurnedRef.lean ====
module

public import proofs.«01_k».proof.Proof.Gen.TurnedRefIdeal.Run
public import proofs.«01_k».proof.Proof.Gen.TurnedRefIdeal.Read
public import proofs.«01_k».proof.Proof.NormSpec

/-!
# What the reference leaves for the normalisation before the expert queries
-/

@[expose] public section

open Idealize.ShloMosaic Idealize.SL
namespace Cert.TurnedRefIdeal.Hand
open Cert.TurnedRefIdeal Cert.TurnedRefIdeal.Read Cert.LastNorm

variable (X : Vec Ideal ⟨3, ![1, 16384, 4096]⟩ .f32) (g : Vec Ideal ⟨3, ![2, 2, 4096]⟩ .f32) (sh sc : Vec Ideal ⟨2, ![1, 4096]⟩ .f32)

/-- The normalised row, entry by entry. -/
theorem normed_at (t : Fin 16384) (n : Fin 4096) :
    val_main_v14 (F := Ideal) X g (ix3 0 t n) = normed (fun k => X (ix3 0 t k)) (fun k => g (ix3 1 1 k)) n := by
  have s : ∑ k, val_main_v2 (F := Ideal) X (idx_main_v3 (idx_main_v4 (idx_main_v10 (ix3 0 t n))) k) =
      ∑ k : Fin 4096, X (ix3 0 t k) * X (ix3 0 t k) := by
    refine Finset.sum_congr rfl fun k _ => ?_
    have e : idx_main_v3 (idx_main_v4 (idx_main_v10 (ix3 0 t n))) k = ix3 0 t k := by funext x; fin_cases x <;> rfl
    rw [e, val_main_v2_apply]
    rfl
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v1_apply, val_main_v0_apply, s]
  refine congrArg₂ (fun a b : EReal => a * b) (congrArg₂ (fun a b : EReal => a * b) rfl ?_) (congrArg g (funext fun x => Fin.ext ?_))
  · refine congrArg Ideal.rsqrt (congrArg₂ (fun a b : EReal => a + b) (congrArg₂ Ideal.div ?_ rfl) rfl)
    refine (congrArg (· + _) Ideal.ofBits_zero_f32).trans (zero_add _)
  · fin_cases x <;> dsimp <;> omega

/-- The modulated row, entry by entry. -/
theorem modulated_at (t : Fin 16384) (n : Fin 4096) :
    val_main_v22 (F := Ideal) X g sh sc (ix3 0 t n) =
      modulated (fun k => X (ix3 0 t k)) (fun k => g (ix3 1 1 k)) (fun k => sh (ix2 0 k)) (fun k => sc (ix2 0 k)) n := by
  rw [val_main_v22_apply, val_main_v21_apply, val_main_v20_apply, val_main_v19_apply, val_main_v18_apply, val_main_v17_apply, val_main_v16_apply,
    val_main_v15_apply, normed_at, val_main_cst_2_apply]
  refine congrArg₂ (fun a b : EReal => a + b) (congrArg₂ (fun a b : EReal => a * b) rfl (congrArg₂ (fun a b : EReal => a + b) ?_
    (congrArg sc (funext fun x => Fin.ext ?_)))) (congrArg sh (funext fun x => Fin.ext ?_))
  · exact Ideal.ofBits_one_f32
  all_goals fin_cases x <;> rfl

/-- The reference's result, entry by entry. -/
theorem result_at (n : Fin 4096) (t : Fin 16384) :
    val_main_v25 (F := Ideal) X g sh sc (ix2 n t) =
      modulated (fun k => X (ix3 0 t k)) (fun k => g (ix3 1 1 k)) (fun k => sh (ix2 0 k)) (fun k => sc (ix2 0 k)) n := by
  have e : idx_main_v23 (idx_main_v24 (ix2 n t)) = ix3 0 t n := funext fun x => Fin.ext (by fin_cases x <;> dsimp <;> omega)
  rw [val_main_v25_apply, val_main_v24_apply, val_main_v23_apply, e, modulated_at]
  rfl

end Cert.TurnedRefIdeal.Hand
-- ==== Proof.Neighbours.lean ====
module

public import Idealize.ShloMosaic.Lib.Pointwise
public import Idealize.ShloMosaic.Lib.Pipeline.ValueKit

/-!
# The tokens beside a token

A value per token of the sequence, and the values of the token before and after, zero at the two ends.  The kernels work on tiles of
256 tokens: inside a tile they rotate the rows, at its first and last row they take a row read from the tile beside, and at the first
and last tile they put zero in its place.
-/

@[expose] public section

open Idealize.ShloMosaic
namespace Cert.Neighbours

/-- The value of the token before, -/
noncomputable def before (x : Fin 16384 → EReal) (t : Fin 16384) : EReal := if 1 ≤ t.val then x ⟨t.val - 1, by omega⟩ else 0
/-- and of the token after. -/
noncomputable def after (x : Fin 16384 → EReal) (t : Fin 16384) : EReal := if h : t.val + 1 < 16384 then x ⟨t.val + 1, h⟩ else 0

/-- A selection by the equality of two numbers, given as words. -/
theorem select_eq {α : Type} (h k : ℕ) (hh : h < 2 ^ 32) (hk : k < 2 ^ 32) (a b : α) :
    Scalar.select (IntOp.cmpi .eq (BitVec.ofNat 32 h) (BitVec.ofNat 32 k)) a b = if h = k then a else b := by
  have e : BitVec.ofNat 32 h = BitVec.ofNat 32 k ↔ h = k := by
    rw [← BitVec.toNat_inj, BitVec.toNat_ofNat, BitVec.toNat_ofNat, Nat.mod_eq_of_lt hh, Nat.mod_eq_of_lt hk]
  unfold IntOp.cmpi
  by_cases hc : h = k
  · rw [if_pos hc, e.2 hc]
    simp only [beq_self_eq_true]
    rfl
  · rw [if_neg hc]
    simp only [beq_eq_false_iff_ne.2 (mt e.1 hc)]
    rfl

/-- Row `r` of tile `n`: what stands there for the token before, -/
theorem before_tile (x : Fin 16384 → EReal) (n : Fin 64) (r : Fin 256) (a p : EReal)
    (ha : ∀ h : r.val ≠ 0, a = x ⟨n.val * 256 + (r.val - 1), by omega⟩) (hp : ∀ h : n.val ≠ 0, p = x ⟨n.val * 256 - 1, by omega⟩) :
    Scalar.select (IntOp.cmpi .eq (BitVec.ofNat 32 r.val) 0#32)
      (Scalar.select (IntOp.cmpi .eq (BitVec.ofNat 32 n.val) 0#32) (0 : EReal) p) a = before x ⟨n.val * 256 + r.val, by omega⟩ := by
  rw [select_eq r.val 0 (by omega) (by omega), select_eq n.val 0 (by omega) (by omega)]
  unfold before
  by_cases hr : r.val = 0
  · rw [if_pos hr]
    by_cases hn : n.val = 0
    · rw [if_pos hn, if_neg (by dsimp only; omega)]
    · rw [if_neg hn, if_pos (by dsimp only; omega), hp hn]
      exact congrArg x (Fin.ext (by dsimp only; omega))
  · rw [if_neg hr, if_pos (by dsimp only; omega), ha hr]
    exact congrArg x (Fin.ext (by dsimp only; omega))

/-- and what stands there for the token after. -/
theorem after_tile (x : Fin 16384 → EReal) (n : Fin 64) (r : Fin 256) (a p : EReal)
    (ha : ∀ h : r.val ≠ 255, a = x ⟨n.val * 256 + (r.val + 1), by omega⟩) (hp : ∀ h : n.val ≠ 63, p = x ⟨n.val * 256 + 256, by omega⟩) :
    Scalar.select (IntOp.cmpi .eq (BitVec.ofNat 32 r.val) 255#32)
      (Scalar.select (IntOp.cmpi .eq (BitVec.ofNat 32 n.val) 63#32) (0 : EReal) p) a = after x ⟨n.val * 256 + r.val, by omega⟩ := by
  rw [select_eq r.val 255 (by omega) (by omega), select_eq n.val 63 (by omega) (by omega)]
  unfold after
  by_cases hr : r.val = 255
  · rw [if_pos hr]
    by_cases hn : n.val = 63
    · rw [if_pos hn, dif_neg (by dsimp only; omega)]
    · rw [if_neg hn, dif_pos (by dsimp only; omega), hp hn]
      exact congrArg x (Fin.ext (by dsimp only; omega))
  · rw [if_neg hr, dif_pos (by dsimp only; omega), ha hr]
    exact congrArg x (Fin.ext (by dsimp only; omega))

/-- A token's value moved towards the mean of its neighbours by the part `l`: the centred token shift. -/
noncomputable def mixed (x : Fin 16384 → EReal) (l : EReal) (t : Fin 16384) : EReal :=
  x t + (Ideal.ofBits FTy.f32 1056964608#32 * (before x t + after x t) - x t) * l

/-- Two arrays of one sequence are equal when they are at every token and channel. -/
theorem ext3 {T D : ℕ} {f : (⟨3, ![1, T, D]⟩ : Shape).Idx → EReal} {g : Fin T → Fin D → EReal} (h : ∀ t d, f (ix3 0 t d) = g t d) :
    f = fun i => g (i 1) (i 2) := by
  funext i
  obtain ⟨z, t, d, rfl⟩ : ∃ z t d, i = ix3 z t d := ⟨i 0, i 1, i 2, eq_ix3 i⟩
  obtain rfl : z = 0 := Subsingleton.elim _ _
  exact h t d

end Cert.Neighbours
-- ==== Proof.ShiftArray.lean ====
module

public import proofs.«01_k».proof.Proof.Gen.ShiftIdeal.Value
public import proofs.«01_k».proof.Proof.Neighbours

/-!
# What the token shift leaves

Grid point `(I, J)` takes 256 tokens of 512 channels, and the eight rows before and after them.
-/

@[expose] public section

open Idealize.ShloMosaic Idealize.SL
namespace Cert.ShiftIdeal.Hand
open Cert.ShiftIdeal Cert.ShiftIdeal.Gen Cert.Neighbours
set_option maxRecDepth 65536

/-- What is mixed in, before its weight, at a token of the point's tile, where the tile's rows and the two rows beside it are those of `x`. -/
theorem shifted_at (i : grid0.Coords) (x0 : Vec Ideal S1x256x512 .f32) (x1 x2 : Vec Ideal S1x8x512 .f32) (x3 : Vec Ideal S6x512 .f32)
    (n : Fin 64) (hi : (i 1).val = n.val) (d : Fin 512) (x : Fin 16384 → EReal) (h0 : ∀ r : Fin 256, x0 (ix3 0 r d) = x ⟨n.val * 256 + r.val, by omega⟩)
    (h1 : ∀ h : n.val ≠ 0, x1 (ix3 0 7 d) = x ⟨n.val * 256 - 1, by omega⟩) (h2 : ∀ h : n.val ≠ 63, x2 (ix3 0 0 d) = x ⟨n.val * 256 + 256, by omega⟩)
    (r : Fin 256) :
    k0_pay12 (F := Ideal) i x0 x1 x2 x3 (ix2 r d) = Ideal.ofBits FTy.f32 1056964608#32 *
      (before x ⟨n.val * 256 + r.val, by omega⟩ + after x ⟨n.val * 256 + r.val, by omega⟩) - x ⟨n.val * 256 + r.val, by omega⟩ := by
  unfold k0_pay12
  unfold_payloads
  pointwise
  rw [hi]
  refine congrArg₂ (fun a b : EReal => a - b) (congrArg₂ (fun a b : EReal => a * b) rfl (congrArg₂ (fun a b : EReal => a + b) ?_ ?_)) (h0 r)
  · refine before_tile x n r _ _ (fun h => (h0 _).trans (congrArg x (Fin.ext ?_))) h1
    dsimp only; omega
  · refine after_tile x n r _ _ (fun h => (h0 _).trans (congrArg x (Fin.ext ?_))) h2
    dsimp only; omega

/-- The six blocks the point leaves, entry by entry: each mixes in that amount by a weight of its own. -/
theorem out_at (i : grid0.Coords) (x0 : Vec Ideal S1x256x512 .f32) (x1 x2 : Vec Ideal S1x8x512 .f32) (x3 : Vec Ideal S6x512 .f32)
    (r : Fin 256) (d : Fin 512) :
    out0_4 (F := Ideal) i x0 x1 x2 x3 (ix3 0 r d) = x0 (ix3 0 r d) + k0_pay12 (F := Ideal) i x0 x1 x2 x3 (ix2 r d) * x3 (ix2 0 d)
    ∧ out0_5 (F := Ideal) i x0 x1 x2 x3 (ix3 0 r d) = x0 (ix3 0 r d) + k0_pay12 (F := Ideal) i x0 x1 x2 x3 (ix2 r d) * x3 (ix2 1 d)
    ∧ out0_6 (F := Ideal) i x0 x1 x2 x3 (ix3 0 r d) = x0 (ix3 0 r d) + k0_pay12 (F := Ideal) i x0 x1 x2 x3 (ix2 r d) * x3 (ix2 2 d)
    ∧ out0_7 (F := Ideal) i x0 x1 x2 x3 (ix3 0 r d) = x0 (ix3 0 r d) + k0_pay12 (F := Ideal) i x0 x1 x2 x3 (ix2 r d) * x3 (ix2 3 d)
    ∧ out0_8 (F := Ideal) i x0 x1 x2 x3 (ix3 0 r d) = x0 (ix3 0 r d) + k0_pay12 (F := Ideal) i x0 x1 x2 x3 (ix2 r d) * x3 (ix2 4 d)
    ∧ out0_9 (F := Ideal) i x0 x1 x2 x3 (ix3 0 r d) = x0 (ix3 0 r d) + k0_pay12 (F := Ideal) i x0 x1 x2 x3 (ix2 r d) * x3 (ix2 5 d) := by
  refine ⟨?_, ?_, ?_, ?_, ?_, ?_⟩
  · have e : k0_pay12 (F := Ideal) i x0 x1 x2 x3 = k0_pay4 i x0 (View.ld x1 r0_1) (View.ld x2 r0_2) := by
      unfold k0_pay12
      refine congrArg (fun x => k0_pay4 i x (View.ld x1 r0_1) (View.ld x2 r0_2)) (funext fun j => ?_)
      obtain ⟨a, b, e, rfl⟩ : ∃ a b e, j = ix3 a b e := ⟨j 0, j 1, j 2, eq_ix3 j⟩
      obtain rfl : a = 0 := Subsingleton.elim _ _
      pointwise
    rw [e]
    frame_out
    unfold k0_pay6 k0_pay5 k0_pay3
    generalize k0_pay4 i x0 (View.ld x1 r0_1) (View.ld x2 r0_2) = y
    pointwise
  all_goals
    frame_out
    unfold_payloads
    generalize k0_pay12 i x0 x1 x2 x3 = y
    pointwise

variable (m : (ℓ : Loc nD τ sig) → Buf (Elt Ideal) ℓ) (c : Dev nD)

/-- The coordinates of grid point `t` and the blocks it reads and writes. -/
theorem idx : ∀ t : Fin cfg0.N, ((grid0.coords t) 1).val = t.val / 8
    ∧ win0_0.index t = ![0, t.val / 8, t.val % 8] ∧ win0_1.index t = ![0, t.val / 8 * 32 - 1, t.val % 8]
    ∧ win0_2.index t = ![0, min (t.val / 8 * 32 + 32) 2047, t.val % 8] ∧ win0_3.index t = ![0, t.val % 8]
    ∧ win0_4.index t = ![0, t.val / 8, t.val % 8] ∧ win0_5.index t = ![0, t.val / 8, t.val % 8]
    ∧ win0_6.index t = ![0, t.val / 8, t.val % 8] ∧ win0_7.index t = ![0, t.val / 8, t.val % 8]
    ∧ win0_8.index t = ![0, t.val / 8, t.val % 8] ∧ win0_9.index t = ![0, t.val / 8, t.val % 8] :=
  (by decide +kernel : ∀ t : Fin grid0.N, _)

/-- The two arguments, as arrays. -/
abbrev argX : Vec Ideal ⟨3, ![1, 16384, 4096]⟩ .f32 := m ((c.tc : Thread nD τ).loc main_arg0)
abbrev argL : Vec Ideal ⟨3, ![1, 6, 4096]⟩ .f32 := m ((c.tc : Thread nD τ).loc main_arg1)

theorem lt (t : Fin cfg0.N) : t.val < 512 := by have := t.isLt; have h : cfg0.N = 512 := N_0; omega
/-- The token of row `r` of grid point `t`'s tile -/
abbrev row (t : Fin cfg0.N) (r : Fin 256) : Fin 16384 := ⟨t.val / 8 * 256 + r.val, by have := lt t; omega⟩
/-- and the channel of column `d`. -/
abbrev col (t : Fin cfg0.N) (d : Fin 512) : Fin 4096 := ⟨t.val % 8 * 512 + d.val, by omega⟩

/-- The blocks the point reads, entry by entry: its rows, -/
theorem read_x (t : Fin cfg0.N) (r : Fin 256) (d : Fin 512) : iblk m c 0 t (ix3 0 r d) = argX m c (ix3 0 (row t r) (col t d)) := by
  blk_ext! [iblk, V, idx t]
/-- the last row of the eight before, -/
theorem read_p (t : Fin cfg0.N) (d : Fin 512) :
    iblk m c 1 t (ix3 0 7 d) = argX m c (ix3 0 ⟨(t.val / 8 * 32 - 1) * 8 + 7, by have := lt t; omega⟩ (col t d)) := by
  blk_ext! [iblk, V, idx t]
/-- the first row of the eight after -/
theorem read_n (t : Fin cfg0.N) (d : Fin 512) :
    iblk m c 2 t (ix3 0 0 d) = argX m c (ix3 0 ⟨min (t.val / 8 * 32 + 32) 2047 * 8, by omega⟩ (col t d)) := by
  blk_ext! [iblk, V, idx t]
/-- and the six weights of the channel. -/
theorem read_l (t : Fin cfg0.N) (n : Fin 6) (d : Fin 512) : iblk m c 3 t (ix2 n d) = argL m c (ix3 0 n (col t d)) := by
  blk_ext! [iblk, V, idx t]

/-- Result `n` at a token and a channel. -/
noncomputable def result (n : Fin 6) (t : Fin 16384) (d : Fin 4096) : EReal :=
  mixed (fun t => argX m c (ix3 0 t d)) (argL m c (ix3 0 n d)) t

/-- What grid point `t` leaves in block `n` is the result there. -/
theorem point_at (t : Fin cfg0.N) (x0 : Vec Ideal S1x256x512 .f32) (x1 x2 : Vec Ideal S1x8x512 .f32) (x3 : Vec Ideal S6x512 .f32)
    (e0 : x0 = iblk m c 0 t) (e1 : x1 = iblk m c 1 t) (e2 : x2 = iblk m c 2 t) (e3 : x3 = iblk m c 3 t) (n : Fin 6) (r : Fin 256) (d : Fin 512) :
    x0 (ix3 0 r d) + k0_pay12 (F := Ideal) (grid0.coords t) x0 x1 x2 x3 (ix2 r d) * x3 (ix2 n d) = result m c n (row t r) (col t d) := by
  have ht := lt t
  subst e0 e1 e2 e3
  rw [shifted_at (grid0.coords t) _ _ _ _ ⟨t.val / 8, by omega⟩ (idx t).1 d (fun t' => argX m c (ix3 0 t' (col t d))) (fun r => read_x m c t r d)
    (fun h => (read_p m c t d).trans (congrArg (fun q => argX m c (ix3 0 q (col t d))) (Fin.ext ?_)))
    (fun h => (read_n m c t d).trans (congrArg (fun q => argX m c (ix3 0 q (col t d))) (Fin.ext ?_))) r, read_x, read_l]
  · rfl
  all_goals dsimp only at h ⊢; omega

/-- Every entry of a result is in some grid point's block. -/
theorem covered (i : S1x16384x4096.Idx) : ∃ t : Fin cfg0.N, ∀ a : Fin 3,
    (![0, t.val / 8, t.val % 8] : Fin 3 → ℕ) a * (![1, 256, 512] : Fin 3 → ℕ) a ≤ (i a).val
    ∧ (i a).val < (![0, t.val / 8, t.val % 8] : Fin 3 → ℕ) a * (![1, 256, 512] : Fin 3 → ℕ) a + (![1, 256, 512] : Fin 3 → ℕ) a := by
  have h0 : (i 0).val < 1 := (i 0).isLt
  have h1 : (i 1).val < 16384 := (i 1).isLt
  have h2 : (i 2).val < 4096 := (i 2).isLt
  have hN : cfg0.N = 512 := N_0
  obtain ⟨t, ht⟩ : ∃ t : Fin cfg0.N, t.val = (i 1).val / 256 * 8 + (i 2).val / 512 := ⟨⟨_, by omega⟩, rfl⟩
  refine ⟨t, fun a => ?_⟩
  match a with
  | ⟨0, _⟩ => show 0 * 1 ≤ (i 0).val ∧ (i 0).val < 0 * 1 + 1; omega
  | ⟨1, _⟩ => show t.val / 8 * 256 ≤ (i 1).val ∧ (i 1).val < t.val / 8 * 256 + 256; omega
  | ⟨2, _⟩ => show t.val % 8 * 512 ≤ (i 2).val ∧ (i 2).val < t.val % 8 * 512 + 512; omega

/-- The six arrays after the run: the first, -/
theorem final0 : (dats m 0 c).arrAt 4 cfg0.N = fun i => result m c 0 (i 1) (i 2) := by
  refine (dats m 0 c).arrAt_eq_of_cover 4 _ (fun t hf => ?_) fun i => ?_
  · rw [Value.flushed4]
    have e : win0_4.index t = ![0, t.val / 8, t.val % 8] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (point_at m c t _ _ _ _ rfl rfl rfl rfl 0 x d)).trans ?_
    · exact (out_at _ _ _ _ _ x d).1
    · refine congrArg₂ (result m c 0) (Fin.ext ?_) (Fin.ext ?_)
      · show t.val / 8 * 256 + x.val = win0_4.index t (1 : Fin 3) * 256 + 1 * x.val
        rw [e]; show _ = t.val / 8 * 256 + 1 * x.val; omega
      · show t.val % 8 * 512 + d.val = win0_4.index t (2 : Fin 3) * 512 + 1 * d.val
        rw [e]; show _ = t.val % 8 * 512 + 1 * d.val; omega
  · obtain ⟨t, ht⟩ := covered i
    refine ⟨t, flush0_4 t, ?_⟩
    show i ∈ ((View.whole main_v1_0).slice (win0_4.rect t)).set
    rw [View.set_slice_whole, Rect.mem_set_unit]
    have e : win0_4.index t = ![0, t.val / 8, t.val % 8] := by simp only [idx t]
    intro a
    show win0_4.index t a * _ ≤ _ ∧ _ < win0_4.index t a * _ + _
    rw [e]
    exact ht a
/-- the second, -/
theorem final1 : (dats m 0 c).arrAt 5 cfg0.N = fun i => result m c 1 (i 1) (i 2) := by
  refine (dats m 0 c).arrAt_eq_of_cover 5 _ (fun t hf => ?_) fun i => ?_
  · rw [Value.flushed5]
    have e : win0_5.index t = ![0, t.val / 8, t.val % 8] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (point_at m c t _ _ _ _ rfl rfl rfl rfl 1 x d)).trans ?_
    · exact (out_at _ _ _ _ _ x d).2.1
    · refine congrArg₂ (result m c 1) (Fin.ext ?_) (Fin.ext ?_)
      · show t.val / 8 * 256 + x.val = win0_5.index t (1 : Fin 3) * 256 + 1 * x.val
        rw [e]; show _ = t.val / 8 * 256 + 1 * x.val; omega
      · show t.val % 8 * 512 + d.val = win0_5.index t (2 : Fin 3) * 512 + 1 * d.val
        rw [e]; show _ = t.val % 8 * 512 + 1 * d.val; omega
  · obtain ⟨t, ht⟩ := covered i
    refine ⟨t, flush0_5 t, ?_⟩
    show i ∈ ((View.whole main_v1_1).slice (win0_5.rect t)).set
    rw [View.set_slice_whole, Rect.mem_set_unit]
    have e : win0_5.index t = ![0, t.val / 8, t.val % 8] := by simp only [idx t]
    intro a
    show win0_5.index t a * _ ≤ _ ∧ _ < win0_5.index t a * _ + _
    rw [e]
    exact ht a
/-- the third, -/
theorem final2 : (dats m 0 c).arrAt 6 cfg0.N = fun i => result m c 2 (i 1) (i 2) := by
  refine (dats m 0 c).arrAt_eq_of_cover 6 _ (fun t hf => ?_) fun i => ?_
  · rw [Value.flushed6]
    have e : win0_6.index t = ![0, t.val / 8, t.val % 8] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (point_at m c t _ _ _ _ rfl rfl rfl rfl 2 x d)).trans ?_
    · exact (out_at _ _ _ _ _ x d).2.2.1
    · refine congrArg₂ (result m c 2) (Fin.ext ?_) (Fin.ext ?_)
      · show t.val / 8 * 256 + x.val = win0_6.index t (1 : Fin 3) * 256 + 1 * x.val
        rw [e]; show _ = t.val / 8 * 256 + 1 * x.val; omega
      · show t.val % 8 * 512 + d.val = win0_6.index t (2 : Fin 3) * 512 + 1 * d.val
        rw [e]; show _ = t.val % 8 * 512 + 1 * d.val; omega
  · obtain ⟨t, ht⟩ := covered i
    refine ⟨t, flush0_6 t, ?_⟩
    show i ∈ ((View.whole main_v1_2).slice (win0_6.rect t)).set
    rw [View.set_slice_whole, Rect.mem_set_unit]
    have e : win0_6.index t = ![0, t.val / 8, t.val % 8] := by simp only [idx t]
    intro a
    show win0_6.index t a * _ ≤ _ ∧ _ < win0_6.index t a * _ + _
    rw [e]
    exact ht a
/-- the fourth, -/
theorem final3 : (dats m 0 c).arrAt 7 cfg0.N = fun i => result m c 3 (i 1) (i 2) := by
  refine (dats m 0 c).arrAt_eq_of_cover 7 _ (fun t hf => ?_) fun i => ?_
  · rw [Value.flushed7]
    have e : win0_7.index t = ![0, t.val / 8, t.val % 8] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (point_at m c t _ _ _ _ rfl rfl rfl rfl 3 x d)).trans ?_
    · exact (out_at _ _ _ _ _ x d).2.2.2.1
    · refine congrArg₂ (result m c 3) (Fin.ext ?_) (Fin.ext ?_)
      · show t.val / 8 * 256 + x.val = win0_7.index t (1 : Fin 3) * 256 + 1 * x.val
        rw [e]; show _ = t.val / 8 * 256 + 1 * x.val; omega
      · show t.val % 8 * 512 + d.val = win0_7.index t (2 : Fin 3) * 512 + 1 * d.val
        rw [e]; show _ = t.val % 8 * 512 + 1 * d.val; omega
  · obtain ⟨t, ht⟩ := covered i
    refine ⟨t, flush0_7 t, ?_⟩
    show i ∈ ((View.whole main_v1_3).slice (win0_7.rect t)).set
    rw [View.set_slice_whole, Rect.mem_set_unit]
    have e : win0_7.index t = ![0, t.val / 8, t.val % 8] := by simp only [idx t]
    intro a
    show win0_7.index t a * _ ≤ _ ∧ _ < win0_7.index t a * _ + _
    rw [e]
    exact ht a
/-- the fifth -/
theorem final4 : (dats m 0 c).arrAt 8 cfg0.N = fun i => result m c 4 (i 1) (i 2) := by
  refine (dats m 0 c).arrAt_eq_of_cover 8 _ (fun t hf => ?_) fun i => ?_
  · rw [Value.flushed8]
    have e : win0_8.index t = ![0, t.val / 8, t.val % 8] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (point_at m c t _ _ _ _ rfl rfl rfl rfl 4 x d)).trans ?_
    · exact (out_at _ _ _ _ _ x d).2.2.2.2.1
    · refine congrArg₂ (result m c 4) (Fin.ext ?_) (Fin.ext ?_)
      · show t.val / 8 * 256 + x.val = win0_8.index t (1 : Fin 3) * 256 + 1 * x.val
        rw [e]; show _ = t.val / 8 * 256 + 1 * x.val; omega
      · show t.val % 8 * 512 + d.val = win0_8.index t (2 : Fin 3) * 512 + 1 * d.val
        rw [e]; show _ = t.val % 8 * 512 + 1 * d.val; omega
  · obtain ⟨t, ht⟩ := covered i
    refine ⟨t, flush0_8 t, ?_⟩
    show i ∈ ((View.whole main_v1_4).slice (win0_8.rect t)).set
    rw [View.set_slice_whole, Rect.mem_set_unit]
    have e : win0_8.index t = ![0, t.val / 8, t.val % 8] := by simp only [idx t]
    intro a
    show win0_8.index t a * _ ≤ _ ∧ _ < win0_8.index t a * _ + _
    rw [e]
    exact ht a
/-- and the sixth. -/
theorem final5 : (dats m 0 c).arrAt 9 cfg0.N = fun i => result m c 5 (i 1) (i 2) := by
  refine (dats m 0 c).arrAt_eq_of_cover 9 _ (fun t hf => ?_) fun i => ?_
  · rw [Value.flushed9]
    have e : win0_9.index t = ![0, t.val / 8, t.val % 8] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (point_at m c t _ _ _ _ rfl rfl rfl rfl 5 x d)).trans ?_
    · exact (out_at _ _ _ _ _ x d).2.2.2.2.2
    · refine congrArg₂ (result m c 5) (Fin.ext ?_) (Fin.ext ?_)
      · show t.val / 8 * 256 + x.val = win0_9.index t (1 : Fin 3) * 256 + 1 * x.val
        rw [e]; show _ = t.val / 8 * 256 + 1 * x.val; omega
      · show t.val % 8 * 512 + d.val = win0_9.index t (2 : Fin 3) * 512 + 1 * d.val
        rw [e]; show _ = t.val % 8 * 512 + 1 * d.val; omega
  · obtain ⟨t, ht⟩ := covered i
    refine ⟨t, flush0_9 t, ?_⟩
    show i ∈ ((View.whole main_v1_5).slice (win0_9.rect t)).set
    rw [View.set_slice_whole, Rect.mem_set_unit]
    have e : win0_9.index t = ![0, t.val / 8, t.val % 8] := by simp only [idx t]
    intro a
    show win0_9.index t a * _ ≤ _ ∧ _ < win0_9.index t a * _ + _
    rw [e]
    exact ht a

end Cert.ShiftIdeal.Hand
-- ==== Proof.ShiftRef.lean ====
module

public import proofs.«01_k».proof.Proof.Gen.ShiftRefIdeal.Run
public import proofs.«01_k».proof.Proof.Gen.ShiftRefIdeal.Read
public import Idealize.ShloMosaic.Lib.KernelVsHost
public import proofs.«01_k».proof.Proof.Neighbours

/-!
# What the reference leaves for the token shift

It pads the sequence by a token of zeros at each end; the six results differ in the row of weights.
-/

@[expose] public section

open Idealize.ShloMosaic Idealize.SL
namespace Cert.ShiftRefIdeal.Hand
open Cert.ShiftRefIdeal Cert.ShiftRefIdeal.Read Cert.Neighbours

variable (X : Vec Ideal ⟨3, ![1, 16384, 4096]⟩ .f32) (L : Vec Ideal ⟨3, ![1, 6, 4096]⟩ .f32)

/-- The slice that starts at the padding holds the tokens before, -/
theorem before_at (t : Fin 16384) (d : Fin 4096) : val_main_v1 (F := Ideal) X (ix3 0 t d) = before (fun t => X (ix3 0 t d)) t := by
  unfold val_main_v1 val_main_v0 val_main_call0_v0 val_main_c before
  pointwise
  split_ifs with h1 h2 h2
  · rfl
  · omega
  · omega
  · exact sitofp_zero (φ := .f32)
/-- the one that ends with it the tokens after. -/
theorem after_at (t : Fin 16384) (d : Fin 4096) : val_main_v2 (F := Ideal) X (ix3 0 t d) = after (fun t => X (ix3 0 t d)) t := by
  unfold val_main_v2 val_main_v0 val_main_call0_v0 val_main_c after
  pointwise
  split_ifs with h1 h2 h2
  · exact congrArg X (congrArg (fun q => ix3 0 q d) (Fin.ext (by dsimp only; omega)))
  · omega
  · omega
  · exact sitofp_zero (φ := .f32)

/-- What is mixed in, before its weight. -/
theorem shifted_at (t : Fin 16384) (d : Fin 4096) :
    val_main_v6 (F := Ideal) X (ix3 0 t d) = Ideal.ofBits FTy.f32 1056964608#32 *
      (before (fun t => X (ix3 0 t d)) t + after (fun t => X (ix3 0 t d)) t) - X (ix3 0 t d) := by
  rw [val_main_v6_apply, val_main_v5_apply, val_main_v3_apply, before_at, after_at]
  rfl

/-- The six results, entry by entry. -/
theorem result_at (t : Fin 16384) (d : Fin 4096) :
    val_main_v14 (F := Ideal) X L (ix3 0 t d) = mixed (fun t => X (ix3 0 t d)) (L (ix3 0 0 d)) t
    ∧ val_main_v22 (F := Ideal) X L (ix3 0 t d) = mixed (fun t => X (ix3 0 t d)) (L (ix3 0 1 d)) t
    ∧ val_main_v30 (F := Ideal) X L (ix3 0 t d) = mixed (fun t => X (ix3 0 t d)) (L (ix3 0 2 d)) t
    ∧ val_main_v38 (F := Ideal) X L (ix3 0 t d) = mixed (fun t => X (ix3 0 t d)) (L (ix3 0 3 d)) t
    ∧ val_main_v46 (F := Ideal) X L (ix3 0 t d) = mixed (fun t => X (ix3 0 t d)) (L (ix3 0 4 d)) t
    ∧ val_main_v54 (F := Ideal) X L (ix3 0 t d) = mixed (fun t => X (ix3 0 t d)) (L (ix3 0 5 d)) t := by
  unfold mixed
  rw [← shifted_at]
  refine ⟨?_, ?_, ?_, ?_, ?_, ?_⟩
  · unfold val_main_v14 val_main_v13 val_main_v12 val_main_v11 val_main_v10 val_main_v9 val_main_v8 val_main_v7
    pointwise
  · unfold val_main_v22 val_main_v21 val_main_v20 val_main_v19 val_main_v18 val_main_v17 val_main_v16 val_main_v15
    pointwise
  · unfold val_main_v30 val_main_v29 val_main_v28 val_main_v27 val_main_v26 val_main_v25 val_main_v24 val_main_v23
    pointwise
  · unfold val_main_v38 val_main_v37 val_main_v36 val_main_v35 val_main_v34 val_main_v33 val_main_v32 val_main_v31
    pointwise
  · unfold val_main_v46 val_main_v45 val_main_v44 val_main_v43 val_main_v42 val_main_v41 val_main_v40 val_main_v39
    pointwise
  · unfold val_main_v54 val_main_v53 val_main_v52 val_main_v51 val_main_v50 val_main_v49 val_main_v48 val_main_v47
    pointwise

end Cert.ShiftRefIdeal.Hand
-- ==== Proof.Convolved.lean ====
module

public import proofs.«01_k».proof.Proof.Neighbours

/-!
# The short convolution of the Hyena mixer

Each of 6144 channels is convolved with three weights over the tokens; the first third of the channels is the gate, the product of
the other two what the long convolution reads.
-/

@[expose] public section

open Idealize.ShloMosaic
namespace Cert.Convolved
open Cert.Neighbours

/-- A token's value and its two neighbours', weighted, and a bias. -/
noncomputable def convolved (x : Fin 16384 → EReal) (u v w b : EReal) (t : Fin 16384) : EReal :=
  before x t * u + x t * v + after x t * w + b

/-- Row `r` of tile `n`: the convolution there, from the tile's row, the rotated rows and the rows beside the tile. -/
theorem convolved_tile (x : Fin 16384 → EReal) (n : Fin 64) (r : Fin 256) (a c e p q u v w b : EReal)
    (ha : ∀ h : r.val ≠ 0, a = x ⟨n.val * 256 + (r.val - 1), by omega⟩) (hp : ∀ h : n.val ≠ 0, p = x ⟨n.val * 256 - 1, by omega⟩)
    (hc : c = x ⟨n.val * 256 + r.val, by omega⟩)
    (he : ∀ h : r.val ≠ 255, e = x ⟨n.val * 256 + (r.val + 1), by omega⟩) (hq : ∀ h : n.val ≠ 63, q = x ⟨n.val * 256 + 256, by omega⟩) :
    Scalar.select (IntOp.cmpi .eq (BitVec.ofNat 32 r.val) 0#32)
        (Scalar.select (IntOp.cmpi .eq (BitVec.ofNat 32 n.val) 0#32) (0 : EReal) p) a * u + c * v
      + Scalar.select (IntOp.cmpi .eq (BitVec.ofNat 32 r.val) 255#32)
        (Scalar.select (IntOp.cmpi .eq (BitVec.ofNat 32 n.val) 63#32) (0 : EReal) q) e * w + b
      = convolved x u v w b ⟨n.val * 256 + r.val, by omega⟩ := by
  rw [before_tile x n r a p ha hp, after_tile x n r e q he hq, hc]
  rfl

variable (Z : Vec Ideal ⟨3, ![1, 16384, 9216]⟩ .f32) (W : Vec Ideal ⟨3, ![1, 3, 6144]⟩ .f32) (B : Vec Ideal ⟨2, ![1, 6144]⟩ .f32)
  (H : Vec Ideal ⟨2, ![1, 2048]⟩ .f32)

/-- Channel `e` at a token: its inputs start at column 3072. -/
noncomputable def channel (e : Fin 6144) (t : Fin 16384) : EReal :=
  convolved (fun t => Z (ix3 0 t ⟨3072 + e.val, by omega⟩)) (W (ix3 0 0 e)) (W (ix3 0 1 e)) (W (ix3 0 2 e)) (B (ix2 0 e)) t

/-- What the long convolution reads, -/
noncomputable def gated (t : Fin 16384) (d : Fin 2048) : EReal :=
  channel Z W B ⟨4096 + d.val, by omega⟩ t * channel Z W B ⟨2048 + d.val, by omega⟩ t
/-- its gate -/
noncomputable def gate (t : Fin 16384) (d : Fin 2048) : EReal := channel Z W B ⟨d.val, by omega⟩ t
/-- and the gated bias term. -/
noncomputable def biased (t : Fin 16384) (d : Fin 2048) : EReal := gate Z W B t d * (gated Z W B t d * H (ix2 0 d))

end Cert.Convolved
-- ==== Proof.ConvArray.lean ====
module

public import proofs.«01_k».proof.Proof.Gen.ConvIdeal.Value
public import proofs.«01_k».proof.Proof.Convolved

/-!
# What the short convolution leaves

Grid point `(I, J)` takes 256 tokens of 512 channels from each third of the channels, with the eight rows before and after them.
-/

@[expose] public section

open Idealize.ShloMosaic Idealize.SL
namespace Cert.ConvIdeal.Hand
open Cert.ConvIdeal Cert.ConvIdeal.Gen Cert.Neighbours Cert.Convolved
set_option maxRecDepth 65536

section
variable (i : grid0.Coords) (x0 : Vec Ideal S1x256x512 .f32) (x1 x2 : Vec Ideal S1x8x512 .f32) (x3 : Vec Ideal S1x256x512 .f32)
  (x4 x5 : Vec Ideal S1x8x512 .f32) (x6 : Vec Ideal S1x256x512 .f32) (x7 x8 : Vec Ideal S1x8x512 .f32) (x9 x10 x11 : Vec Ideal S3x512 .f32)
  (x12 x13 x14 x15 : Vec Ideal S1x512 .f32) (n : Fin 64) (hi : (i 1).val = n.val) (d : Fin 512) (x : Fin 16384 → EReal)

/-- The first third, where the tile's rows and the two rows beside it are those of `x`. -/
theorem first_at (hc : ∀ r : Fin 256, x0 (ix3 0 r d) = x ⟨n.val * 256 + r.val, by omega⟩)
    (hp : ∀ h : n.val ≠ 0, x1 (ix3 0 7 d) = x ⟨n.val * 256 - 1, by omega⟩)
    (hn : ∀ h : n.val ≠ 63, x2 (ix3 0 0 d) = x ⟨n.val * 256 + 256, by omega⟩) (r : Fin 256) :
    out0_17 (F := Ideal) i x0 x1 x2 x3 x4 x5 x6 x7 x8 x9 x10 x11 x12 x13 x14 x15 (ix3 0 r d)
      = convolved x (x9 (ix2 0 d)) (x9 (ix2 1 d)) (x9 (ix2 2 d)) (x12 (ix2 0 d)) ⟨n.val * 256 + r.val, by omega⟩ := by
  frame_out
  unfold_payloads
  pointwise
  rw [hi]
  refine convolved_tile x n r _ _ _ _ _ _ _ _ _ (fun h => (hc _).trans (congrArg x (Fin.ext ?_))) hp (hc r)
    (fun h => (hc _).trans (congrArg x (Fin.ext ?_))) hn
  all_goals dsimp only; omega

/-- The second third. -/
theorem second_at (hc : ∀ r : Fin 256, x3 (ix3 0 r d) = x ⟨n.val * 256 + r.val, by omega⟩)
    (hp : ∀ h : n.val ≠ 0, x4 (ix3 0 7 d) = x ⟨n.val * 256 - 1, by omega⟩)
    (hn : ∀ h : n.val ≠ 63, x5 (ix3 0 0 d) = x ⟨n.val * 256 + 256, by omega⟩) (r : Fin 256) :
    k0_pay19 (F := Ideal) i x0 x1 x2 x3 x4 x5 x6 x7 x8 x9 x10 x11 x12 x13 x14 x15 (ix2 r d)
      = convolved x (x10 (ix2 0 d)) (x10 (ix2 1 d)) (x10 (ix2 2 d)) (x13 (ix2 0 d)) ⟨n.val * 256 + r.val, by omega⟩ := by
  unfold k0_pay19
  unfold_payloads
  pointwise
  rw [hi]
  refine convolved_tile x n r _ _ _ _ _ _ _ _ _ (fun h => (hc _).trans (congrArg x (Fin.ext ?_))) hp (hc r)
    (fun h => (hc _).trans (congrArg x (Fin.ext ?_))) hn
  all_goals dsimp only; omega

/-- The product of the last third with the second, whose block is `y`. -/
theorem product_at (y : FVec Ideal S256x512 .f32) (hc : ∀ r : Fin 256, x6 (ix3 0 r d) = x ⟨n.val * 256 + r.val, by omega⟩)
    (hp : ∀ h : n.val ≠ 0, x7 (ix3 0 7 d) = x ⟨n.val * 256 - 1, by omega⟩)
    (hn : ∀ h : n.val ≠ 63, x8 (ix3 0 0 d) = x ⟨n.val * 256 + 256, by omega⟩) (r : Fin 256) :
    k0_pay1 (F := Ideal) y (k0_pay20 i x0 x1 x2 x3 x4 x5 x6 x7 x8 x9 x10 x11 x12 x13 x14 x15)
        (k0_pay21 i x0 x1 x2 x3 x4 x5 x6 x7 x8 x9 x10 x11 x12 x13 x14 x15) (k0_pay22 i x0 x1 x2 x3 x4 x5 x6 x7 x8 x9 x10 x11 x12 x13 x14 x15)
        (k0_pay23 i x0 x1 x2 x3 x4 x5 x6 x7 x8 x9 x10 x11 x12 x13 x14 x15) (k0_pay24 i x0 x1 x2 x3 x4 x5 x6 x7 x8 x9 x10 x11 x12 x13 x14 x15)
        (View.ld x11 r0_3) (View.ld x11 r0_4) (View.ld x11 r0_5) (View.ld x14 r0_6) (ix2 r d)
      = convolved x (x11 (ix2 0 d)) (x11 (ix2 1 d)) (x11 (ix2 2 d)) (x14 (ix2 0 d)) ⟨n.val * 256 + r.val, by omega⟩ * y (ix2 r d) := by
  unfold k0_pay20 k0_pay21 k0_pay22 k0_pay23 k0_pay24
  unfold_payloads
  pointwise
  rw [hi]
  refine congrArg (fun a : EReal => a * y (ix2 r d)) ?_
  refine convolved_tile x n r _ _ _ _ _ _ _ _ _ (fun h => (hc _).trans (congrArg x (Fin.ext ?_))) hp (hc r)
    (fun h => (hc _).trans (congrArg x (Fin.ext ?_))) hn
  all_goals dsimp only; omega

/-- A block stored whole, entry by entry. -/
theorem stored_at (y : FVec Ideal S256x512 .f32) (r : Fin 256) (d : Fin 512) :
    (View.canon [⟨r0_0, shapeCast S1x256x512 y shapeCasts_S256x512_S1x256x512⟩] : Vec Ideal S1x256x512 .f32) (ix3 0 r d) = y (ix2 r d) := by
  frame_out
  pointwise

/-- What the point leaves for the long convolution, -/
theorem out_product (x' : Fin 16384 → EReal) (hc' : ∀ r : Fin 256, x3 (ix3 0 r d) = x' ⟨n.val * 256 + r.val, by omega⟩)
    (hp' : ∀ h : n.val ≠ 0, x4 (ix3 0 7 d) = x' ⟨n.val * 256 - 1, by omega⟩)
    (hn' : ∀ h : n.val ≠ 63, x5 (ix3 0 0 d) = x' ⟨n.val * 256 + 256, by omega⟩)
    (hc : ∀ r : Fin 256, x6 (ix3 0 r d) = x ⟨n.val * 256 + r.val, by omega⟩)
    (hp : ∀ h : n.val ≠ 0, x7 (ix3 0 7 d) = x ⟨n.val * 256 - 1, by omega⟩)
    (hn : ∀ h : n.val ≠ 63, x8 (ix3 0 0 d) = x ⟨n.val * 256 + 256, by omega⟩) (r : Fin 256) :
    out0_16 (F := Ideal) i x0 x1 x2 x3 x4 x5 x6 x7 x8 x9 x10 x11 x12 x13 x14 x15 (ix3 0 r d)
      = convolved x (x11 (ix2 0 d)) (x11 (ix2 1 d)) (x11 (ix2 2 d)) (x14 (ix2 0 d)) ⟨n.val * 256 + r.val, by omega⟩
        * convolved x' (x10 (ix2 0 d)) (x10 (ix2 1 d)) (x10 (ix2 2 d)) (x13 (ix2 0 d)) ⟨n.val * 256 + r.val, by omega⟩ := by
  rw [← second_at i x0 x1 x2 x3 x4 x5 x6 x7 x8 x9 x10 x11 x12 x13 x14 x15 n hi d x' hc' hp' hn' r,
    ← product_at i x0 x1 x2 x3 x4 x5 x6 x7 x8 x9 x10 x11 x12 x13 x14 x15 n hi d x _ hc hp hn r]
  unfold out0_16 k0_pay2
  generalize k0_pay1 (F := Ideal) _ _ _ _ _ _ _ _ _ _ = y
  exact stored_at y r d

/-- and the third block in terms of the first two. -/
theorem out_biased (r : Fin 256) :
    out0_18 (F := Ideal) i x0 x1 x2 x3 x4 x5 x6 x7 x8 x9 x10 x11 x12 x13 x14 x15 (ix3 0 r d)
      = out0_17 (F := Ideal) i x0 x1 x2 x3 x4 x5 x6 x7 x8 x9 x10 x11 x12 x13 x14 x15 (ix3 0 r d)
        * (out0_16 (F := Ideal) i x0 x1 x2 x3 x4 x5 x6 x7 x8 x9 x10 x11 x12 x13 x14 x15 (ix3 0 r d) * x15 (ix2 0 d)) := by
  unfold out0_16 out0_17 out0_18 k0_pay2 k0_pay3 k0_pay4
  generalize k0_pay1 (F := Ideal) _ _ _ _ _ _ _ _ _ _ = y
  generalize k0_pay18 (F := Ideal) _ _ _ _ _ _ _ _ _ _ _ _ _ _ _ _ _ = z
  dsimp only
  rw [stored_at, stored_at, stored_at]
  pointwise

end

variable (m : (ℓ : Loc nD τ sig) → Buf (Elt Ideal) ℓ) (c : Dev nD)

/-- The coordinates of grid point `t` and the blocks it reads and writes. -/
theorem idx : ∀ t : Fin cfg0.N, ((grid0.coords t) 1).val = t.val / 4
    ∧ win0_0.index t = ![0, t.val / 4, 6 + t.val % 4] ∧ win0_1.index t = ![0, t.val / 4 * 32 - 1, 6 + t.val % 4]
    ∧ win0_2.index t = ![0, min (t.val / 4 * 32 + 32) 2047, 6 + t.val % 4]
    ∧ win0_3.index t = ![0, t.val / 4, 10 + t.val % 4] ∧ win0_4.index t = ![0, t.val / 4 * 32 - 1, 10 + t.val % 4]
    ∧ win0_5.index t = ![0, min (t.val / 4 * 32 + 32) 2047, 10 + t.val % 4]
    ∧ win0_6.index t = ![0, t.val / 4, 14 + t.val % 4] ∧ win0_7.index t = ![0, t.val / 4 * 32 - 1, 14 + t.val % 4]
    ∧ win0_8.index t = ![0, min (t.val / 4 * 32 + 32) 2047, 14 + t.val % 4]
    ∧ win0_9.index t = ![0, t.val % 4] ∧ win0_10.index t = ![0, 4 + t.val % 4] ∧ win0_11.index t = ![0, 8 + t.val % 4]
    ∧ win0_12.index t = ![0, t.val % 4] ∧ win0_13.index t = ![0, 4 + t.val % 4] ∧ win0_14.index t = ![0, 8 + t.val % 4]
    ∧ win0_15.index t = ![0, t.val % 4] ∧ win0_16.index t = ![0, t.val / 4, t.val % 4]
    ∧ win0_17.index t = ![0, t.val / 4, t.val % 4] ∧ win0_18.index t = ![0, t.val / 4, t.val % 4] :=
  (by decide +kernel : ∀ t : Fin grid0.N, _)

/-- The four arguments, as arrays. -/
abbrev argZ : Vec Ideal ⟨3, ![1, 16384, 9216]⟩ .f32 := m ((c.tc : Thread nD τ).loc main_arg0)
abbrev argW : Vec Ideal ⟨3, ![1, 3, 6144]⟩ .f32 := m ((c.tc : Thread nD τ).loc main_arg1)
abbrev argB : Vec Ideal ⟨2, ![1, 6144]⟩ .f32 := m ((c.tc : Thread nD τ).loc main_arg2)
abbrev argH : Vec Ideal ⟨2, ![1, 2048]⟩ .f32 := m ((c.tc : Thread nD τ).loc main_arg3)

theorem lt (t : Fin cfg0.N) : t.val < 256 := by have := t.isLt; have h : cfg0.N = 256 := N_0; omega
/-- The token of row `r` of grid point `t`'s tile -/
abbrev row (t : Fin cfg0.N) (r : Fin 256) : Fin 16384 := ⟨t.val / 4 * 256 + r.val, by have := lt t; omega⟩
/-- the channel of column `d` in its third -/
abbrev col (t : Fin cfg0.N) (d : Fin 512) : Fin 2048 := ⟨t.val % 4 * 512 + d.val, by omega⟩
/-- and the row of values, over the tokens, of a channel. -/
abbrev line (e : Fin 6144) (t : Fin 16384) : EReal := argZ m c (ix3 0 t ⟨3072 + e.val, by omega⟩)

/-- What the point reads of the first third: its rows, the row before, the row after, the weights and the bias. -/
theorem read_first (t : Fin cfg0.N) (d : Fin 512) :
    (∀ r : Fin 256, iblk m c 0 t (ix3 0 r d) = line m c ⟨(col t d).val, by omega⟩ (row t r))
    ∧ iblk m c 1 t (ix3 0 7 d) = line m c ⟨(col t d).val, by omega⟩ ⟨(t.val / 4 * 32 - 1) * 8 + 7, by have := lt t; omega⟩
    ∧ iblk m c 2 t (ix3 0 0 d) = line m c ⟨(col t d).val, by omega⟩ ⟨min (t.val / 4 * 32 + 32) 2047 * 8, by omega⟩
    ∧ (∀ n : Fin 3, iblk m c 9 t (ix2 n d) = argW m c (ix3 0 n ⟨(col t d).val, by omega⟩)) ∧ iblk m c 12 t (ix2 0 d) = argB m c (ix2 0 ⟨(col t d).val, by omega⟩) := by
  refine ⟨fun r => ?_, ?_, ?_, fun n => ?_, ?_⟩
  all_goals blk_ext! [iblk, V, idx t]
/-- What the point reads of the second third: its rows, the row before, the row after, the weights and the bias. -/
theorem read_second (t : Fin cfg0.N) (d : Fin 512) :
    (∀ r : Fin 256, iblk m c 3 t (ix3 0 r d) = line m c ⟨2048 + (col t d).val, by omega⟩ (row t r))
    ∧ iblk m c 4 t (ix3 0 7 d) = line m c ⟨2048 + (col t d).val, by omega⟩ ⟨(t.val / 4 * 32 - 1) * 8 + 7, by have := lt t; omega⟩
    ∧ iblk m c 5 t (ix3 0 0 d) = line m c ⟨2048 + (col t d).val, by omega⟩ ⟨min (t.val / 4 * 32 + 32) 2047 * 8, by omega⟩
    ∧ (∀ n : Fin 3, iblk m c 10 t (ix2 n d) = argW m c (ix3 0 n ⟨2048 + (col t d).val, by omega⟩)) ∧ iblk m c 13 t (ix2 0 d) = argB m c (ix2 0 ⟨2048 + (col t d).val, by omega⟩) := by
  refine ⟨fun r => ?_, ?_, ?_, fun n => ?_, ?_⟩
  all_goals blk_ext! [iblk, V, idx t]
/-- What the point reads of the last third: its rows, the row before, the row after, the weights and the bias. -/
theorem read_last (t : Fin cfg0.N) (d : Fin 512) :
    (∀ r : Fin 256, iblk m c 6 t (ix3 0 r d) = line m c ⟨4096 + (col t d).val, by omega⟩ (row t r))
    ∧ iblk m c 7 t (ix3 0 7 d) = line m c ⟨4096 + (col t d).val, by omega⟩ ⟨(t.val / 4 * 32 - 1) * 8 + 7, by have := lt t; omega⟩
    ∧ iblk m c 8 t (ix3 0 0 d) = line m c ⟨4096 + (col t d).val, by omega⟩ ⟨min (t.val / 4 * 32 + 32) 2047 * 8, by omega⟩
    ∧ (∀ n : Fin 3, iblk m c 11 t (ix2 n d) = argW m c (ix3 0 n ⟨4096 + (col t d).val, by omega⟩)) ∧ iblk m c 14 t (ix2 0 d) = argB m c (ix2 0 ⟨4096 + (col t d).val, by omega⟩) := by
  refine ⟨fun r => ?_, ?_, ?_, fun n => ?_, ?_⟩
  all_goals blk_ext! [iblk, V, idx t]
/-- The bias of the long convolution. -/
theorem read_h (t : Fin cfg0.N) (d : Fin 512) : iblk m c 15 t (ix2 0 d) = argH m c (ix2 0 (col t d)) := by
  blk_ext! [iblk, V, idx t]

/-- What grid point `t` leaves in its three blocks. -/
theorem points (t : Fin cfg0.N) (x0 : Vec Ideal S1x256x512 .f32) (x1 x2 : Vec Ideal S1x8x512 .f32) (x3 : Vec Ideal S1x256x512 .f32)
    (x4 x5 : Vec Ideal S1x8x512 .f32) (x6 : Vec Ideal S1x256x512 .f32) (x7 x8 : Vec Ideal S1x8x512 .f32) (x9 x10 x11 : Vec Ideal S3x512 .f32)
    (x12 x13 x14 x15 : Vec Ideal S1x512 .f32)
    (e0 : x0 = iblk m c 0 t) (e1 : x1 = iblk m c 1 t) (e2 : x2 = iblk m c 2 t) (e3 : x3 = iblk m c 3 t) (e4 : x4 = iblk m c 4 t)
    (e5 : x5 = iblk m c 5 t) (e6 : x6 = iblk m c 6 t) (e7 : x7 = iblk m c 7 t) (e8 : x8 = iblk m c 8 t) (e9 : x9 = iblk m c 9 t)
    (e10 : x10 = iblk m c 10 t) (e11 : x11 = iblk m c 11 t) (e12 : x12 = iblk m c 12 t) (e13 : x13 = iblk m c 13 t)
    (e14 : x14 = iblk m c 14 t) (e15 : x15 = iblk m c 15 t) (r : Fin 256) (d : Fin 512) :
    out0_16 (F := Ideal) (grid0.coords t) x0 x1 x2 x3 x4 x5 x6 x7 x8 x9 x10 x11 x12 x13 x14 x15 (ix3 0 r d)
      = gated (argZ m c) (argW m c) (argB m c) (row t r) (col t d)
    ∧ out0_17 (F := Ideal) (grid0.coords t) x0 x1 x2 x3 x4 x5 x6 x7 x8 x9 x10 x11 x12 x13 x14 x15 (ix3 0 r d)
      = gate (argZ m c) (argW m c) (argB m c) (row t r) (col t d)
    ∧ out0_18 (F := Ideal) (grid0.coords t) x0 x1 x2 x3 x4 x5 x6 x7 x8 x9 x10 x11 x12 x13 x14 x15 (ix3 0 r d)
      = biased (argZ m c) (argW m c) (argB m c) (argH m c) (row t r) (col t d) := by
  have ht := lt t
  obtain ⟨c0, p0, n0, w0, b0⟩ := read_first m c t d
  obtain ⟨c1, p1, n1, w1, b1⟩ := read_second m c t d
  obtain ⟨c2, p2, n2, w2, b2⟩ := read_last m c t d
  have hh := read_h m c t d
  rw [← e0] at c0; rw [← e1] at p0; rw [← e2] at n0; rw [← e3] at c1; rw [← e4] at p1; rw [← e5] at n1
  rw [← e6] at c2; rw [← e7] at p2; rw [← e8] at n2; rw [← e9] at w0; rw [← e10] at w1; rw [← e11] at w2
  rw [← e12] at b0; rw [← e13] at b1; rw [← e14] at b2; rw [← e15] at hh
  have before (f : Fin 16384 → EReal) (h : t.val / 4 ≠ 0) :
      f ⟨(t.val / 4 * 32 - 1) * 8 + 7, by omega⟩ = f ⟨t.val / 4 * 256 - 1, by omega⟩ := congrArg f (Fin.ext (by dsimp only; omega))
  have after (f : Fin 16384 → EReal) (h : t.val / 4 ≠ 63) :
      f ⟨min (t.val / 4 * 32 + 32) 2047 * 8, by omega⟩ = f ⟨t.val / 4 * 256 + 256, by omega⟩ := congrArg f (Fin.ext (by dsimp only; omega))
  have g16 := out_product (grid0.coords t) x0 x1 x2 x3 x4 x5 x6 x7 x8 x9 x10 x11 x12 x13 x14 x15 ⟨t.val / 4, by omega⟩ (idx t).1 d
    _ _ c1 (fun h => p1.trans (before _ h)) (fun h => n1.trans (after _ h)) c2 (fun h => p2.trans (before _ h)) (fun h => n2.trans (after _ h)) r
  have g17 := first_at (grid0.coords t) x0 x1 x2 x3 x4 x5 x6 x7 x8 x9 x10 x11 x12 x13 x14 x15 ⟨t.val / 4, by omega⟩ (idx t).1 d
    _ c0 (fun h => p0.trans (before _ h)) (fun h => n0.trans (after _ h)) r
  rw [w1, w1, w1, w2, w2, w2, b1, b2] at g16
  rw [w0, w0, w0, b0] at g17
  refine ⟨g16, g17, ?_⟩
  rw [out_biased, g16, g17, hh]
  rfl

/-- Every entry of a result is in some grid point's block. -/
theorem covered (i : S1x16384x2048.Idx) : ∃ t : Fin cfg0.N, ∀ a : Fin 3,
    (![0, t.val / 4, t.val % 4] : Fin 3 → ℕ) a * (![1, 256, 512] : Fin 3 → ℕ) a ≤ (i a).val
    ∧ (i a).val < (![0, t.val / 4, t.val % 4] : Fin 3 → ℕ) a * (![1, 256, 512] : Fin 3 → ℕ) a + (![1, 256, 512] : Fin 3 → ℕ) a := by
  have h0 : (i 0).val < 1 := (i 0).isLt
  have h1 : (i 1).val < 16384 := (i 1).isLt
  have h2 : (i 2).val < 2048 := (i 2).isLt
  have hN : cfg0.N = 256 := N_0
  obtain ⟨t, ht⟩ : ∃ t : Fin cfg0.N, t.val = (i 1).val / 256 * 4 + (i 2).val / 512 := ⟨⟨_, by omega⟩, rfl⟩
  refine ⟨t, fun a => ?_⟩
  match a with
  | ⟨0, _⟩ => show 0 * 1 ≤ (i 0).val ∧ (i 0).val < 0 * 1 + 1; omega
  | ⟨1, _⟩ => show t.val / 4 * 256 ≤ (i 1).val ∧ (i 1).val < t.val / 4 * 256 + 256; omega
  | ⟨2, _⟩ => show t.val % 4 * 512 ≤ (i 2).val ∧ (i 2).val < t.val % 4 * 512 + 512; omega

/-- The three arrays after the run: what the long convolution reads, -/
theorem final_gated : (dats m 0 c).arrAt 16 cfg0.N = fun i => gated (argZ m c) (argW m c) (argB m c) (i 1) (i 2) := by
  refine (dats m 0 c).arrAt_eq_of_cover 16 _ (fun t hf => ?_) fun i => ?_
  · rw [Value.flushed16]
    have e : win0_16.index t = ![0, t.val / 4, t.val % 4] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (points m c t _ _ _ _ _ _ _ _ _ _ _ _ _ _ _ _ rfl rfl rfl rfl rfl rfl rfl rfl rfl rfl rfl rfl rfl rfl rfl rfl x d).1).trans ?_
    · rfl
    · refine congrArg₂ (gated (argZ m c) (argW m c) (argB m c)) (Fin.ext ?_) (Fin.ext ?_)
      · show t.val / 4 * 256 + x.val = win0_16.index t (1 : Fin 3) * 256 + 1 * x.val
        rw [e]; show _ = t.val / 4 * 256 + 1 * x.val; omega
      · show t.val % 4 * 512 + d.val = win0_16.index t (2 : Fin 3) * 512 + 1 * d.val
        rw [e]; show _ = t.val % 4 * 512 + 1 * d.val; omega
  · obtain ⟨t, ht⟩ := covered i
    refine ⟨t, flush0_16 t, ?_⟩
    show i ∈ ((View.whole main_v5_0).slice (win0_16.rect t)).set
    rw [View.set_slice_whole, Rect.mem_set_unit]
    have e : win0_16.index t = ![0, t.val / 4, t.val % 4] := by simp only [idx t]
    intro a
    show win0_16.index t a * _ ≤ _ ∧ _ < win0_16.index t a * _ + _
    rw [e]
    exact ht a
/-- its gate -/
theorem final_gate : (dats m 0 c).arrAt 17 cfg0.N = fun i => gate (argZ m c) (argW m c) (argB m c) (i 1) (i 2) := by
  refine (dats m 0 c).arrAt_eq_of_cover 17 _ (fun t hf => ?_) fun i => ?_
  · rw [Value.flushed17]
    have e : win0_17.index t = ![0, t.val / 4, t.val % 4] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (points m c t _ _ _ _ _ _ _ _ _ _ _ _ _ _ _ _ rfl rfl rfl rfl rfl rfl rfl rfl rfl rfl rfl rfl rfl rfl rfl rfl x d).2.1).trans ?_
    · rfl
    · refine congrArg₂ (gate (argZ m c) (argW m c) (argB m c)) (Fin.ext ?_) (Fin.ext ?_)
      · show t.val / 4 * 256 + x.val = win0_17.index t (1 : Fin 3) * 256 + 1 * x.val
        rw [e]; show _ = t.val / 4 * 256 + 1 * x.val; omega
      · show t.val % 4 * 512 + d.val = win0_17.index t (2 : Fin 3) * 512 + 1 * d.val
        rw [e]; show _ = t.val % 4 * 512 + 1 * d.val; omega
  · obtain ⟨t, ht⟩ := covered i
    refine ⟨t, flush0_17 t, ?_⟩
    show i ∈ ((View.whole main_v5_1).slice (win0_17.rect t)).set
    rw [View.set_slice_whole, Rect.mem_set_unit]
    have e : win0_17.index t = ![0, t.val / 4, t.val % 4] := by simp only [idx t]
    intro a
    show win0_17.index t a * _ ≤ _ ∧ _ < win0_17.index t a * _ + _
    rw [e]
    exact ht a
/-- and the gated bias term. -/
theorem final_biased : (dats m 0 c).arrAt 18 cfg0.N = fun i => biased (argZ m c) (argW m c) (argB m c) (argH m c) (i 1) (i 2) := by
  refine (dats m 0 c).arrAt_eq_of_cover 18 _ (fun t hf => ?_) fun i => ?_
  · rw [Value.flushed18]
    have e : win0_18.index t = ![0, t.val / 4, t.val % 4] := by simp only [idx t]
    funext y
    obtain ⟨z, x, d, rfl⟩ : ∃ z x d, y = ix3 z x d := ⟨y 0, y 1, y 2, eq_ix3 y⟩
    obtain rfl : z = 0 := Subsingleton.elim _ _
    refine (Eq.trans ?_ (points m c t _ _ _ _ _ _ _ _ _ _ _ _ _ _ _ _ rfl rfl rfl rfl rfl rfl rfl rfl rfl rfl rfl rfl rfl rfl rfl rfl x d).2.2).trans ?_
    · rfl
    · refine congrArg₂ (biased (argZ m c) (argW m c) (argB m c) (argH m c)) (Fin.ext ?_) (Fin.ext ?_)
      · show t.val / 4 * 256 + x.val = win0_18.index t (1 : Fin 3) * 256 + 1 * x.val
        rw [e]; show _ = t.val / 4 * 256 + 1 * x.val; omega
      · show t.val % 4 * 512 + d.val = win0_18.index t (2 : Fin 3) * 512 + 1 * d.val
        rw [e]; show _ = t.val % 4 * 512 + 1 * d.val; omega
  · obtain ⟨t, ht⟩ := covered i
    refine ⟨t, flush0_18 t, ?_⟩
    show i ∈ ((View.whole main_v5_2).slice (win0_18.rect t)).set
    rw [View.set_slice_whole, Rect.mem_set_unit]
    have e : win0_18.index t = ![0, t.val / 4, t.val % 4] := by simp only [idx t]
    intro a
    show win0_18.index t a * _ ≤ _ ∧ _ < win0_18.index t a * _ + _
    rw [e]
    exact ht a

end Cert.ConvIdeal.Hand
-- ==== Proof.ConvRef.lean ====
module

public import proofs.«01_k».proof.Proof.Gen.ConvRefIdeal.Run
public import proofs.«01_k».proof.Proof.Gen.ConvRefIdeal.Read
public import Idealize.ShloMosaic.Lib.KernelVsHost
public import proofs.«01_k».proof.Proof.Convolved

/-!
# What the reference leaves for the short convolution

It pads the sequence by a token of zeros at each end, as for the token shift.
-/

@[expose] public section

open Idealize.ShloMosaic Idealize.SL
namespace Cert.ConvRefIdeal.Hand
open Cert.ConvRefIdeal Cert.ConvRefIdeal.Read Cert.Neighbours Cert.Convolved

variable (Z : Vec Ideal ⟨3, ![1, 16384, 9216]⟩ .f32) (W : Vec Ideal ⟨3, ![1, 3, 6144]⟩ .f32) (B : Vec Ideal ⟨2, ![1, 6144]⟩ .f32)
  (H : Vec Ideal ⟨2, ![1, 2048]⟩ .f32)

/-- The slice that starts at the padding holds the tokens before, -/
theorem before_at (t : Fin 16384) (e : Fin 6144) :
    val_main_v4 (F := Ideal) Z (ix3 0 t e) = before (fun t => Z (ix3 0 t ⟨3072 + e.val, by omega⟩)) t := by
  unfold val_main_v4 val_main_v3 val_main_call0_v0 val_main_c val_main_v0 before
  pointwise
  split_ifs with h1 h2 h2
  · rfl
  · omega
  · omega
  · exact sitofp_zero (φ := .f32)
/-- the one after it the tokens themselves, -/
theorem same_at (t : Fin 16384) (e : Fin 6144) : val_main_v10 (F := Ideal) Z (ix3 0 t e) = Z (ix3 0 t ⟨3072 + e.val, by omega⟩) := by
  unfold val_main_v10 val_main_v3 val_main_call0_v0 val_main_c val_main_v0
  pointwise
/-- the one that ends with it the tokens after. -/
theorem after_at (t : Fin 16384) (e : Fin 6144) :
    val_main_v17 (F := Ideal) Z (ix3 0 t e) = after (fun t => Z (ix3 0 t ⟨3072 + e.val, by omega⟩)) t := by
  unfold val_main_v17 val_main_v3 val_main_call0_v0 val_main_c val_main_v0 after
  pointwise
  split_ifs with h1 h2 h2
  · exact congrArg Z (congrArg (fun q => ix3 0 q _) (Fin.ext (by dsimp only; omega)))
  · omega
  · omega
  · exact sitofp_zero (φ := .f32)

/-- The convolution, channel by channel. -/
theorem channel_at (t : Fin 16384) (e : Fin 6144) : val_main_v26 (F := Ideal) Z W B (ix3 0 t e) = channel Z W B e t := by
  rw [val_main_v26_apply, val_main_v23_apply, val_main_v16_apply, val_main_v9_apply, val_main_v15_apply, val_main_v22_apply, before_at,
    same_at, after_at]
  unfold val_main_v8 val_main_v7 val_main_v6 val_main_v5 val_main_v14 val_main_v13 val_main_v12 val_main_v11 val_main_v21 val_main_v20
    val_main_v19 val_main_v18 val_main_v25 val_main_v24 val_main_v2 val_main_v1 channel convolved
  pointwise

/-- Its three thirds: the gate, -/
theorem gate_at (t : Fin 16384) (d : Fin 2048) : val_main_v27 (F := Ideal) Z W B (ix3 0 t d) = gate Z W B t d := by
  unfold gate
  rw [← channel_at]
  unfold val_main_v27
  generalize val_main_v26 (F := Ideal) Z W B = y
  pointwise
/-- and the product of the other two. -/
theorem gated_at (t : Fin 16384) (d : Fin 2048) : val_main_v30 (F := Ideal) Z W B (ix3 0 t d) = gated Z W B t d := by
  unfold gated
  rw [← channel_at, ← channel_at, val_main_v30_apply]
  unfold val_main_v29 val_main_v28
  generalize val_main_v26 (F := Ideal) Z W B = y
  pointwise
/-- The gated bias term. -/
theorem biased_at (t : Fin 16384) (d : Fin 2048) : val_main_v36 (F := Ideal) Z W B H (ix3 0 t d) = biased Z W B H t d := by
  unfold biased
  rw [← gate_at, ← gated_at, val_main_v36_apply, val_main_v35_apply]
  unfold val_main_v31 val_main_v30 val_main_v34 val_main_v33 val_main_v32
  pointwise

end Cert.ConvRefIdeal.Hand
-- ==== Proof.GateupArray.lean ====
module

public import proofs.«01_k».proof.Proof.Gen.GateupIdeal.Value
public import Idealize.ShloMosaic.Lib.Pointwise
public import Idealize.ShloMosaic.Lib.Pipeline.ValueKit

/-!
# What the gate's first product leaves

Grid point `I` multiplies row tile `I` of the activations with all 480 columns of the weights.
-/

@[expose] public section

open Idealize.ShloMosaic Idealize.SL
namespace Cert.GateupIdeal.Hand
open Cert.GateupIdeal Cert.GateupIdeal.Gen
set_option maxRecDepth 65536

/-- One block of the product. -/
theorem out_at (x0 : Vec Ideal S1024x4096 .bf16) (x1 : Vec Ideal S4096x480 .bf16) (r : Fin 1024) (n : Fin 480) :
    out0_2 (F := Ideal) x0 x1 (ix2 r n) = ∑ k : Fin 4096, x0 (ix2 r k) * x1 (ix2 k n) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val, 0] ∧ win0_1.index t = ![0, 0] ∧ win0_2.index t = ![t.val, 0] :=
  (by decide +kernel : ∀ t : Fin grid0.N, _)

/-- The array's row of row `r` of grid point `t`'s tile. -/
abbrev row (t : Fin cfg0.N) (r : Fin 1024) : Fin 16384 := ⟨t.val * 1024 + r.val, by have := t.isLt; have h : cfg0.N = 16 := N_0; omega⟩

/-- The two arguments, as arrays. -/
abbrev argH : Vec Ideal ⟨3, ![1, 16384, 4096]⟩ .f32 := m ((c.tc : Thread nD τ).loc main_arg0)
abbrev argW : Vec Ideal ⟨3, ![1, 4096, 480]⟩ .f32 := m ((c.tc : Thread nD τ).loc main_arg1)

/-- The blocks the point reads, entry by entry: its rows of the activations -/
theorem read_h (t : Fin cfg0.N) (r : Fin 1024) (k : Fin 4096) : iblk m c 0 t (ix2 r k) = argH m c (ix3 0 (row t r) k) := by
  blk_ext! [iblk, V, idx t]
/-- and the weights. -/
theorem read_w (t : Fin cfg0.N) (k : Fin 4096) (n : Fin 480) : iblk m c 1 t (ix2 k n) = argW m c (ix3 0 k n) := by
  blk_ext! [iblk, V, idx t]

/-- The result at a row and a column. -/
noncomputable def result (t : Fin 16384) (n : Fin 480) : EReal := ∑ k : Fin 4096, argH m c (ix3 0 t k) * argW m c (ix3 0 k n)

/-- Every entry is in some grid point's block. -/
theorem cover (i : S16384x480.Idx) : ∃ t : Fin cfg0.N, (cfg0.win 2).flush t = true ∧ i ∈ ((cfg0.win 2).blk t).view.set := by
  have h0 : (i 0).val < 16384 := (i 0).isLt
  have h1 : (i 1).val < 480 := (i 1).isLt
  have hN : cfg0.N = 16 := N_0
  obtain ⟨t, ht⟩ : ∃ t : Fin cfg0.N, t.val = (i 0).val / 1024 := ⟨⟨_, by omega⟩, rfl⟩
  refine ⟨t, flush0_2 t, ?_⟩
  show i ∈ ((View.whole main_v4).slice (win0_2.rect t)).set
  rw [View.set_slice_whole, Rect.mem_set_unit]
  obtain ⟨-, -, e⟩ := idx t
  intro a
  show win0_2.index t a * _ ≤ _ ∧ _ < win0_2.index t a * _ + _
  rw [e]
  match a with
  | ⟨0, _⟩ => show t.val * 1024 ≤ (i 0).val ∧ (i 0).val < t.val * 1024 + 1024; omega
  | ⟨1, _⟩ => show 0 * 480 ≤ (i 1).val ∧ (i 1).val < 0 * 480 + 480; omega

/-- The array after the run. -/
theorem final : (dats m 0 c).arrAt 2 cfg0.N = fun i => result m c (i 0) (i 1) := by
  refine (dats m 0 c).arrAt_eq_of_cover 2 _ (fun t hf => ?_) cover
  rw [Value.flushed2]
  obtain ⟨-, -, e⟩ := idx t
  funext y
  obtain ⟨x, d, rfl⟩ : ∃ x d, y = ix2 x d := ⟨y 0, y 1, eq_ix2 y⟩
  refine (out_at _ _ x d).trans ?_
  simp only [read_h, read_w]
  refine (congrArg₂ (result m c) (Fin.ext ?_) (Fin.ext ?_) : result m c (row t x) d = _)
  · show t.val * 1024 + x.val = win0_2.index t (0 : Fin 2) * 1024 + 1 * x.val
    rw [e]; show _ = t.val * 1024 + 1 * x.val; omega
  · show d.val = win0_2.index t (1 : Fin 2) * 480 + 1 * d.val
    rw [e]; show _ = 0 * 480 + 1 * d.val; omega

end Cert.GateupIdeal.Hand
-- ==== Proof.GateupRef.lean ====
module

public import proofs.«01_k».proof.Proof.Gen.GateupRefIdeal.Run
public import proofs.«01_k».proof.Proof.Gen.GateupRefIdeal.Read
public import Idealize.ShloMosaic.Lib.Pointwise
public import Idealize.ShloMosaic.Lib.Pipeline.ValueKit

/-!
# What the reference leaves for the gate's first product
-/

@[expose] public section

open Idealize.ShloMosaic Idealize.SL
namespace Cert.GateupRefIdeal.Hand
open Cert.GateupRefIdeal Cert.GateupRefIdeal.Read

/-- The product of the activations and the weights, entry by entry. -/
theorem result_at (H : Vec Ideal ⟨3, ![1, 16384, 4096]⟩ .f32) (W : Vec Ideal ⟨3, ![1, 4096, 480]⟩ .f32) (t : Fin 16384) (n : Fin 480) :
    val_main_v2 (F := Ideal) H W (ix2 t n) = ∑ k : Fin 4096, H (ix3 0 t k) * W (ix3 0 k n) := by
  rw [val_main_v2_apply, val_main_v1_apply]
  refine Finset.sum_congr rfl fun k _ => ?_
  rw [val_main_v0_apply]
  refine congrArg₂ (· * ·) (congrArg H (funext fun x => Fin.ext ?_)) (congrArg W (funext fun x => Fin.ext ?_)) <;>
    (fin_cases x <;> dsimp <;> omega)

end Cert.GateupRefIdeal.Hand
-- ==== Proof.GateArray.lean ====
module

public import proofs.«01_k».proof.Proof.Gen.GateIdeal.Value
public import Idealize.ShloMosaic.Lib.Pointwise
public import Idealize.ShloMosaic.Lib.Pipeline.ValueKit

/-!
# What the gate's second product leaves

Grid point `16 J + I` multiplies the sigmoid of row tile `I` of the first product with column tile `J` of the weights.
-/

@[expose] public section

open Idealize.ShloMosaic Idealize.SL
namespace Cert.GateIdeal.Hand
open Cert.GateIdeal Cert.GateIdeal.Gen
set_option maxRecDepth 65536

/-- One block of the product. -/
theorem out_at (x0 : Vec Ideal S1024x480 .f32) (x1 : Vec Ideal S480x512 .bf16) (r : Fin 1024) (n : Fin 512) :
    out0_2 (F := Ideal) x0 x1 (ix2 r n) = ∑ k : Fin 480, Ideal.logistic (x0 (ix2 r k)) * x1 (ix2 k n) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- The array's row of row `r` of grid point `t`'s tile, -/
abbrev row (t : Fin cfg0.N) (r : Fin 1024) : Fin 16384 := ⟨t.val % 16 * 1024 + r.val, by omega⟩
/-- and its column of column `n` of the tile. -/
abbrev col (t : Fin cfg0.N) (n : Fin 512) : Fin 4096 := ⟨t.val / 16 * 512 + n.val, by have := t.isLt; have h : cfg0.N = 128 := N_0; omega⟩

/-- The two arguments, as arrays. -/
abbrev argT : Vec Ideal ⟨2, ![16384, 480]⟩ .f32 := m ((c.tc : Thread nD τ).loc main_arg0)
abbrev argW : Vec Ideal ⟨3, ![1, 480, 4096]⟩ .f32 := m ((c.tc : Thread nD τ).loc main_arg1)

/-- The blocks the point reads, entry by entry: its rows of the first product -/
theorem read_t (t : Fin cfg0.N) (r : Fin 1024) (k : Fin 480) : iblk m c 0 t (ix2 r k) = argT m c (ix2 (row t r) k) := by
  blk_ext! [iblk, V, idx t]
/-- and its columns of the weights. -/
theorem read_w (t : Fin cfg0.N) (k : Fin 480) (n : Fin 512) : iblk m c 1 t (ix2 k n) = argW m c (ix3 0 k (col t n)) := by
  blk_ext! [iblk, V, idx t]

/-- The result at a row and a column. -/
noncomputable def result (t : Fin 16384) (n : Fin 4096) : EReal :=
  ∑ k : Fin 480, Ideal.logistic (argT m c (ix2 t k)) * argW m c (ix3 0 k n)

/-- Every entry is in some grid point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : cfg0.N = 128 := N_0
  obtain ⟨t, ht⟩ : ∃ t : Fin cfg0.N, t.val = (i 1).val / 512 * 16 + (i 0).val / 1024 := ⟨⟨_, by omega⟩, rfl⟩
  refine ⟨t, flush0_2 t, ?_⟩
  show i ∈ ((View.whole main_v2).slice (win0_2.rect t)).set
  rw [View.set_slice_whole, Rect.mem_set_unit]
  obtain ⟨-, -, e⟩ := idx t
  intro a
  show win0_2.index t a * _ ≤ _ ∧ _ < win0_2.index t a * _ + _
  rw [e]
  match a with
  | ⟨0, _⟩ => show t.val % 16 * 1024 ≤ (i 0).val ∧ (i 0).val < t.val % 16 * 1024 + 1024; omega
  | ⟨1, _⟩ => show t.val / 16 * 512 ≤ (i 1).val ∧ (i 1).val < t.val / 16 * 512 + 512; omega

/-- The array after the run. -/
theorem final : (dats m 0 c).arrAt 2 cfg0.N = fun i => result m c (i 0) (i 1) := by
  refine (dats m 0 c).arrAt_eq_of_cover 2 _ (fun t hf => ?_) cover
  rw [Value.flushed2]
  obtain ⟨-, -, e⟩ := idx t
  funext y
  obtain ⟨x, d, rfl⟩ : ∃ x d, y = ix2 x d := ⟨y 0, y 1, eq_ix2 y⟩
  refine (out_at _ _ x d).trans ?_
  simp only [read_t, read_w]
  refine (congrArg₂ (result m c) (Fin.ext ?_) (Fin.ext ?_) : result m c (row t x) (col t d) = _)
  · show t.val % 16 * 1024 + x.val = win0_2.index t (0 : Fin 2) * 1024 + 1 * x.val
    rw [e]; show _ = t.val % 16 * 1024 + 1 * x.val; omega
  · show t.val / 16 * 512 + d.val = win0_2.index t (1 : Fin 2) * 512 + 1 * d.val
    rw [e]; show _ = t.val / 16 * 512 + 1 * d.val; omega

end Cert.GateIdeal.Hand
-- ==== Proof.GateRef.lean ====
module

public import proofs.«01_k».proof.Proof.Gen.GateRefIdeal.Run
public import proofs.«01_k».proof.Proof.Gen.GateRefIdeal.Read
public import Idealize.ShloMosaic.Lib.Pointwise
public import Idealize.ShloMosaic.Lib.Pipeline.ValueKit

/-!
# What the reference leaves for the gate's second product
-/

@[expose] public section

open Idealize.ShloMosaic Idealize.SL
namespace Cert.GateRefIdeal.Hand
open Cert.GateRefIdeal Cert.GateRefIdeal.Read

/-- The reference's sigmoid, entry by entry. -/
theorem sigmoid_at (T : Vec Ideal ⟨2, ![16384, 480]⟩ .f32) (i : S16384x480.Idx) : val_main_v5 (F := Ideal) T i = Ideal.logistic (T i) := by
  rw [val_main_v5_apply, val_main_v4_apply, val_main_v3_apply, val_main_v2_apply, val_main_v1_apply, val_main_v0_apply, val_main_cst_apply,
    val_main_cst_0_apply]
  pointwise
  rfl

/-- The product of the sigmoids and the weights, entry by entry. -/
theorem result_at (T : Vec Ideal ⟨2, ![16384, 480]⟩ .f32) (W : Vec Ideal ⟨3, ![1, 480, 4096]⟩ .f32) (t : Fin 16384) (n : Fin 4096) :
    val_main_v7 (F := Ideal) T W (ix2 t n) = ∑ k : Fin 480, Ideal.logistic (T (ix2 t k)) * W (ix3 0 k n) := by
  rw [val_main_v7_apply]
  refine Finset.sum_congr rfl fun k _ => ?_
  rw [sigmoid_at, val_main_v6_apply]
  refine congrArg₂ (· * ·) (congrArg (fun i => Ideal.logistic (T i)) (funext fun x => Fin.ext ?_)) (congrArg W (funext fun x => Fin.ext ?_)) <;>
    (fin_cases x <;> dsimp <;> omega)

end Cert.GateRefIdeal.Hand
-- ==== Proof.LoraArray.lean ====
module

public import proofs.«01_k».proof.Proof.Gen.LoraIdeal.Value
public import Idealize.ShloMosaic.Lib.Pointwise
public import Idealize.ShloMosaic.Lib.Pipeline.ValueKit

/-!
# What the decay's first product leaves

Grid point `I` multiplies row tile `I` of the activations with the weights of both directions, laid side by side.
-/

@[expose] public section

open Idealize.ShloMosaic Idealize.SL
namespace Cert.LoraIdeal.Hand
open Cert.LoraIdeal Cert.LoraIdeal.Gen
set_option maxRecDepth 65536

/-- One block of the product. -/
theorem out_at (x0 : Vec Ideal S1024x4096 .bf16) (x1 : Vec Ideal S4096x256 .bf16) (r : Fin 1024) (n : Fin 256) :
    out0_2 (F := Ideal) x0 x1 (ix2 r n) = ∑ k : Fin 4096, x0 (ix2 r k) * x1 (ix2 k n) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val, 0] ∧ win0_1.index t = ![0, 0] ∧ win0_2.index t = ![t.val, 0] :=
  (by decide +kernel : ∀ t : Fin grid0.N, _)

/-- The array's row of row `r` of grid point `t`'s tile. -/
abbrev row (t : Fin cfg0.N) (r : Fin 1024) : Fin 16384 := ⟨t.val * 1024 + r.val, by have := t.isLt; have h : cfg0.N = 16 := N_0; omega⟩

/-- The two arguments, as arrays. -/
abbrev argH : Vec Ideal ⟨3, ![1, 16384, 4096]⟩ .f32 := m ((c.tc : Thread nD τ).loc main_arg0)
abbrev argW : Vec Ideal ⟨4, ![1, 2, 4096, 128]⟩ .f32 := m ((c.tc : Thread nD τ).loc main_arg1)

/-- The direction a column belongs to, -/
abbrev dir (n : Fin 256) : Fin 2 := ⟨n.val / 128, by omega⟩
/-- and its place among the direction's columns. -/
abbrev rank (n : Fin 256) : Fin 128 := ⟨n.val % 128, by omega⟩

/-- The weights of both directions, side by side, as the host lays them. -/
theorem weights_at (k : Fin 4096) (n : Fin 256) : V m c main_v8 (ix2 k n) = argW m c (ix4 0 (dir n) k (rank n)) := by
  blk_simp [V]
  entry_read
  pointwise
  split <;> refine congrArg (argW m c) (funext fun x => Fin.ext ?_) <;> fin_cases x <;> dsimp <;> omega

/-- The blocks the point reads, entry by entry: its rows of the activations -/
theorem read_h (t : Fin cfg0.N) (r : Fin 1024) (k : Fin 4096) : iblk m c 0 t (ix2 r k) = argH m c (ix3 0 (row t r) k) := by
  blk_ext! [iblk, V, idx t]
/-- and all of the weights. -/
theorem read_w (t : Fin cfg0.N) (k : Fin 4096) (n : Fin 256) : iblk m c 1 t (ix2 k n) = argW m c (ix4 0 (dir n) k (rank n)) := by
  refine Eq.trans ?_ (weights_at m c k n)
  blk_ext [iblk, idx t]

/-- The result at a row and a column. -/
noncomputable def result (t : Fin 16384) (n : Fin 256) : EReal :=
  ∑ k : Fin 4096, argH m c (ix3 0 t k) * argW m c (ix4 0 (dir n) k (rank n))

/-- Every entry is in some grid point's block. -/
theorem cover (i : S16384x256.Idx) : ∃ t : Fin cfg0.N, (cfg0.win 2).flush t = true ∧ i ∈ ((cfg0.win 2).blk t).view.set := by
  have h0 : (i 0).val < 16384 := (i 0).isLt
  have h1 : (i 1).val < 256 := (i 1).isLt
  have hN : cfg0.N = 16 := N_0
  obtain ⟨t, ht⟩ : ∃ t : Fin cfg0.N, t.val = (i 0).val / 1024 := ⟨⟨_, by omega⟩, rfl⟩
  refine ⟨t, flush0_2 t, ?_⟩
  show i ∈ ((View.whole main_v9).slice (win0_2.rect t)).set
  rw [View.set_slice_whole, Rect.mem_set_unit]
  obtain ⟨-, -, e⟩ := idx t
  intro a
  show win0_2.index t a * _ ≤ _ ∧ _ < win0_2.index t a * _ + _
  rw [e]
  match a with
  | ⟨0, _⟩ => show t.val * 1024 ≤ (i 0).val ∧ (i 0).val < t.val * 1024 + 1024; omega
  | ⟨1, _⟩ => show 0 * 256 ≤ (i 1).val ∧ (i 1).val < 0 * 256 + 256; omega

/-- The array after the run. -/
theorem final : (dats m 0 c).arrAt 2 cfg0.N = fun i => result m c (i 0) (i 1) := by
  refine (dats m 0 c).arrAt_eq_of_cover 2 _ (fun t hf => ?_) cover
  rw [Value.flushed2]
  obtain ⟨-, -, e⟩ := idx t
  funext y
  obtain ⟨x, d, rfl⟩ : ∃ x d, y = ix2 x d := ⟨y 0, y 1, eq_ix2 y⟩
  refine (out_at _ _ x d).trans ?_
  simp only [read_h, read_w]
  refine (congrArg₂ (result m c) (Fin.ext ?_) (Fin.ext ?_) : result m c (row t x) d = _)
  · show t.val * 1024 + x.val = win0_2.index t (0 : Fin 2) * 1024 + 1 * x.val
    rw [e]; show _ = t.val * 1024 + 1 * x.val; omega
  · show d.val = win0_2.index t (1 : Fin 2) * 256 + 1 * d.val
    rw [e]; show _ = 0 * 256 + 1 * d.val; omega

end Cert.LoraIdeal.Hand
-- ==== Proof.LoraRef.lean ====
module

public import proofs.«01_k».proof.Proof.Gen.LoraRefIdeal.Run
public import proofs.«01_k».proof.Proof.Gen.LoraRefIdeal.Read
public import Idealize.ShloMosaic.Lib.Pointwise
public import Idealize.ShloMosaic.Lib.Pipeline.ValueKit

/-!
# What the reference leaves for the decay's first product
-/

@[expose] public section

open Idealize.ShloMosaic Idealize.SL
namespace Cert.LoraRefIdeal.Hand
open Cert.LoraRefIdeal Cert.LoraRefIdeal.Read

variable (H : Vec Ideal ⟨3, ![1, 16384, 4096]⟩ .f32) (W : Vec Ideal ⟨4, ![1, 2, 4096, 128]⟩ .f32)

/-- The product with the first direction's weights, entry by entry, -/
theorem first_at (t : Fin 16384) (n : Fin 128) :
    val_main_v3 (F := Ideal) H W (ix3 0 t n) = ∑ k : Fin 4096, H (ix3 0 t k) * W (ix4 0 0 k n) := by
  rw [val_main_v3_apply]
  refine Finset.sum_congr rfl fun k _ => ?_
  rw [val_main_v2_apply, val_main_v1_apply, val_main_v0_apply]
  refine congrArg₂ (· * ·) (congrArg H (funext fun x => Fin.ext ?_)) (congrArg W (funext fun x => Fin.ext ?_)) <;>
    (fin_cases x <;> dsimp <;> omega)

/-- and with the second's. -/
theorem second_at (t : Fin 16384) (n : Fin 128) :
    val_main_v7 (F := Ideal) H W (ix3 0 t n) = ∑ k : Fin 4096, H (ix3 0 t k) * W (ix4 0 1 k n) := by
  rw [val_main_v7_apply]
  refine Finset.sum_congr rfl fun k _ => ?_
  rw [val_main_v6_apply, val_main_v5_apply, val_main_v4_apply]
  refine congrArg₂ (· * ·) (congrArg H (funext fun x => Fin.ext ?_)) (congrArg W (funext fun x => Fin.ext ?_)) <;>
    (fin_cases x <;> dsimp <;> omega)

/-- The direction a column belongs to, -/
abbrev dir (n : Fin 256) : Fin 2 := ⟨n.val / 128, by omega⟩
/-- and its place among the direction's columns. -/
abbrev rank (n : Fin 256) : Fin 128 := ⟨n.val % 128, by omega⟩

/-- Both, side by side. -/
theorem result_at (t : Fin 16384) (n : Fin 256) :
    val_main_v9 (F := Ideal) H W (ix2 t n) = ∑ k : Fin 4096, H (ix3 0 t k) * W (ix4 0 (dir n) k (rank n)) := by
  have e : idx_main_v9 (ix2 t n) = ix3 0 t n := funext fun x => Fin.ext (by fin_cases x <;> dsimp <;> omega)
  rw [val_main_v9_apply, e, val_main_v8]
  rcases Nat.lt_or_ge n.val 128 with h | h
  · have e0 : dir n = 0 := Fin.ext (by show n.val / 128 = 0; omega)
    have e1 : (rank n).val = n.val := by show n.val % 128 = n.val; omega
    rw [e0, ← first_at]
    exact concatenate_pair_apply_left (t := S1x16384x256) 2 (val_main_v3 (F := Ideal) H W) (val_main_v7 (F := Ideal) H W)
      Gen.concatenates_S1x16384x128_S1x16384x128_S1x16384x256_d2 (ix3 0 t n) rfl (ix3 0 t (rank n)) (fun b => by
        match b with
        | ⟨0, _⟩ => rfl
        | ⟨1, _⟩ => rfl
        | ⟨2, _⟩ => exact e1)
  · have e0 : dir n = 1 := Fin.ext (by show n.val / 128 = 1; omega)
    rw [e0, ← second_at]
    refine concatenate_pair_apply_right (t := S1x16384x256) 2 (val_main_v3 (F := Ideal) H W) (val_main_v7 (F := Ideal) H W)
      Gen.concatenates_S1x16384x128_S1x16384x128_S1x16384x256_d2 (ix3 0 t n) rfl rfl (ix3 0 t (rank n)) (fun b h => ?_) ?_
    · match b, h with
      | ⟨0, _⟩, _ => rfl
      | ⟨1, _⟩, _ => rfl
      | ⟨2, _⟩, h => exact absurd rfl h
    · show n.val % 128 + 128 = n.val
      omega

end Cert.LoraRefIdeal.Hand
-- ==== Proof.Activations.lean ====
module

public import Idealize.ShloMosaic.Lib.Pointwise

/-!
# The functions the low-rank products apply
-/

@[expose] public section

open Idealize.ShloMosaic Idealize.SL
namespace Cert.Activations

/-- `log (1 + e ^ x)`, by the larger of `x` and zero. -/
noncomputable def softplus (x : EReal) : EReal := max x 0 + Ideal.log1p (Ideal.exp (-max x (-x)))

/-- The logarithm of a decay, with the printed half. -/
noncomputable def logDecay (z : EReal) : EReal := -Ideal.exp (-softplus (-z) - Ideal.ofBits FTy.f32 1056964608#32)

end Cert.Activations
-- ==== Proof.DecayArray.lean ====
module

public import proofs.«01_k».proof.Proof.Gen.DecayIdeal.Value
public import proofs.«01_k».proof.Proof.Activations
public import Idealize.ShloMosaic.Lib.Pointwise
public import Idealize.ShloMosaic.Lib.Pipeline.ValueKit

/-!
# What the decay's second product leaves

Grid point `16 J + I` multiplies the hyperbolic tangent of row tile `I` of the first product with column tile `J` of the weights, adds the bias of its columns
and takes the logarithm of the decay.
-/

@[expose] public section

open Idealize.ShloMosaic Idealize.SL
namespace Cert.DecayIdeal.Hand
open Cert.DecayIdeal Cert.DecayIdeal.Gen Cert.Activations
set_option maxRecDepth 65536

/-- One block of the result. -/
theorem out_at (x0 : Vec Ideal S1024x128 .f32) (x1 : Vec Ideal S128x512 .bf16) (x2 : Vec Ideal S1x512 .f32) (r : Fin 1024) (n : Fin 512) :
    out0_3 (F := Ideal) x0 x1 x2 (ix2 r n) = logDecay ((∑ k : Fin 128, Ideal.tanh (x0 (ix2 r k)) * x1 (ix2 k n)) + x2 (ix2 0 n)) := by
  frame_out
  unfold_payloads
  pointwise
  simp only [zero_sub, ne_eq, not_true_eq_false, if_false, logDecay, softplus]
  rfl

variable (m : (ℓ : Loc nD τ sig) → Buf (Elt Ideal) ℓ) (c : Dev nD)

/-- The blocks grid point `t` reads and writes. -/
theorem idx : ∀ t : Fin cfg0.N, win0_0.index t = ![t.val % 16, 0] ∧ win0_1.index t = ![0, t.val / 16]
    ∧ win0_2.index t = ![0, t.val / 16] ∧ win0_3.index t = ![t.val % 16, t.val / 16] :=
  (by decide +kernel : ∀ t : Fin grid0.N, _)

/-- The array's row of row `r` of grid point `t`'s tile, -/
abbrev row (t : Fin cfg0.N) (r : Fin 1024) : Fin 16384 := ⟨t.val % 16 * 1024 + r.val, by omega⟩
/-- and its column of column `n` of the tile. -/
abbrev col (t : Fin cfg0.N) (n : Fin 512) : Fin 4096 := ⟨t.val / 16 * 512 + n.val, by have := t.isLt; have h : cfg0.N = 128 := N_0; omega⟩

/-- The three arguments, as arrays. -/
abbrev argT : Vec Ideal ⟨2, ![16384, 128]⟩ .f32 := m ((c.tc : Thread nD τ).loc main_arg0)
abbrev argB : Vec Ideal ⟨2, ![1, 4096]⟩ .f32 := m ((c.tc : Thread nD τ).loc main_arg1)
abbrev argW : Vec Ideal ⟨3, ![1, 128, 4096]⟩ .f32 := m ((c.tc : Thread nD τ).loc main_arg2)

/-- The blocks the point reads, entry by entry: its rows of the first product, -/
theorem read_t (t : Fin cfg0.N) (r : Fin 1024) (k : Fin 128) : iblk m c 0 t (ix2 r k) = argT m c (ix2 (row t r) k) := by
  blk_ext! [iblk, V, idx t]
/-- its columns of the weights -/
theorem read_w (t : Fin cfg0.N) (k : Fin 128) (n : Fin 512) : iblk m c 1 t (ix2 k n) = argW m c (ix3 0 k (col t n)) := by
  blk_ext! [iblk, V, idx t]
/-- and the bias of its columns. -/
theorem read_b (t : Fin cfg0.N) (n : Fin 512) : iblk m c 2 t (ix2 0 n) = argB m c (ix2 0 (col t n)) := by
  blk_ext! [iblk, V, idx t]

/-- The result at a row and a column. -/
noncomputable def result (t : Fin 16384) (n : Fin 4096) : EReal :=
  logDecay ((∑ k : Fin 128, Ideal.tanh (argT m c (ix2 t k)) * argW m c (ix3 0 k n)) + argB m c (ix2 0 n))

/-- Every entry is in some grid point's block. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 128 := N_0
  obtain ⟨t, ht⟩ : ∃ t : Fin cfg0.N, t.val = (i 1).val / 512 * 16 + (i 0).val / 1024 := ⟨⟨_, by omega⟩, rfl⟩
  refine ⟨t, flush0_3 t, ?_⟩
  show i ∈ ((View.whole main_v4).slice (win0_3.rect t)).set
  rw [View.set_slice_whole, Rect.mem_set_unit]
  obtain ⟨-, -, -, e⟩ := idx t
  intro a
  show win0_3.index t a * _ ≤ _ ∧ _ < win0_3.index t a * _ + _
  rw [e]
  match a with
  | ⟨0, _⟩ => show t.val % 16 * 1024 ≤ (i 0).val ∧ (i 0).val < t.val % 16 * 1024 + 1024; omega
  | ⟨1, _⟩ => show t.val / 16 * 512 ≤ (i 1).val ∧ (i 1).val < t.val / 16 * 512 + 512; omega

/-- The array after the run. -/
theorem final : (dats m 0 c).arrAt 3 cfg0.N = fun i => result m c (i 0) (i 1) := by
  refine (dats m 0 c).arrAt_eq_of_cover 3 _ (fun t hf => ?_) cover
  rw [Value.flushed3]
  obtain ⟨-, -, -, e⟩ := idx t
  funext y
  obtain ⟨x, d, rfl⟩ : ∃ x d, y = ix2 x d := ⟨y 0, y 1, eq_ix2 y⟩
  refine (out_at _ _ _ x d).trans ?_
  simp only [read_t, read_w, read_b]
  refine (congrArg₂ (result m c) (Fin.ext ?_) (Fin.ext ?_) : result m c (row t x) (col t d) = _)
  · show t.val % 16 * 1024 + x.val = win0_3.index t (0 : Fin 2) * 1024 + 1 * x.val
    rw [e]; show _ = t.val % 16 * 1024 + 1 * x.val; omega
  · show t.val / 16 * 512 + d.val = win0_3.index t (1 : Fin 2) * 512 + 1 * d.val
    rw [e]; show _ = t.val / 16 * 512 + 1 * d.val; omega

end Cert.DecayIdeal.Hand
-- ==== Proof.DecayRef.lean ====
module

public import proofs.«01_k».proof.Proof.Gen.DecayRefIdeal.Run
public import proofs.«01_k».proof.Proof.Gen.DecayRefIdeal.Read
public import proofs.«01_k».proof.Proof.Activations
public import Idealize.ShloMosaic.Lib.Pointwise
public import Idealize.ShloMosaic.Lib.Pipeline.ValueKit

/-!
# What the reference leaves for the decay's second product
-/

@[expose] public section

open Idealize.ShloMosaic Idealize.SL
namespace Cert.DecayRefIdeal.Hand
open Cert.DecayRefIdeal Cert.DecayRefIdeal.Read Cert.Activations

variable (T : Vec Ideal ⟨2, ![16384, 128]⟩ .f32) (B : Vec Ideal ⟨2, ![1, 4096]⟩ .f32) (W : Vec Ideal ⟨3, ![1, 128, 4096]⟩ .f32)

/-- The product, entry by entry. -/
theorem product_at (t : Fin 16384) (n : Fin 4096) :
    val_main_v3 (F := Ideal) T W (ix2 t n) = ∑ k : Fin 128, Ideal.tanh (T (ix2 t k)) * W (ix3 0 k n) := by
  rw [val_main_v3_apply]
  refine Finset.sum_congr rfl fun k _ => ?_
  rw [val_main_v1_apply, val_main_v2_apply]
  refine congrArg₂ (· * ·) (congrArg (fun i => Ideal.tanh (T i)) (funext fun x => Fin.ext ?_)) (congrArg W (funext fun x => Fin.ext ?_)) <;>
    (fin_cases x <;> dsimp <;> omega)

/-- The bias, entry by entry. -/
theorem bias_at (t : Fin 16384) (n : Fin 4096) : val_main_v5 (F := Ideal) B (ix2 t n) = B (ix2 0 n) := by
  rw [val_main_v5_apply, val_main_v4_apply, val_main_v0_apply]
  refine congrArg B (funext fun x => Fin.ext ?_)
  fin_cases x <;> dsimp <;> omega

/-- The reference's softplus of the negated sum, entry by entry. -/
theorem softplus_at (i : S16384x4096.Idx) :
    val_main_v8 (F := Ideal) T B W i = softplus (-val_main_v6 (F := Ideal) T B W i) := by
  rw [val_main_v8_apply, val_main_call0_v11_apply, val_main_call0_v10_apply, val_main_call0_v9_apply, val_main_call0_v8_apply,
    val_main_call0_v7_apply, val_main_call0_v6_apply, val_main_call0_v5_apply, val_main_call0_v4_apply, val_main_call0_v3_apply,
    val_main_call0_v2_apply, val_main_call0_v1_apply, val_main_call0_v0_apply, val_main_v7_apply]
  simp only [val_main_call0_cst_apply]
  generalize val_main_v6 (F := Ideal) T B W i = z
  pointwise [softplus]
  exact if_neg (not_not_intro rfl)

/-- The logarithm of the decay, entry by entry. -/
theorem result_at (t : Fin 16384) (n : Fin 4096) :
    val_main_v13 (F := Ideal) T B W (ix2 t n)
      = logDecay ((∑ k : Fin 128, Ideal.tanh (T (ix2 t k)) * W (ix3 0 k n)) + B (ix2 0 n)) := by
  rw [val_main_v13_apply, val_main_v12_apply, val_main_v11_apply, val_main_v10_apply, val_main_v9_apply, softplus_at,
    val_main_v6_apply, val_main_cst_apply, product_at, bias_at, add_comm (∑ k : Fin 128, Ideal.tanh (T (ix2 t k)) * W (ix3 0 k n))]
  pointwise [logDecay]

end Cert.DecayRefIdeal.Hand
-- ==== Proof.RateArray.lean ====
module

public import proofs.«01_k».proof.Proof.Gen.RateIdeal.Value
public import Idealize.ShloMosaic.Lib.Pointwise
public import Idealize.ShloMosaic.Lib.Pipeline.ValueKit

/-!
# What the learning rate's second product leaves

Grid point `16 J + I` multiplies row tile `I` of the first product with column tile `J` of the weights, adds the bias of its columns
and takes the sigmoid.
-/

@[expose] public section

open Idealize.ShloMosaic Idealize.SL
namespace Cert.RateIdeal.Hand
open Cert.RateIdeal Cert.RateIdeal.Gen
set_option maxRecDepth 65536

/-- One block of the result. -/
theorem out_at (x0 : Vec Ideal S1024x128 .f32) (x1 : Vec Ideal S128x512 .bf16) (x2 : Vec Ideal S1x512 .f32) (r : Fin 1024) (n : Fin 512) :
    out0_3 (F := Ideal) x0 x1 x2 (ix2 r n) = Ideal.logistic ((∑ k : Fin 128, x0 (ix2 r k) * x1 (ix2 k n)) + x2 (ix2 0 n)) := by
  frame_out
  unfold_payloads
  pointwise

variable (m : (ℓ : Loc nD τ sig) → Buf (Elt Ideal) ℓ) (c : Dev nD)

/-- The blocks grid point `t` reads and writes. -/
theorem idx : ∀ t : Fin cfg0.N, win0_0.index t = ![t.val % 16, 0] ∧ win0_1.index t = ![0, t.val / 16]
    ∧ win0_2.index t = ![0, t.val / 16] ∧ win0_3.index t = ![t.val % 16, t.val / 16] :=
  (by decide +kernel : ∀ t : Fin grid0.N, _)

/-- The array's row of row `r` of grid point `t`'s tile, -/
abbrev row (t : Fin cfg0.N) (r : Fin 1024) : Fin 16384 := ⟨t.val % 16 * 1024 + r.val, by omega⟩
/-- and its column of column `n` of the tile. -/
abbrev col (t : Fin cfg0.N) (n : Fin 512) : Fin 4096 := ⟨t.val / 16 * 512 + n.val, by have := t.isLt; have h : cfg0.N = 128 := N_0; omega⟩

/-- The three arguments, as arrays. -/
abbrev argT : Vec Ideal ⟨2, ![16384, 128]⟩ .f32 := m ((c.tc : Thread nD τ).loc main_arg0)
abbrev argB : Vec Ideal ⟨2, ![1, 4096]⟩ .f32 := m ((c.tc : Thread nD τ).loc main_arg1)
abbrev argW : Vec Ideal ⟨3, ![1, 128, 4096]⟩ .f32 := m ((c.tc : Thread nD τ).loc main_arg2)

/-- The blocks the point reads, entry by entry: its rows of the first product, -/
theorem read_t (t : Fin cfg0.N) (r : Fin 1024) (k : Fin 128) : iblk m c 0 t (ix2 r k) = argT m c (ix2 (row t r) k) := by
  blk_ext! [iblk, V, idx t]
/-- its columns of the weights -/
theorem read_w (t : Fin cfg0.N) (k : Fin 128) (n : Fin 512) : iblk m c 1 t (ix2 k n) = argW m c (ix3 0 k (col t n)) := by
  blk_ext! [iblk, V, idx t]
/-- and the bias of its columns. -/
theorem read_b (t : Fin cfg0.N) (n : Fin 512) : iblk m c 2 t (ix2 0 n) = argB m c (ix2 0 (col t n)) := by
  blk_ext! [iblk, V, idx t]

/-- The result at a row and a column. -/
noncomputable def result (t : Fin 16384) (n : Fin 4096) : EReal :=
  Ideal.logistic ((∑ k : Fin 128, argT m c (ix2 t k) * argW m c (ix3 0 k n)) + argB m c (ix2 0 n))

/-- Every entry is in some grid point's block. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 128 := N_0
  obtain ⟨t, ht⟩ : ∃ t : Fin cfg0.N, t.val = (i 1).val / 512 * 16 + (i 0).val / 1024 := ⟨⟨_, by omega⟩, rfl⟩
  refine ⟨t, flush0_3 t, ?_⟩
  show i ∈ ((View.whole main_v4).slice (win0_3.rect t)).set
  rw [View.set_slice_whole, Rect.mem_set_unit]
  obtain ⟨-, -, -, e⟩ := idx t
  intro a
  show win0_3.index t a * _ ≤ _ ∧ _ < win0_3.index t a * _ + _
  rw [e]
  match a with
  | ⟨0, _⟩ => show t.val % 16 * 1024 ≤ (i 0).val ∧ (i 0).val < t.val % 16 * 1024 + 1024; omega
  | ⟨1, _⟩ => show t.val / 16 * 512 ≤ (i 1).val ∧ (i 1).val < t.val / 16 * 512 + 512; omega

/-- The array after the run. -/
theorem final : (dats m 0 c).arrAt 3 cfg0.N = fun i => result m c (i 0) (i 1) := by
  refine (dats m 0 c).arrAt_eq_of_cover 3 _ (fun t hf => ?_) cover
  rw [Value.flushed3]
  obtain ⟨-, -, -, e⟩ := idx t
  funext y
  obtain ⟨x, d, rfl⟩ : ∃ x d, y = ix2 x d := ⟨y 0, y 1, eq_ix2 y⟩
  refine (out_at _ _ _ x d).trans ?_
  simp only [read_t, read_w, read_b]
  refine (congrArg₂ (result m c) (Fin.ext ?_) (Fin.ext ?_) : result m c (row t x) (col t d) = _)
  · show t.val % 16 * 1024 + x.val = win0_3.index t (0 : Fin 2) * 1024 + 1 * x.val
    rw [e]; show _ = t.val % 16 * 1024 + 1 * x.val; omega
  · show t.val / 16 * 512 + d.val = win0_3.index t (1 : Fin 2) * 512 + 1 * d.val
    rw [e]; show _ = t.val / 16 * 512 + 1 * d.val; omega

end Cert.RateIdeal.Hand
-- ==== Proof.RateRef.lean ====
module

public import proofs.«01_k».proof.Proof.Gen.RateRefIdeal.Run
public import proofs.«01_k».proof.Proof.Gen.RateRefIdeal.Read
public import Idealize.ShloMosaic.Lib.Pointwise
public import Idealize.ShloMosaic.Lib.Pipeline.ValueKit

/-!
# What the reference leaves for the learning rate's second product
-/

@[expose] public section

open Idealize.ShloMosaic Idealize.SL
namespace Cert.RateRefIdeal.Hand
open Cert.RateRefIdeal Cert.RateRefIdeal.Read

variable (T : Vec Ideal ⟨2, ![16384, 128]⟩ .f32) (B : Vec Ideal ⟨2, ![1, 4096]⟩ .f32) (W : Vec Ideal ⟨3, ![1, 128, 4096]⟩ .f32)

/-- The product, entry by entry. -/
theorem product_at (t : Fin 16384) (n : Fin 4096) :
    val_main_v2 (F := Ideal) T W (ix2 t n) = ∑ k : Fin 128, T (ix2 t k) * W (ix3 0 k n) := by
  rw [val_main_v2_apply]
  refine Finset.sum_congr rfl fun k _ => ?_
  rw [val_main_v1_apply]
  refine congrArg₂ (· * ·) (congrArg T (funext fun x => Fin.ext ?_)) (congrArg W (funext fun x => Fin.ext ?_)) <;>
    (fin_cases x <;> dsimp <;> omega)

/-- The bias, entry by entry. -/
theorem bias_at (t : Fin 16384) (n : Fin 4096) : val_main_v4 (F := Ideal) B (ix2 t n) = B (ix2 0 n) := by
  rw [val_main_v4_apply, val_main_v3_apply, val_main_v0_apply]
  refine congrArg B (funext fun x => Fin.ext ?_)
  fin_cases x <;> dsimp <;> omega

/-- The sigmoid of the product plus the bias, entry by entry. -/
theorem result_at (t : Fin 16384) (n : Fin 4096) :
    val_main_v11 (F := Ideal) T B W (ix2 t n) = Ideal.logistic ((∑ k : Fin 128, T (ix2 t k) * W (ix3 0 k n)) + B (ix2 0 n)) := by
  rw [val_main_v11_apply, val_main_v10_apply, val_main_v9_apply, val_main_v8_apply, val_main_v7_apply, val_main_v6_apply,
    val_main_v5_apply, val_main_cst_apply, val_main_cst_0_apply, product_at, bias_at]
  rw [add_comm (∑ k : Fin 128, T (ix2 t k) * W (ix3 0 k n))]
  pointwise
  rfl

end Cert.RateRefIdeal.Hand
-- ==== Proof.lean ====
/- The claims, put together: the frames as generated, and one value claim per call, from `Array.lean` (what the expert mixer's
   array holds) and `RefValue.lean` (what its reference's holds), both equal to `Cert.Mixer.layer` of `Spec.lean`, and from the
   pair `…Array.lean` and `…Ref.lean` of each other call. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import proofs.«01_k».proof.Proof.RefValue
public import proofs.«01_k».proof.Proof.Gen.Norm.Frame
public import proofs.«01_k».proof.Proof.NormArray
public import proofs.«01_k».proof.Proof.NormRef
public import proofs.«01_k».proof.Proof.Gen.In.Frame
public import proofs.«01_k».proof.Proof.InArray
public import proofs.«01_k».proof.Proof.InRef
public import proofs.«01_k».proof.Proof.Gen.Rkv.Frame
public import proofs.«01_k».proof.Proof.RkvArray
public import proofs.«01_k».proof.Proof.RkvRef
public import proofs.«01_k».proof.Proof.Gen.Query.Frame
public import proofs.«01_k».proof.Proof.QueryArray
public import proofs.«01_k».proof.Proof.QueryRef
public import proofs.«01_k».proof.Proof.Gen.Odd.Frame
public import proofs.«01_k».proof.Proof.OddArray
public import proofs.«01_k».proof.Proof.OddRef
public import proofs.«01_k».proof.Proof.Gen.Even.Frame
public import proofs.«01_k».proof.Proof.EvenArray
public import proofs.«01_k».proof.Proof.EvenRef
public import proofs.«01_k».proof.Proof.Gen.Attn.Frame
public import proofs.«01_k».proof.Proof.AttnArray
public import proofs.«01_k».proof.Proof.AttnRef
public import proofs.«01_k».proof.Proof.AttnFinite
public import proofs.«01_k».proof.Proof.Gen.Mod.Frame
public import proofs.«01_k».proof.Proof.ModArray
public import proofs.«01_k».proof.Proof.ModRef
public import proofs.«01_k».proof.Proof.Gen.Turned.Frame
public import proofs.«01_k».proof.Proof.TurnedArray
public import proofs.«01_k».proof.Proof.TurnedRef
public import proofs.«01_k».proof.Proof.Gen.Shift.Frame
public import proofs.«01_k».proof.Proof.ShiftArray
public import proofs.«01_k».proof.Proof.ShiftRef
public import proofs.«01_k».proof.Proof.Gen.Conv.Frame
public import proofs.«01_k».proof.Proof.ConvArray
public import proofs.«01_k».proof.Proof.ConvRef
public import proofs.«01_k».proof.Proof.Gen.Gateup.Frame
public import proofs.«01_k».proof.Proof.GateupArray
public import proofs.«01_k».proof.Proof.GateupRef
public import proofs.«01_k».proof.Proof.Gen.Gate.Frame
public import proofs.«01_k».proof.Proof.GateArray
public import proofs.«01_k».proof.Proof.GateRef
public import proofs.«01_k».proof.Proof.Gen.Lora.Frame
public import proofs.«01_k».proof.Proof.LoraArray
public import proofs.«01_k».proof.Proof.LoraRef
public import proofs.«01_k».proof.Proof.Gen.Decay.Frame
public import proofs.«01_k».proof.Proof.DecayArray
public import proofs.«01_k».proof.Proof.DecayRef
public import proofs.«01_k».proof.Proof.Gen.Rate.Frame
public import proofs.«01_k».proof.Proof.RateArray
public import proofs.«01_k».proof.Proof.RateRef
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves no semaphore up and its arguments unchanged. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the extended reals the kernel leaves what the reference leaves. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v41_eq, ← Cert.KernelIdeal.Value.final6, Cert.KernelIdeal.Hand.final]
  simp only [hagree c]
  funext i
  obtain ⟨t, d, rfl⟩ : ∃ t d, i = ix2 t d := ⟨i 0, i 1, eq_ix2 i⟩
  exact Cert.ReferenceIdeal.Hand.result_at _ _ _ _ _ _ t d

/-- The reference of the last normalisation: no semaphore up, arguments unchanged. -/
theorem quiescent_NormRefIdeal : quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- On the extended reals, the last normalisation leaves what its reference leaves. -/
theorem algebraic_NormIdeal_NormRefIdeal : algebraic_NormIdeal_NormRefIdeal := by
  intro m ρ m' ρ' _ hagree
  refine ⟨_, Cert.NormIdeal.Value.run_blocks (F := Ideal) m ρ, ?_⟩
  refine (θ_run Cert.NormRefIdeal.defs _ _).mono (fun _ h c => ⟨?_, (h c).2⟩) (Cert.NormRefIdeal.Value.run (F := Ideal) m' ρ')
  rw [(h c).1, Cert.NormRefIdeal.Read.val_main_v16_eq, Cert.NormIdeal.Hand.final]
  simp only [hagree c]
  funext i
  obtain ⟨z, t, d, rfl⟩ : ∃ z t d, i = ix3 z t d := ⟨i 0, i 1, i 2, eq_ix3 i⟩
  obtain rfl : z = 0 := Subsingleton.elim _ _
  exact Cert.NormRefIdeal.Hand.result_at _ _ _ _ t d

/-- The reference of the even mixer's input projection: no semaphore up, arguments unchanged. -/
theorem quiescent_InRefIdeal : quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- On the extended reals, the even mixer's input projection leaves what its reference leaves. -/
theorem algebraic_InIdeal_InRefIdeal : algebraic_InIdeal_InRefIdeal := by
  intro m ρ m' ρ' _ hagree
  refine ⟨_, Cert.InIdeal.Value.run_blocks (F := Ideal) m ρ, ?_⟩
  refine (θ_run Cert.InRefIdeal.defs _ _).mono (fun _ h c => ⟨?_, (h c).2⟩) (Cert.InRefIdeal.Value.run (F := Ideal) m' ρ')
  rw [(h c).1, Cert.InRefIdeal.Read.val_main_v2_eq, Cert.InIdeal.Hand.final]
  simp only [hagree c]
  funext i
  obtain ⟨t, d, rfl⟩ : ∃ t d, i = ix2 t d := ⟨i 0, i 1, eq_ix2 i⟩
  exact Cert.InRefIdeal.Hand.result_at _ _ t d

/-- The reference of the projection of the recurrent mixer: no semaphore up, arguments unchanged. -/
theorem quiescent_RkvRefIdeal : quiescent_RkvRefIdeal := fun m ρ _ =>
  (θ_run Cert.RkvRefIdeal.defs _ _).mono (fun r h => ⟨fun c => (h c).2, sem_eq_zero_of_no_sems (by decide) r.2⟩)
    (Cert.RkvRefIdeal.Value.run (F := Ideal) m ρ)

/-- On the extended reals, the projection of the recurrent mixer leaves what its reference leaves. -/
theorem algebraic_RkvIdeal_RkvRefIdeal : algebraic_RkvIdeal_RkvRefIdeal := by
  intro m ρ m' ρ' _ hagree
  refine ⟨_, Cert.RkvIdeal.Value.run_blocks (F := Ideal) m ρ, ?_⟩
  refine (θ_run Cert.RkvRefIdeal.defs _ _).mono (fun _ h c => ⟨?_, (h c).2⟩) (Cert.RkvRefIdeal.Value.run (F := Ideal) m' ρ')
  rw [(h c).1, Cert.RkvRefIdeal.Read.val_main_v2_eq, Cert.RkvIdeal.Hand.final]
  simp only [hagree c]
  funext i
  obtain ⟨t, d, rfl⟩ : ∃ t d, i = ix2 t d := ⟨i 0, i 1, eq_ix2 i⟩
  exact Cert.RkvRefIdeal.Hand.result_at _ _ t d

/-- The reference of the experts' query product: no semaphore up, arguments unchanged. -/
theorem quiescent_QueryRefIdeal : quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

/-- On the extended reals, the experts' query product leaves what its reference leaves. -/
theorem algebraic_QueryIdeal_QueryRefIdeal : algebraic_QueryIdeal_QueryRefIdeal := by
  intro m ρ m' ρ' _ hagree
  refine ⟨_, Cert.QueryIdeal.Value.run_blocks (F := Ideal) m ρ, ?_⟩
  refine (θ_run Cert.QueryRefIdeal.defs _ _).mono (fun _ h c => ⟨?_, (h c).2⟩) (Cert.QueryRefIdeal.Value.run (F := Ideal) m' ρ')
  rw [(h c).1, Cert.QueryRefIdeal.Read.val_main_v4_eq, Cert.QueryIdeal.Hand.final]
  simp only [hagree c]
  funext i
  obtain ⟨t, d, rfl⟩ : ∃ t d, i = ix2 t d := ⟨i 0, i 1, eq_ix2 i⟩
  exact Cert.QueryRefIdeal.Hand.result_at _ _ t d

/-- The reference of the recurrent mixer's output projection: no semaphore up, arguments unchanged. -/
theorem quiescent_OddRefIdeal : quiescent_OddRefIdeal := fun m ρ _ =>
  (θ_run Cert.OddRefIdeal.defs _ _).mono (fun r h => ⟨fun c => (h c).2, sem_eq_zero_of_no_sems (by decide) r.2⟩)
    (Cert.OddRefIdeal.Value.run (F := Ideal) m ρ)

/-- On the extended reals, the recurrent mixer's output projection leaves what its reference leaves. -/
theorem algebraic_OddIdeal_OddRefIdeal : algebraic_OddIdeal_OddRefIdeal := by
  intro m ρ m' ρ' _ hagree
  refine ⟨_, Cert.OddIdeal.Value.run_blocks (F := Ideal) m ρ, ?_⟩
  refine (θ_run Cert.OddRefIdeal.defs _ _).mono (fun _ h c => ⟨?_, (h c).2⟩) (Cert.OddRefIdeal.Value.run (F := Ideal) m' ρ')
  rw [(h c).1, Cert.OddRefIdeal.Read.val_main_v6_eq, Cert.OddIdeal.Hand.final]
  simp only [hagree c]
  funext i
  obtain ⟨t, d, rfl⟩ : ∃ t d, i = ix2 t d := ⟨i 0, i 1, eq_ix2 i⟩
  exact Cert.OddRefIdeal.Hand.result_at _ _ _ _ t d

/-- The reference of the even mixer's output projection: no semaphore up, arguments unchanged. -/
theorem quiescent_EvenRefIdeal : quiescent_EvenRefIdeal := fun m ρ _ =>
  (θ_run Cert.EvenRefIdeal.defs _ _).mono (fun r h => ⟨fun c => (h c).2, sem_eq_zero_of_no_sems (by decide) r.2⟩)
    (Cert.EvenRefIdeal.Value.run (F := Ideal) m ρ)

/-- On the extended reals, the even mixer's output projection leaves what its reference leaves. -/
theorem algebraic_EvenIdeal_EvenRefIdeal : algebraic_EvenIdeal_EvenRefIdeal := by
  intro m ρ m' ρ' _ hagree
  refine ⟨_, Cert.EvenIdeal.Value.run_blocks (F := Ideal) m ρ, ?_⟩
  refine (θ_run Cert.EvenRefIdeal.defs _ _).mono (fun _ h c => ⟨?_, (h c).2⟩) (Cert.EvenRefIdeal.Value.run (F := Ideal) m' ρ')
  rw [(h c).1, Cert.EvenRefIdeal.Read.val_main_v7_eq, Cert.EvenIdeal.Hand.final]
  simp only [hagree c]
  funext i
  obtain ⟨t, d, rfl⟩ : ∃ t d, i = ix2 t d := ⟨i 0, i 1, eq_ix2 i⟩
  exact Cert.EvenRefIdeal.Hand.result_at _ _ _ _ _ t d

/-- The reference of the banded attention: no semaphore up, arguments unchanged. -/
theorem quiescent_AttnRefIdeal : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- On the extended reals, and of finite queries, keys and sinks, the banded attention leaves what its reference leaves. -/
theorem algebraic_AttnIdeal_AttnRefIdeal :
    algebraic_AttnIdeal_AttnRefIdeal_pre_attn_finite (hPre_attn_finite := Cert.Pre_attn_finite.Hand.facts) := by
  intro m ρ m' ρ' hpre hagree
  refine ⟨_, Cert.AttnIdeal.Value.run_blocks (F := Ideal) m ρ, ?_⟩
  refine (θ_run Cert.AttnRefIdeal.defs _ _).mono (fun _ h c => ⟨?_, (h c).2⟩) (Cert.AttnRefIdeal.Value.run (F := Ideal) m' ρ')
  rw [(h c).1, Cert.AttnRefIdeal.Read.val_main_v104_eq, Cert.AttnIdeal.Hand.final]
  simp only [hagree c]
  funext i
  obtain ⟨z, t, d, rfl⟩ : ∃ (z : Fin 1) (t : Fin 16384) (d : Fin 2048), i = ix3 z t d := ⟨i 0, i 1, i 2, eq_ix3 i⟩
  obtain rfl : z = 0 := Subsingleton.elim _ _
  obtain ⟨n, r, rfl⟩ : ∃ n r : Fin 128, t = Cert.Attn.pos n r := ⟨⟨t.val / 128, by omega⟩, ⟨t.val % 128, by omega⟩, Fin.ext (by dsimp only; omega)⟩
  obtain ⟨g, h, k, rfl⟩ : ∃ (g h : Fin 4) (k : Fin 128), d = ⟨(g.val * 4 + h.val) * 128 + k.val, by omega⟩ :=
    ⟨⟨d.val / 512, by omega⟩, ⟨d.val / 128 % 4, by omega⟩, ⟨d.val % 128, by omega⟩, Fin.ext (by dsimp only; omega)⟩
  refine (Cert.AttnRefIdeal.Hand.result_at _ _ (Cert.Pre_attn_finite.Hand.rows _ _ (hpre c).1) (Cert.Pre_attn_finite.Hand.sinks _ _ (hpre c).2)
    n r g h k).trans ?_
  exact (Cert.AttnIdeal.Hand.whole_at m c _ n r ⟨g.val * 4 + h.val, by omega⟩ k rfl rfl).symm

/-- The reference's normalisation before the recurrent mixer runs to an end and leaves its arguments as they are. -/
theorem quiescent_ModRefIdeal : quiescent_ModRefIdeal := fun m ρ _ =>
  (θ_run Cert.ModRefIdeal.defs _ _).mono (fun r h => ⟨fun c => (h c).2.2, sem_eq_zero_of_no_sems (by decide) r.2⟩)
    (Cert.ModRefIdeal.Value.run (F := Ideal) m ρ)

/-- Both results of the kernel's normalisation before the recurrent mixer and of the reference's agree entry by entry. -/
theorem algebraic_ModIdeal_ModRefIdeal : algebraic_ModIdeal_ModRefIdeal := by
  intro m ρ m' ρ' _ hagree
  refine ⟨_, _, Cert.ModIdeal.Value.run_blocks (F := Ideal) m ρ, ?_⟩
  refine (θ_run Cert.ModRefIdeal.defs _ _).mono (fun _ h c => ⟨?_, ?_, (h c).2.2⟩) (Cert.ModRefIdeal.Value.run (F := Ideal) m' ρ')
  · rw [(h c).1, Cert.ModRefIdeal.Read.val_main_v3_eq, Cert.ModIdeal.Hand.final_sum]
    simp only [hagree c]
    funext i
    obtain ⟨z, t, d, rfl⟩ : ∃ z t d, i = ix3 z t d := ⟨i 0, i 1, i 2, eq_ix3 i⟩
    obtain rfl : z = 0 := Subsingleton.elim _ _
    exact Cert.ModRefIdeal.Hand.added_at _ _ _ t d
  · rw [(h c).2.1, Cert.ModRefIdeal.Read.val_main_v26_eq, Cert.ModIdeal.Hand.final]
    simp only [hagree c]
    funext i
    obtain ⟨z, t, d, rfl⟩ : ∃ z t d, i = ix3 z t d := ⟨i 0, i 1, i 2, eq_ix3 i⟩
    obtain rfl : z = 0 := Subsingleton.elim _ _
    exact Cert.ModRefIdeal.Hand.result_at _ _ _ _ _ _ t d

/-- The reference's normalisation before the expert queries runs to an end and leaves its arguments as they are. -/
theorem quiescent_TurnedRefIdeal : quiescent_TurnedRefIdeal := fun m ρ _ =>
  (θ_run Cert.TurnedRefIdeal.defs _ _).mono (fun r h => ⟨fun c => (h c).2, sem_eq_zero_of_no_sems (by decide) r.2⟩)
    (Cert.TurnedRefIdeal.Value.run (F := Ideal) m ρ)

/-- The kernel's normalisation before the expert queries and the reference's agree entry by entry. -/
theorem algebraic_TurnedIdeal_TurnedRefIdeal : algebraic_TurnedIdeal_TurnedRefIdeal := by
  intro m ρ m' ρ' _ hagree
  refine ⟨_, Cert.TurnedIdeal.Value.run_blocks (F := Ideal) m ρ, ?_⟩
  refine (θ_run Cert.TurnedRefIdeal.defs _ _).mono (fun _ h c => ⟨?_, (h c).2⟩) (Cert.TurnedRefIdeal.Value.run (F := Ideal) m' ρ')
  rw [(h c).1, Cert.TurnedRefIdeal.Read.val_main_v25_eq, Cert.TurnedIdeal.Hand.final]
  simp only [hagree c]
  funext i
  obtain ⟨d, t, rfl⟩ : ∃ d t, i = ix2 d t := ⟨i 0, i 1, eq_ix2 i⟩
  exact Cert.TurnedRefIdeal.Hand.result_at _ _ _ _ d t

/-- The reference's token shift runs to an end and leaves its arguments as they are. -/
theorem quiescent_ShiftRefIdeal : quiescent_ShiftRefIdeal := fun m ρ _ =>
  (θ_run Cert.ShiftRefIdeal.defs _ _).mono (fun r h => ⟨fun c => (h c).2.2.2.2.2.2, sem_eq_zero_of_no_sems (by decide) r.2⟩)
    (Cert.ShiftRefIdeal.Value.run (F := Ideal) m ρ)

/-- The six results of the kernel's token shift and of the reference's agree entry by entry. -/
theorem algebraic_ShiftIdeal_ShiftRefIdeal : algebraic_ShiftIdeal_ShiftRefIdeal := by
  intro m ρ m' ρ' _ hagree
  refine ⟨_, _, _, _, _, _, Cert.ShiftIdeal.Value.run_blocks (F := Ideal) m ρ, ?_⟩
  refine (θ_run Cert.ShiftRefIdeal.defs _ _).mono (fun _ h c => ⟨?_, ?_, ?_, ?_, ?_, ?_, (h c).2.2.2.2.2.2⟩) (Cert.ShiftRefIdeal.Value.run (F := Ideal) m' ρ')
  · rw [(h c).1, Cert.ShiftRefIdeal.Read.val_main_v14_eq, Cert.ShiftIdeal.Hand.final0]
    simp only [hagree c]
    exact Cert.Neighbours.ext3 fun t d => (Cert.ShiftRefIdeal.Hand.result_at _ _ t d).1
  · rw [(h c).2.1, Cert.ShiftRefIdeal.Read.val_main_v22_eq, Cert.ShiftIdeal.Hand.final1]
    simp only [hagree c]
    exact Cert.Neighbours.ext3 fun t d => (Cert.ShiftRefIdeal.Hand.result_at _ _ t d).2.1
  · rw [(h c).2.2.1, Cert.ShiftRefIdeal.Read.val_main_v30_eq, Cert.ShiftIdeal.Hand.final2]
    simp only [hagree c]
    exact Cert.Neighbours.ext3 fun t d => (Cert.ShiftRefIdeal.Hand.result_at _ _ t d).2.2.1
  · rw [(h c).2.2.2.1, Cert.ShiftRefIdeal.Read.val_main_v38_eq, Cert.ShiftIdeal.Hand.final3]
    simp only [hagree c]
    exact Cert.Neighbours.ext3 fun t d => (Cert.ShiftRefIdeal.Hand.result_at _ _ t d).2.2.2.1
  · rw [(h c).2.2.2.2.1, Cert.ShiftRefIdeal.Read.val_main_v46_eq, Cert.ShiftIdeal.Hand.final4]
    simp only [hagree c]
    exact Cert.Neighbours.ext3 fun t d => (Cert.ShiftRefIdeal.Hand.result_at _ _ t d).2.2.2.2.1
  · rw [(h c).2.2.2.2.2.1, Cert.ShiftRefIdeal.Read.val_main_v54_eq, Cert.ShiftIdeal.Hand.final5]
    simp only [hagree c]
    exact Cert.Neighbours.ext3 fun t d => (Cert.ShiftRefIdeal.Hand.result_at _ _ t d).2.2.2.2.2

/-- The reference's first product of the gate runs to an end and leaves its arguments as they are. -/
theorem quiescent_GateupRefIdeal : quiescent_GateupRefIdeal := fun m ρ _ =>
  (θ_run Cert.GateupRefIdeal.defs _ _).mono (fun r h => ⟨fun c => (h c).2, sem_eq_zero_of_no_sems (by decide) r.2⟩)
    (Cert.GateupRefIdeal.Value.run (F := Ideal) m ρ)

/-- The kernel's first product of the gate and the reference's agree entry by entry. -/
theorem algebraic_GateupIdeal_GateupRefIdeal : algebraic_GateupIdeal_GateupRefIdeal := by
  intro m ρ m' ρ' _ hagree
  refine ⟨_, Cert.GateupIdeal.Value.run_blocks (F := Ideal) m ρ, ?_⟩
  refine (θ_run Cert.GateupRefIdeal.defs _ _).mono (fun _ h c => ⟨?_, (h c).2⟩) (Cert.GateupRefIdeal.Value.run (F := Ideal) m' ρ')
  rw [(h c).1, Cert.GateupRefIdeal.Read.val_main_v2_eq, Cert.GateupIdeal.Hand.final]
  simp only [hagree c]
  funext i
  obtain ⟨t, d, rfl⟩ : ∃ t d, i = ix2 t d := ⟨i 0, i 1, eq_ix2 i⟩
  exact Cert.GateupRefIdeal.Hand.result_at _ _ t d

/-- The reference's second product of the gate runs to an end and leaves its arguments as they are. -/
theorem quiescent_GateRefIdeal : quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The kernel's second product of the gate and the reference's agree entry by entry. -/
theorem algebraic_GateIdeal_GateRefIdeal : algebraic_GateIdeal_GateRefIdeal := by
  intro m ρ m' ρ' _ hagree
  refine ⟨_, Cert.GateIdeal.Value.run_blocks (F := Ideal) m ρ, ?_⟩
  refine (θ_run Cert.GateRefIdeal.defs _ _).mono (fun _ h c => ⟨?_, (h c).2⟩) (Cert.GateRefIdeal.Value.run (F := Ideal) m' ρ')
  rw [(h c).1, Cert.GateRefIdeal.Read.val_main_v7_eq, Cert.GateIdeal.Hand.final]
  simp only [hagree c]
  funext i
  obtain ⟨t, d, rfl⟩ : ∃ t d, i = ix2 t d := ⟨i 0, i 1, eq_ix2 i⟩
  exact Cert.GateRefIdeal.Hand.result_at _ _ t d

/-- The reference's first product of the decay runs to an end and leaves its arguments as they are. -/
theorem quiescent_LoraRefIdeal : quiescent_LoraRefIdeal := fun m ρ _ =>
  (θ_run Cert.LoraRefIdeal.defs _ _).mono (fun r h => ⟨fun c => (h c).2, sem_eq_zero_of_no_sems (by decide) r.2⟩)
    (Cert.LoraRefIdeal.Value.run (F := Ideal) m ρ)

/-- The kernel's first product of the decay and the reference's agree entry by entry. -/
theorem algebraic_LoraIdeal_LoraRefIdeal : algebraic_LoraIdeal_LoraRefIdeal := by
  intro m ρ m' ρ' _ hagree
  refine ⟨_, Cert.LoraIdeal.Value.run_blocks (F := Ideal) m ρ, ?_⟩
  refine (θ_run Cert.LoraRefIdeal.defs _ _).mono (fun _ h c => ⟨?_, (h c).2⟩) (Cert.LoraRefIdeal.Value.run (F := Ideal) m' ρ')
  rw [(h c).1, Cert.LoraRefIdeal.Read.val_main_v9_eq, Cert.LoraIdeal.Hand.final]
  simp only [hagree c]
  funext i
  obtain ⟨t, d, rfl⟩ : ∃ t d, i = ix2 t d := ⟨i 0, i 1, eq_ix2 i⟩
  exact Cert.LoraRefIdeal.Hand.result_at _ _ t d

/-- The reference's second product of the decay runs to an end and leaves its arguments as they are. -/
theorem quiescent_DecayRefIdeal : quiescent_DecayRefIdeal := fun m ρ _ =>
  (θ_run Cert.DecayRefIdeal.defs _ _).mono (fun r h => ⟨fun c => (h c).2, sem_eq_zero_of_no_sems (by decide) r.2⟩)
    (Cert.DecayRefIdeal.Value.run (F := Ideal) m ρ)

/-- The kernel's second product of the decay and the reference's agree entry by entry. -/
theorem algebraic_DecayIdeal_DecayRefIdeal : algebraic_DecayIdeal_DecayRefIdeal := by
  intro m ρ m' ρ' _ hagree
  refine ⟨_, Cert.DecayIdeal.Value.run_blocks (F := Ideal) m ρ, ?_⟩
  refine (θ_run Cert.DecayRefIdeal.defs _ _).mono (fun _ h c => ⟨?_, (h c).2⟩) (Cert.DecayRefIdeal.Value.run (F := Ideal) m' ρ')
  rw [(h c).1, Cert.DecayRefIdeal.Read.val_main_v13_eq, Cert.DecayIdeal.Hand.final]
  simp only [hagree c]
  funext i
  obtain ⟨t, d, rfl⟩ : ∃ t d, i = ix2 t d := ⟨i 0, i 1, eq_ix2 i⟩
  exact Cert.DecayRefIdeal.Hand.result_at _ _ _ t d

/-- The reference's second product of the learning rate runs to an end and leaves its arguments as they are. -/
theorem quiescent_RateRefIdeal : quiescent_RateRefIdeal := fun m ρ _ =>
  (θ_run Cert.RateRefIdeal.defs _ _).mono (fun r h => ⟨fun c => (h c).2, sem_eq_zero_of_no_sems (by decide) r.2⟩)
    (Cert.RateRefIdeal.Value.run (F := Ideal) m ρ)

/-- The kernel's second product of the learning rate and the reference's agree entry by entry. -/
theorem algebraic_RateIdeal_RateRefIdeal : algebraic_RateIdeal_RateRefIdeal := by
  intro m ρ m' ρ' _ hagree
  refine ⟨_, Cert.RateIdeal.Value.run_blocks (F := Ideal) m ρ, ?_⟩
  refine (θ_run Cert.RateRefIdeal.defs _ _).mono (fun _ h c => ⟨?_, (h c).2⟩) (Cert.RateRefIdeal.Value.run (F := Ideal) m' ρ')
  rw [(h c).1, Cert.RateRefIdeal.Read.val_main_v11_eq, Cert.RateIdeal.Hand.final]
  simp only [hagree c]
  funext i
  obtain ⟨t, d, rfl⟩ : ∃ t d, i = ix2 t d := ⟨i 0, i 1, eq_ix2 i⟩
  exact Cert.RateRefIdeal.Hand.result_at _ _ _ t d

/-- The reference's short convolution runs to an end and leaves its arguments as they are. -/
theorem quiescent_ConvRefIdeal : quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- The kernel's short convolution, its gate and the gated bias term are the reference's. -/
theorem algebraic_ConvIdeal_ConvRefIdeal : algebraic_ConvIdeal_ConvRefIdeal := by
  intro m ρ m' ρ' _ hagree
  refine ⟨_, _, _, Cert.ConvIdeal.Value.run_blocks (F := Ideal) m ρ, ?_⟩
  refine (θ_run Cert.ConvRefIdeal.defs _ _).mono (fun _ h c => ⟨?_, ?_, ?_, (h c).2.2.2⟩) (Cert.ConvRefIdeal.Value.run (F := Ideal) m' ρ')
  · rw [(h c).1, Cert.ConvRefIdeal.Read.val_main_v30_eq, Cert.ConvIdeal.Hand.final_gated]
    simp only [hagree c]
    exact Cert.Neighbours.ext3 fun t d => Cert.ConvRefIdeal.Hand.gated_at _ _ _ t d
  · rw [(h c).2.1, Cert.ConvRefIdeal.Read.val_main_v27_eq, Cert.ConvIdeal.Hand.final_gate]
    simp only [hagree c]
    exact Cert.Neighbours.ext3 fun t d => Cert.ConvRefIdeal.Hand.gate_at _ _ _ t d
  · rw [(h c).2.2.1, Cert.ConvRefIdeal.Read.val_main_v36_eq, Cert.ConvIdeal.Hand.final_biased]
    simp only [hagree c]
    exact Cert.Neighbours.ext3 fun t d => Cert.ConvRefIdeal.Hand.biased_at _ _ _ _ t d

/-- All claims. -/
theorem claim : Cert.Claim := ⟨Cert.Kernel.Gen.facts, Cert.KernelIdeal.Gen.facts, Cert.ReferenceIdeal.Gen.facts,
  Cert.Norm.Gen.facts, Cert.NormIdeal.Gen.facts, Cert.NormRefIdeal.Gen.facts,
  Cert.In.Gen.facts, Cert.InIdeal.Gen.facts, Cert.InRefIdeal.Gen.facts,
  Cert.Rkv.Gen.facts, Cert.RkvIdeal.Gen.facts, Cert.RkvRefIdeal.Gen.facts,
  Cert.Query.Gen.facts, Cert.QueryIdeal.Gen.facts, Cert.QueryRefIdeal.Gen.facts,
  Cert.Odd.Gen.facts, Cert.OddIdeal.Gen.facts, Cert.OddRefIdeal.Gen.facts,
  Cert.Even.Gen.facts, Cert.EvenIdeal.Gen.facts, Cert.EvenRefIdeal.Gen.facts,
  Cert.Attn.Gen.facts, Cert.AttnIdeal.Gen.facts, Cert.AttnRefIdeal.Gen.facts,
  Cert.Mod.Gen.facts, Cert.ModIdeal.Gen.facts, Cert.ModRefIdeal.Gen.facts,
  Cert.Turned.Gen.facts, Cert.TurnedIdeal.Gen.facts, Cert.TurnedRefIdeal.Gen.facts,
  Cert.Shift.Gen.facts, Cert.ShiftIdeal.Gen.facts, Cert.ShiftRefIdeal.Gen.facts,
  Cert.Gateup.Gen.facts, Cert.GateupIdeal.Gen.facts, Cert.GateupRefIdeal.Gen.facts,
  Cert.Gate.Gen.facts, Cert.GateIdeal.Gen.facts, Cert.GateRefIdeal.Gen.facts,
  Cert.Lora.Gen.facts, Cert.LoraIdeal.Gen.facts, Cert.LoraRefIdeal.Gen.facts,
  Cert.Decay.Gen.facts, Cert.DecayIdeal.Gen.facts, Cert.DecayRefIdeal.Gen.facts,
  Cert.Rate.Gen.facts, Cert.RateIdeal.Gen.facts, Cert.RateRefIdeal.Gen.facts,
  Cert.Conv.Gen.facts, Cert.ConvIdeal.Gen.facts, Cert.ConvRefIdeal.Gen.facts,
  Cert.Pre_attn_finite.Hand.facts,
  fun m ρ _ => Cert.Kernel.Gen.frame m ρ, fun m ρ _ => Cert.KernelIdeal.Gen.frame m ρ, quiescent_ReferenceIdeal,
  fun m ρ _ => Cert.Norm.Gen.frame m ρ, fun m ρ _ => Cert.NormIdeal.Gen.frame m ρ, quiescent_NormRefIdeal,
  fun m ρ _ => Cert.In.Gen.frame m ρ, fun m ρ _ => Cert.InIdeal.Gen.frame m ρ, quiescent_InRefIdeal,
  fun m ρ _ => Cert.Rkv.Gen.frame m ρ, fun m ρ _ => Cert.RkvIdeal.Gen.frame m ρ, quiescent_RkvRefIdeal,
  fun m ρ _ => Cert.Query.Gen.frame m ρ, fun m ρ _ => Cert.QueryIdeal.Gen.frame m ρ, quiescent_QueryRefIdeal,
  fun m ρ _ => Cert.Odd.Gen.frame m ρ, fun m ρ _ => Cert.OddIdeal.Gen.frame m ρ, quiescent_OddRefIdeal,
  fun m ρ _ => Cert.Even.Gen.frame m ρ, fun m ρ _ => Cert.EvenIdeal.Gen.frame m ρ, quiescent_EvenRefIdeal,
  fun m ρ _ => Cert.Attn.Gen.frame m ρ, fun m ρ _ => Cert.AttnIdeal.Gen.frame m ρ, fun m ρ _ => Cert.AttnIdeal.Gen.frame m ρ,
  quiescent_AttnRefIdeal, fun m ρ _ => quiescent_AttnRefIdeal m ρ trivial,
  fun m ρ _ => Cert.Mod.Gen.frame m ρ, fun m ρ _ => Cert.ModIdeal.Gen.frame m ρ, quiescent_ModRefIdeal,
  fun m ρ _ => Cert.Turned.Gen.frame m ρ, fun m ρ _ => Cert.TurnedIdeal.Gen.frame m ρ, quiescent_TurnedRefIdeal,
  fun m ρ _ => Cert.Shift.Gen.frame m ρ, fun m ρ _ => Cert.ShiftIdeal.Gen.frame m ρ, quiescent_ShiftRefIdeal,
  fun m ρ _ => Cert.Gateup.Gen.frame m ρ, fun m ρ _ => Cert.GateupIdeal.Gen.frame m ρ, quiescent_GateupRefIdeal,
  fun m ρ _ => Cert.Gate.Gen.frame m ρ, fun m ρ _ => Cert.GateIdeal.Gen.frame m ρ, quiescent_GateRefIdeal,
  fun m ρ _ => Cert.Lora.Gen.frame m ρ, fun m ρ _ => Cert.LoraIdeal.Gen.frame m ρ, quiescent_LoraRefIdeal,
  fun m ρ _ => Cert.Decay.Gen.frame m ρ, fun m ρ _ => Cert.DecayIdeal.Gen.frame m ρ, quiescent_DecayRefIdeal,
  fun m ρ _ => Cert.Rate.Gen.frame m ρ, fun m ρ _ => Cert.RateIdeal.Gen.frame m ρ, quiescent_RateRefIdeal,
  fun m ρ _ => Cert.Conv.Gen.frame m ρ, fun m ρ _ => Cert.ConvIdeal.Gen.frame m ρ, quiescent_ConvRefIdeal,
  (trivial : preserves_Kernel_KernelIdeal), algebraic_KernelIdeal_ReferenceIdeal,
  (trivial : preserves_Norm_NormIdeal), algebraic_NormIdeal_NormRefIdeal,
  (trivial : preserves_In_InIdeal), algebraic_InIdeal_InRefIdeal,
  (trivial : preserves_Rkv_RkvIdeal), algebraic_RkvIdeal_RkvRefIdeal,
  (trivial : preserves_Query_QueryIdeal), algebraic_QueryIdeal_QueryRefIdeal,
  (trivial : preserves_Odd_OddIdeal), algebraic_OddIdeal_OddRefIdeal,
  (trivial : preserves_Even_EvenIdeal), algebraic_EvenIdeal_EvenRefIdeal,
  (trivial : preserves_Attn_AttnIdeal), algebraic_AttnIdeal_AttnRefIdeal,
  (trivial : preserves_Mod_ModIdeal), algebraic_ModIdeal_ModRefIdeal,
  (trivial : preserves_Turned_TurnedIdeal), algebraic_TurnedIdeal_TurnedRefIdeal,
  (trivial : preserves_Shift_ShiftIdeal), algebraic_ShiftIdeal_ShiftRefIdeal,
  (trivial : preserves_Gateup_GateupIdeal), algebraic_GateupIdeal_GateupRefIdeal,
  (trivial : preserves_Gate_GateIdeal), algebraic_GateIdeal_GateRefIdeal,
  (trivial : preserves_Lora_LoraIdeal), algebraic_LoraIdeal_LoraRefIdeal,
  (trivial : preserves_Decay_DecayIdeal), algebraic_DecayIdeal_DecayRefIdeal,
  (trivial : preserves_Rate_RateIdeal), algebraic_RateIdeal_RateRefIdeal,
  (trivial : preserves_Conv_ConvIdeal), algebraic_ConvIdeal_ConvRefIdeal⟩

end Cert.Proof

end
